-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.named_const.Statement Cert.Kernel2Ideal.κ "mask" .f32 0xF149F2CA#32 ⊥

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v302) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v157) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S2x16384x1024 : Shape := ⟨3, ![2, 16384, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S_ : Shape := ⟨0, ![]⟩
abbrev S8x5632 : Shape := ⟨2, ![8, 5632]⟩
abbrev S1x5632 : Shape := ⟨2, ![1, 5632]⟩
abbrev S1x512x1024 : Shape := ⟨3, ![1, 512, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S8x256 : Shape := ⟨2, ![8, 256]⟩
abbrev S520x256 : Shape := ⟨2, ![520, 256]⟩
abbrev S1x256 : Shape := ⟨2, ![1, 256]⟩

abbrev nBuf : Space → Nat
  | .hbm => 14
  | .vmem => 11
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1x1024, .f32⟩
  | .hbm, ⟨7, _⟩ => ⟨S1024x5632, .bf16⟩
  | .hbm, ⟨8, _⟩ => ⟨S_, .i32⟩
  | .hbm, ⟨9, _⟩ => ⟨S_, .f32⟩
  | .hbm, ⟨10, _⟩ => ⟨S8x5632, .f32⟩
  | .hbm, ⟨11, _⟩ => ⟨S1x5632, .f32⟩
  | .hbm, ⟨12, _⟩ => ⟨S2816x1024, .bf16⟩
  | .hbm, ⟨13, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5632, .bf16⟩
  | .local _ .vmem, ⟨4, _⟩ => ⟨S8x5632, .f32⟩
  | .local _ .vmem, ⟨5, _⟩ => ⟨S1x5632, .f32⟩
  | .local _ .vmem, ⟨6, _⟩ => ⟨S2816x1024, .bf16⟩
  | .local _ .vmem, ⟨7, _⟩ => ⟨S1x512x1024, .f32⟩
  | .local _ .vmem, ⟨8, _⟩ => ⟨S1x512x1024, .f32⟩
  | .local _ .vmem, ⟨9, _⟩ => ⟨S512x2816, .bf16⟩
  | .local _ .vmem, ⟨10, _⟩ => ⟨S8x5632, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S2x16384x1024 : Shape := ⟨3, ![2, 16384, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5632 : Shape := ⟨3, ![2, 16384, 5632]⟩
abbrev S2x16386x5632 : Shape := ⟨3, ![2, 16386, 5632]⟩
abbrev S1x5632 : Shape := ⟨2, ![1, 5632]⟩
abbrev S1x1x5632 : Shape := ⟨3, ![1, 1, 5632]⟩
abbrev S2x16385x5632 : Shape := ⟨3, ![2, 16385, 5632]⟩
abbrev S2x16384x2816 : Shape := ⟨3, ![2, 16384, 2816]⟩

abbrev nBuf : Space → Nat
  | .hbm => 68
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S2x16384x1024, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x1024, .f32⟩
  | .hbm, ⟨18, _⟩ => ⟨S2x16384x1024, .f32⟩
  | .hbm, ⟨19, _⟩ => ⟨S1x1x1024, .f32⟩
  | .hbm, ⟨20, _⟩ => ⟨S2x16384x1024, .f32⟩
  | .hbm, ⟨21, _⟩ => ⟨S2x16384x1024, .f32⟩
  | .hbm, ⟨22, _⟩ => ⟨S2x16384x5632, .f32⟩
  | .hbm, ⟨23, _⟩ => ⟨S_, .i32⟩
  | .hbm, ⟨24, _⟩ => ⟨S_, .f32⟩
  | .hbm, ⟨25, _⟩ => ⟨S2x16386x5632, .f32⟩
  | .hbm, ⟨26, _⟩ => ⟨S2x16384x5632, .f32⟩
  | .hbm, ⟨27, _⟩ => ⟨S1x5632, .f32⟩
  | .hbm, ⟨28, _⟩ => ⟨S5632, .f32⟩
  | .hbm, ⟨29, _⟩ => ⟨S1x1x5632, .f32⟩
  | .hbm, ⟨30, _⟩ => ⟨S2x16384x5632, .f32⟩
  | .hbm, ⟨31, _⟩ => ⟨S2x16384x5632, .f32⟩
  | .hbm, ⟨32, _⟩ => ⟨S1x1x5632, .f32⟩
  | .hbm, ⟨33, _⟩ => ⟨S2x16384x5632, .f32⟩
  | .hbm, ⟨34, _⟩ => ⟨S2x16384x5632, .f32⟩
  | .hbm, ⟨35, _⟩ => ⟨S_, .i32⟩
  | .hbm, ⟨36, _⟩ => ⟨S_, .f32⟩
  | .hbm, ⟨37, _⟩ => ⟨S2x16385x5632, .f32⟩
  | .hbm, ⟨38, _⟩ => ⟨S2x16384x5632, .f32⟩
  | .hbm, ⟨39, _⟩ => ⟨S1x5632, .f32⟩
  | .hbm, ⟨40, _⟩ => ⟨S5632, .f32⟩
  | .hbm, ⟨41, _⟩ => ⟨S1x1x5632, .f32⟩
  | .hbm, ⟨42, _⟩ => ⟨S2x16384x5632, .f32⟩
  | .hbm, ⟨43, _⟩ => ⟨S2x16384x5632, .f32⟩
  | .hbm, ⟨44, _⟩ => ⟨S2x16384x5632, .f32⟩
  | .hbm, ⟨45, _⟩ => ⟨S_, .i32⟩
  | .hbm, ⟨46, _⟩ => ⟨S_, .f32⟩
  | .hbm, ⟨47, _⟩ => ⟨S2x16384x5632, .f32⟩
  | .hbm, ⟨48, _⟩ => ⟨S1x5632, .f32⟩
  | .hbm, ⟨49, _⟩ => ⟨S5632, .f32⟩
  | .hbm, ⟨50, _⟩ => ⟨S1x1x5632, .f32⟩
  | .hbm, ⟨51, _⟩ => ⟨S2x16384x5632, .f32⟩
  | .hbm, ⟨52, _⟩ => ⟨S2x16384x5632, .f32⟩
  | .hbm, ⟨53, _⟩ => ⟨S2x16384x5632, .f32⟩
  | .hbm, ⟨54, _⟩ => ⟨S2x16384x2816, .f32⟩
  | .hbm, ⟨55, _⟩ => ⟨S2x16384x2816, .f32⟩
  | .hbm, ⟨56, _⟩ => ⟨S2x16384x2816, .f32⟩
  | .hbm, ⟨57, _⟩ => ⟨S2x16384x2816, .f32⟩
  | .hbm, ⟨58, _⟩ => ⟨S_, .f32⟩
  | .hbm, ⟨59, _⟩ => ⟨S2x16384x2816, .f32⟩
  | .hbm, ⟨60, _⟩ => ⟨S2x16384x2816, .f32⟩
  | .hbm, ⟨61, _⟩ => ⟨S_, .f32⟩
  | .hbm, ⟨62, _⟩ => ⟨S2x16384x2816, .f32⟩
  | .hbm, ⟨63, _⟩ => ⟨S2x16384x2816, .f32⟩
  | .hbm, ⟨64, _⟩ => ⟨S2x16384x2816, .f32⟩
  | .hbm, ⟨65, _⟩ => ⟨S2x16384x2816, .f32⟩
  | .hbm, ⟨66, _⟩ => ⟨S2x16384x1024, .f32⟩
  | .hbm, ⟨67, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_2 : Ref sig .tc := ⟨.hbm, 35, rfl⟩
abbrev main_call1_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_3 : Ref sig .tc := ⟨.hbm, 45, rfl⟩
abbrev main_call2_v0 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_call3_v0 : Ref sig .tc := ⟨.hbm, 56, rfl⟩
abbrev main_call3_v1 : Ref sig .tc := ⟨.hbm, 57, rfl⟩
abbrev main_call3_cst : Ref sig .tc := ⟨.hbm, 58, rfl⟩
abbrev main_call3_v2 : Ref sig .tc := ⟨.hbm, 59, rfl⟩
abbrev main_call3_v3 : Ref sig .tc := ⟨.hbm, 60, rfl⟩
abbrev main_call3_cst_0 : Ref sig .tc := ⟨.hbm, 61, rfl⟩
abbrev main_call3_v4 : Ref sig .tc := ⟨.hbm, 62, rfl⟩
abbrev main_call3_v5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩

abbrev nD : Nat := 1
abbrev τ : Topo := Topo.v7x

variable {F : FTy → Type} [FloatOps F]
-- ==== Kernel2.lean ====
abbrev S2x8x16384x128 : Shape := ⟨4, ![2, 8, 16384, 128]⟩
abbrev S2x8x64x16384 : Shape := ⟨4, ![2, 8, 64, 16384]⟩
abbrev S_ : Shape := ⟨0, ![]⟩
abbrev S2x8x16x16384 : Shape := ⟨4, ![2, 8, 16, 16384]⟩
abbrev S2x8x80x16384 : Shape := ⟨4, ![2, 8, 80, 16384]⟩
abbrev S2x640x16384 : Shape := ⟨3, ![2, 640, 16384]⟩
abbrev S2x16384x512 : Shape := ⟨3, ![2, 16384, 512]⟩
abbrev S1x2x1024x128 : Shape := ⟨4, ![1, 2, 1024, 128]⟩
abbrev S1x2x16384x128 : Shape := ⟨4, ![1, 2, 16384, 128]⟩
abbrev S1x160x16384 : Shape := ⟨3, ![1, 160, 16384]⟩
abbrev S1x1024x128 : Shape := ⟨3, ![1, 1024, 128]⟩
abbrev S512x1024 : Shape := ⟨2, ![512, 1024]⟩
abbrev S1x1x1024x128 : Shape := ⟨4, ![1, 1, 1024, 128]⟩
abbrev S1024x128 : Shape := ⟨2, ![1024, 128]⟩
abbrev S1x1x512x128 : Shape := ⟨4, ![1, 1, 512, 128]⟩
abbrev S512x128 : Shape := ⟨2, ![512, 128]⟩
abbrev S1x1024 : Shape := ⟨2, ![1, 1024]⟩
abbrev S80x1024 : Shape := ⟨2, ![80, 1024]⟩
abbrev S1024 : Shape := ⟨1, ![1024]⟩
abbrev S1x80x512 : Shape := ⟨3, ![1, 80, 512]⟩
abbrev S80x512 : Shape := ⟨2, ![80, 512]⟩
abbrev S64x1024 : Shape := ⟨2, ![64, 1024]⟩
abbrev S128x1024 : Shape := ⟨2, ![128, 1024]⟩

abbrev nBuf : Space → Nat
  | .hbm => 8
  | .vmem => 10
  | .smem => 0
  | _ => 0

abbrev bufTy : (tb : Table) → Fin (tcTables nBuf tb) → BufTy
  | .hbm, ⟨0, _⟩ => ⟨S2x8x16384x128, .bf16⟩
  | .hbm, ⟨1, _⟩ => ⟨S2x8x16384x128, .bf16⟩
  | .hbm, ⟨2, _⟩ => ⟨S2x8x64x16384, .bf16⟩
  | .hbm, ⟨3, _⟩ => ⟨S_, .bf16⟩
  | .hbm, ⟨4, _⟩ => ⟨S2x8x16x16384, .bf16⟩
  | .hbm, ⟨5, _⟩ => ⟨S2x8x80x16384, .bf16⟩
  | .hbm, ⟨6, _⟩ => ⟨S2x640x16384, .bf16⟩
  | .hbm, ⟨7, _⟩ => ⟨S2x16384x512, .bf16⟩
  | .local _ .vmem, ⟨0, _⟩ => ⟨S1x2x1024x128, .bf16⟩
  | .local _ .vmem, ⟨1, _⟩ => ⟨S1x2x1024x128, .bf16⟩
  | .local _ .vmem, ⟨2, _⟩ => ⟨S1x2x16384x128, .bf16⟩
  | .local _ .vmem, ⟨3, _⟩ => ⟨S1x2x16384x128, .bf16⟩
  | .local _ .vmem, ⟨4, _⟩ => ⟨S1x160x16384, .bf16⟩
  | .local _ .vmem, ⟨5, _⟩ => ⟨S1x160x16384, .bf16⟩
  | .local _ .vmem, ⟨6, _⟩ => ⟨S1x1024x128, .bf16⟩
  | .local _ .vmem, ⟨7, _⟩ => ⟨S1x1024x128, .bf16⟩
  | .local _ .vmem, ⟨8, _⟩ => ⟨S512x1024, .f32⟩
  | .local _ .vmem, ⟨9, _⟩ => ⟨S512x1024, .f32⟩
  | _, _ => ⟨S2x8x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 16], ![false, false, false]⟩

def k0_mult1 : BitVec 32 :=
  let c0_i32 : BitVec 32 := 0#32
  c0_i32
@[reducible] def k0_t1_loop (i : grid0.Coords) : Scf.Loop 32 :=
  let c0_i32_11 : BitVec 32 := 0#32
  let arg2 : BitVec 32 := BitVec.ofNat 32 (i 2).val
  let v16 : BitVec 32 := Scalar.subi arg2 c0_i32_11
  let c1_i32 : BitVec 32 := 1#32
  let v18 : BitVec 32 := Scalar.divsi v16 c1_i32
  let v19 : BitVec 32 := Scalar.muli v18 c1_i32
  let v20 : BitVec 32 := Scalar.addi c0_i32_11 v19
  let c1_i32_12 : BitVec 32 := 1#32
  ⟨c0_i32_11, v20, c1_i32_12⟩
def k0_mult2 (i : grid0.Coords) (k0_t1 : Fin (k0_t1_loop i).trips) : BitVec 32 :=
  let c2_i32_81 : BitVec 32 := 2#32
  let c0_i32_11 : BitVec 32 := 0#32
  let c1_i32_12 : BitVec 32 := 1#32
  let arg9 : BitVec 32 := Scf.iv c0_i32_11 c1_i32_12 k0_t1
  let v170 : BitVec 32 := Scalar.muli c2_i32_81 arg9
  let c1_i32_82 : BitVec 32 := 1#32
  let v171 : BitVec 32 := Scalar.addi v170 c1_i32_82
  let c512_i32_83 : BitVec 32 := 512#32
  let v172 : BitVec 32 := Scalar.muli v171 c512_i32_83
  v172
def k0_off1 (i : grid0.Coords) (k0_t1 : Fin (k0_t1_loop i).trips) (c1_i32_82 : BitVec 32) : Fin 4 → Nat :=
  let c0_84 : Index := 0#32
  let c0_85 : Index := 0#32
  let c2_i32_81 : BitVec 32 := 2#32
  let c0_i32_11 : BitVec 32 := 0#32
  let c1_i32_12 : BitVec 32 := 1#32
  let arg9 : BitVec 32 := Scf.iv c0_i32_11 c1_i32_12 k0_t1
  let v170 : BitVec 32 := Scalar.muli c2_i32_81 arg9
  let v171 : BitVec 32 := Scalar.addi v170 c1_i32_82
  let c512_i32_83 : BitVec 32 := 512#32
  let v172 : BitVec 32 := Scalar.muli v171 c512_i32_83
  let v173 : BitVec 32 := v172
  let v174 : Index := Scalar.indexCast v173
  let c0_86 : Index := 0#32
  ![0, 0, v174.toNat, 0]
def k0_mult3 (i : grid0.Coords) (k0_t1 : Fin (k0_t1_loop i).trips) : BitVec 32 :=
  let c2_i32_93 : BitVec 32 := 2#32
  let c0_i32_11 : BitVec 32 := 0#32
  let c1_i32_12 : BitVec 32 := 1#32
  let arg9 : BitVec 32 := Scf.iv c0_i32_11 c1_i32_12 k0_t1
  let v184 : BitVec 32 := Scalar.muli c2_i32_93 arg9
  let c512_i32_94 : BitVec 32 := 512#32
  let v190 : BitVec 32 := Scalar.muli v184 c512_i32_94
  v190
def k0_off2 (i : grid0.Coords) (k0_t1 : Fin (k0_t1_loop i).trips) : Fin 3 → Nat :=
  let c0_95 : Index := 0#32
  let c0_96 : Index := 0#32
  let c2_i32_93 : BitVec 32 := 2#32
  let c0_i32_11 : BitVec 32 := 0#32
  let c1_i32_12 : BitVec 32 := 1#32
  let arg9 : BitVec 32 := Scf.iv c0_i32_11 c1_i32_12 k0_t1
  let v184 : BitVec 32 := Scalar.muli c2_i32_93 arg9
  let c512_i32_94 : BitVec 32 := 512#32
  let v190 : BitVec 32 := Scalar.muli v184 c512_i32_94
  let v191 : BitVec 32 := v190
  let v192 : Index := Scalar.indexCast v191
  ![0, 0, v192.toNat]
def k0_mult4 (i : grid0.Coords) (k0_t1 : Fin (k0_t1_loop i).trips) : BitVec 32 :=
  let c2_i32_98 : BitVec 32 := 2#32
  let c0_i32_11 : BitVec 32 := 0#32
  let c1_i32_12 : BitVec 32 := 1#32
  let arg9 : BitVec 32 := Scf.iv c0_i32_11 c1_i32_12 k0_t1
  let v201 : BitVec 32 := Scalar.muli c2_i32_98 arg9
  let c2_i32_99 : BitVec 32 := 2#32
  let v202 : BitVec 32 := Scalar.addi v201 c2_i32_99
  let c512_i32_100 : BitVec 32 := 512#32
  let v203 : BitVec 32 := Scalar.muli v202 c512_i32_100
  v203
def k0_mult5 (i : grid0.Coords) (k0_t1 : Fin (k0_t1_loop i).trips) : BitVec 32 :=
  let c2_i32_110 : BitVec 32 := 2#32
  let c0_i32_11 : BitVec 32 := 0#32
  let c1_i32_12 : BitVec 32 := 1#32
  let arg9 : BitVec 32 := Scf.iv c0_i32_11 c1_i32_12 k0_t1
  let v215 : BitVec 32 := Scalar.muli c2_i32_110 arg9
  let c1_i32_111 : BitVec 32 := 1#32
  let v216 : BitVec 32 := Scalar.addi v215 c1_i32_111
  let c512_i32_112 : BitVec 32 := 512#32
  let v222 : BitVec 32 := Scalar.muli v216 c512_i32_112
  v222
def k0_off3 (i : grid0.Coords) (k0_t1 : Fin (k0_t1_loop i).trips) : Fin 3 → Nat :=
  let c0_113 : Index := 0#32
  let c0_114 : Index := 0#32
  let c2_i32_110 : BitVec 32 := 2#32
  let c0_i32_11 : BitVec 32 := 0#32
  let c1_i32_12 : BitVec 32 := 1#32
  let arg9 : BitVec 32 := Scf.iv c0_i32_11 c1_i32_12 k0_t1
  let v215 : BitVec 32 := Scalar.muli c2_i32_110 arg9
  let c1_i32_111 : BitVec 32 := 1#32
  let v216 : BitVec 32 := Scalar.addi v215 c1_i32_111
  let c512_i32_112 : BitVec 32 := 512#32
  let v222 : BitVec 32 := Scalar.muli v216 c512_i32_112
  let v223 : BitVec 32 := v222
  let v224 : Index := Scalar.indexCast v223
  ![0, 0, v224.toNat]
@[reducible] def k0_t2_loop (i : grid0.Coords) : Scf.Loop 32 :=
  let c0_i32_11 : BitVec 32 := 0#32
  let arg2 : BitVec 32 := BitVec.ofNat 32 (i 2).val
  let v16 : BitVec 32 := Scalar.subi arg2 c0_i32_11
  let c1_i32 : BitVec 32 := 1#32
  let v18 : BitVec 32 := Scalar.divsi v16 c1_i32
  let v19 : BitVec 32 := Scalar.muli v18 c1_i32
  let v20 : BitVec 32 := Scalar.addi c0_i32_11 v19
  let v17 : BitVec 32 := Scalar.addi c0_i32_11 v16
  let c1_i32_13 : BitVec 32 := 1#32
  ⟨v20, v17, c1_i32_13⟩
def k0_mult6 (i : grid0.Coords) (k0_t2 : Fin (k0_t2_loop i).trips) : BitVec 32 :=
  let c2_i32_81 : BitVec 32 := 2#32
  let c0_i32_11 : BitVec 32 := 0#32
  let arg2 : BitVec 32 := BitVec.ofNat 32 (i 2).val
  let v16 : BitVec 32 := Scalar.subi arg2 c0_i32_11
  let c1_i32 : BitVec 32 := 1#32
  let v18 : BitVec 32 := Scalar.divsi v16 c1_i32
  let v19 : BitVec 32 := Scalar.muli v18 c1_i32
  let v20 : BitVec 32 := Scalar.addi c0_i32_11 v19
  let c1_i32_13 : BitVec 32 := 1#32
  let arg9 : BitVec 32 := Scf.iv v20 c1_i32_13 k0_t2
  let v170 : BitVec 32 := Scalar.muli c2_i32_81 arg9
  let c1_i32_82 : BitVec 32 := 1#32
  let v171 : BitVec 32 := Scalar.addi v170 c1_i32_82
  let c512_i32_83 : BitVec 32 := 512#32
  let v172 : BitVec 32 := Scalar.muli v171 c512_i32_83
  v172
def k0_off4 (i : grid0.Coords) (k0_t2 : Fin (k0_t2_loop i).trips) (c1_i32_82 : BitVec 32) : Fin 4 → Nat :=
  let c0_84 : Index := 0#32
  let c0_85 : Index := 0#32
  let c2_i32_81 : BitVec 32 := 2#32
  let c0_i32_11 : BitVec 32 := 0#32
  let arg2 : BitVec 32 := BitVec.ofNat 32 (i 2).val
  let v16 : BitVec 32 := Scalar.subi arg2 c0_i32_11
  let c1_i32 : BitVec 32 := 1#32
  let v18 : BitVec 32 := Scalar.divsi v16 c1_i32
  let v19 : BitVec 32 := Scalar.muli v18 c1_i32
  let v20 : BitVec 32 := Scalar.addi c0_i32_11 v19
  let c1_i32_13 : BitVec 32 := 1#32
  let arg9 : BitVec 32 := Scf.iv v20 c1_i32_13 k0_t2
  let v170 : BitVec 32 := Scalar.muli c2_i32_81 arg9
  let v171 : BitVec 32 := Scalar.addi v170 c1_i32_82
  let c512_i32_83 : BitVec 32 := 512#32
  let v172 : BitVec 32 := Scalar.muli v171 c512_i32_83
  let v173 : BitVec 32 := v172
  let v174 : Index := Scalar.indexCast v173
  let c0_86 : Index := 0#32
  ![0, 0, v174.toNat, 0]
def k0_mult7 (i : grid0.Coords) (k0_t2 : Fin (k0_t2_loop i).trips) : BitVec 32 :=
  let c2_i32_93 : BitVec 32 := 2#32
  let c0_i32_11 : BitVec 32 := 0#32
  let arg2 : BitVec 32 := BitVec.ofNat 32 (i 2).val
  let v16 : BitVec 32 := Scalar.subi arg2 c0_i32_11
  let c1_i32 : BitVec 32 := 1#32
  let v18 : BitVec 32 := Scalar.divsi v16 c1_i32
  let v19 : BitVec 32 := Scalar.muli v18 c1_i32
  let v20 : BitVec 32 := Scalar.addi c0_i32_11 v19
  let c1_i32_13 : BitVec 32 := 1#32
  let arg9 : BitVec 32 := Scf.iv v20 c1_i32_13 k0_t2
  let v184 : BitVec 32 := Scalar.muli c2_i32_93 arg9
  let c512_i32_94 : BitVec 32 := 512#32
  let v190 : BitVec 32 := Scalar.muli v184 c512_i32_94
  v190
def k0_off5 (i : grid0.Coords) (k0_t2 : Fin (k0_t2_loop i).trips) : Fin 3 → Nat :=
  let c0_95 : Index := 0#32
  let c0_96 : Index := 0#32
  let c2_i32_93 : BitVec 32 := 2#32
  let c0_i32_11 : BitVec 32 := 0#32
  let arg2 : BitVec 32 := BitVec.ofNat 32 (i 2).val
  let v16 : BitVec 32 := Scalar.subi arg2 c0_i32_11
  let c1_i32 : BitVec 32 := 1#32
  let v18 : BitVec 32 := Scalar.divsi v16 c1_i32
  let v19 : BitVec 32 := Scalar.muli v18 c1_i32
  let v20 : BitVec 32 := Scalar.addi c0_i32_11 v19
  let c1_i32_13 : BitVec 32 := 1#32
  let arg9 : BitVec 32 := Scf.iv v20 c1_i32_13 k0_t2
  let v184 : BitVec 32 := Scalar.muli c2_i32_93 arg9
  let c512_i32_94 : BitVec 32 := 512#32
  let v190 : BitVec 32 := Scalar.muli v184 c512_i32_94
  let v191 : BitVec 32 := v190
  let v192 : Index := Scalar.indexCast v191
  ![0, 0, v192.toNat]
def k0_mult8 (i : grid0.Coords) (k0_t2 : Fin (k0_t2_loop i).trips) : BitVec 32 :=
  let c2_i32_98 : BitVec 32 := 2#32
  let c0_i32_11 : BitVec 32 := 0#32
  let arg2 : BitVec 32 := BitVec.ofNat 32 (i 2).val
  let v16 : BitVec 32 := Scalar.subi arg2 c0_i32_11
  let c1_i32 : BitVec 32 := 1#32
  let v18 : BitVec 32 := Scalar.divsi v16 c1_i32
  let v19 : BitVec 32 := Scalar.muli v18 c1_i32
  let v20 : BitVec 32 := Scalar.addi c0_i32_11 v19
  let c1_i32_13 : BitVec 32 := 1#32
  let arg9 : BitVec 32 := Scf.iv v20 c1_i32_13 k0_t2
  let v201 : BitVec 32 := Scalar.muli c2_i32_98 arg9
  let c2_i32_99 : BitVec 32 := 2#32
  let v202 : BitVec 32 := Scalar.addi v201 c2_i32_99
  let c512_i32_100 : BitVec 32 := 512#32
  let v203 : BitVec 32 := Scalar.muli v202 c512_i32_100
  v203
def k0_mult9 (i : grid0.Coords) (k0_t2 : Fin (k0_t2_loop i).trips) : BitVec 32 :=
  let c2_i32_110 : BitVec 32 := 2#32
  let c0_i32_11 : BitVec 32 := 0#32
  let arg2 : BitVec 32 := BitVec.ofNat 32 (i 2).val
  let v16 : BitVec 32 := Scalar.subi arg2 c0_i32_11
  let c1_i32 : BitVec 32 := 1#32
  let v18 : BitVec 32 := Scalar.divsi v16 c1_i32
  let v19 : BitVec 32 := Scalar.muli v18 c1_i32
  let v20 : BitVec 32 := Scalar.addi c0_i32_11 v19
  let c1_i32_13 : BitVec 32 := 1#32
  let arg9 : BitVec 32 := Scf.iv v20 c1_i32_13 k0_t2
  let v215 : BitVec 32 := Scalar.muli c2_i32_110 arg9
  let c1_i32_111 : BitVec 32 := 1#32
  let v216 : BitVec 32 := Scalar.addi v215 c1_i32_111
  let c512_i32_112 : BitVec 32 := 512#32
  let v222 : BitVec 32 := Scalar.muli v216 c512_i32_112
  v222
def k0_off6 (i : grid0.Coords) (k0_t2 : Fin (k0_t2_loop i).trips) : Fin 3 → Nat :=
  let c0_113 : Index := 0#32
  let c0_114 : Index := 0#32
  let c2_i32_110 : BitVec 32 := 2#32
  let c0_i32_11 : BitVec 32 := 0#32
  let arg2 : BitVec 32 := BitVec.ofNat 32 (i 2).val
  let v16 : BitVec 32 := Scalar.subi arg2 c0_i32_11
  let c1_i32 : BitVec 32 := 1#32
  let v18 : BitVec 32 := Scalar.divsi v16 c1_i32
  let v19 : BitVec 32 := Scalar.muli v18 c1_i32
  let v20 : BitVec 32 := Scalar.addi c0_i32_11 v19
  let c1_i32_13 : BitVec 32 := 1#32
  let arg9 : BitVec 32 := Scf.iv v20 c1_i32_13 k0_t2
  let v215 : BitVec 32 := Scalar.muli c2_i32_110 arg9
  let c1_i32_111 : BitVec 32 := 1#32
  let v216 : BitVec 32 := Scalar.addi v215 c1_i32_111
  let c512_i32_112 : BitVec 32 := 512#32
  let v222 : BitVec 32 := Scalar.muli v216 c512_i32_112
  let v223 : BitVec 32 := v222
  let v224 : Index := Scalar.indexCast v223
  ![0, 0, v224.toNat]
def k0_mult10 (i : grid0.Coords) : BitVec 32 :=
  let c2_i32 : BitVec 32 := 2#32
  let arg2 : BitVec 32 := BitVec.ofNat 32 (i 2).val
  let v29 : BitVec 32 := Scalar.muli c2_i32 arg2
  let c512_i32 : BitVec 32 := 512#32
  let v35 : BitVec 32 := Scalar.muli v29 c512_i32
  v35
def k0_off7 (i : grid0.Coords) : Fin 3 → Nat :=
  let c0_18 : Index := 0#32
  let c0_19 : Index := 0#32
  let c2_i32 : BitVec 32 := 2#32
  let arg2 : BitVec 32 := BitVec.ofNat 32 (i 2).val
  let v29 : BitVec 32 := Scalar.muli c2_i32 arg2
  let c512_i32 : BitVec 32 := 512#32
  let v35 : BitVec 32 := Scalar.muli v29 c512_i32
  let v36 : BitVec 32 := v35
  let v37 : Index := Scalar.indexCast v36
  ![0, 0, v37.toNat]
def k0_mult11 (i : grid0.Coords) : BitVec 32 :=
  let c2_i32_22 : BitVec 32 := 2#32
  let arg2 : BitVec 32 := BitVec.ofNat 32 (i 2).val
  let v49 : BitVec 32 := Scalar.muli c2_i32_22 arg2
  let c1_i32_23 : BitVec 32 := 1#32
  let v50 : BitVec 32 := Scalar.addi v49 c1_i32_23
  let c512_i32_24 : BitVec 32 := 512#32
  let v51 : BitVec 32 := Scalar.muli v50 c512_i32_24
  v51
def k0_off8 (i : grid0.Coords) : Fin 4 → Nat :=
  let c0_25 : Index := 0#32
  let c0_26 : Index := 0#32
  let c2_i32_22 : BitVec 32 := 2#32
  let arg2 : BitVec 32 := BitVec.ofNat 32 (i 2).val
  let v49 : BitVec 32 := Scalar.muli c2_i32_22 arg2
  let c1_i32_23 : BitVec 32 := 1#32
  let v50 : BitVec 32 := Scalar.addi v49 c1_i32_23
  let c512_i32_24 : BitVec 32 := 512#32
  let v51 : BitVec 32 := Scalar.muli v50 c512_i32_24
  let v52 : BitVec 32 := v51
  let v53 : Index := Scalar.indexCast v52
  let c0_27 : Index := 0#32
  ![0, 0, v53.toNat, 0]
def k0_mult12 (i : grid0.Coords) : BitVec 32 :=
  let c2_i32_31 : BitVec 32 := 2#32
  let arg2 : BitVec 32 := BitVec.ofNat 32 (i 2).val
  let v61 : BitVec 32 := Scalar.muli c2_i32_31 arg2
  let c1_i32_32 : BitVec 32 := 1#32
  let v62 : BitVec 32 := Scalar.addi v61 c1_i32_32
  let c512_i32_33 : BitVec 32 := 512#32
  let v68 : BitVec 32 := Scalar.muli v62 c512_i32_33
  v68
def k0_off9 (i : grid0.Coords) : Fin 3 → Nat :=
  let c0_34 : Index := 0#32
  let c0_35 : Index := 0#32
  let c2_i32_31 : BitVec 32 := 2#32
  let arg2 : BitVec 32 := BitVec.ofNat 32 (i 2).val
  let v61 : BitVec 32 := Scalar.muli c2_i32_31 arg2
  let c1_i32_32 : BitVec 32 := 1#32
  let v62 : BitVec 32 := Scalar.addi v61 c1_i32_32
  let c512_i32_33 : BitVec 32 := 512#32
  let v68 : BitVec 32 := Scalar.muli v62 c512_i32_33
  let v69 : BitVec 32 := v68
  let v70 : Index := Scalar.indexCast v69
  ![0, 0, v70.toNat]
def k0_mult13 : BitVec 32 :=
  let c0_i32_40 : BitVec 32 := 0#32
  c0_i32_40
@[reducible] def k0_t3_loop (i : grid0.Coords) : Scf.Loop 32 :=
  let c0_i32_50 : BitVec 32 := 0#32
  let arg2 : BitVec 32 := BitVec.ofNat 32 (i 2).val
  let v97 : BitVec 32 := Scalar.subi arg2 c0_i32_50
  let c1_i32_51 : BitVec 32 := 1#32
  let v99 : BitVec 32 := Scalar.divsi v97 c1_i32_51
  let v100 : BitVec 32 := Scalar.muli v99 c1_i32_51
  let v101 : BitVec 32 := Scalar.addi c0_i32_50 v100
  let c1_i32_52 : BitVec 32 := 1#32
  ⟨c0_i32_50, v101, c1_i32_52⟩
def k0_mult14 (i : grid0.Coords) (k0_t3 : Fin (k0_t3_loop i).trips) : BitVec 32 :=
  let c2_i32_81 : BitVec 32 := 2#32
  let c0_i32_50 : BitVec 32 := 0#32
  let c1_i32_52 : BitVec 32 := 1#32
  let arg9 : BitVec 32 := Scf.iv c0_i32_50 c1_i32_52 k0_t3
  let v170 : BitVec 32 := Scalar.muli c2_i32_81 arg9
  let c1_i32_82 : BitVec 32 := 1#32
  let v171 : BitVec 32 := Scalar.addi v170 c1_i32_82
  let c512_i32_83 : BitVec 32 := 512#32
  let v172 : BitVec 32 := Scalar.muli v171 c512_i32_83
  v172
def k0_off10 (i : grid0.Coords) (k0_t3 : Fin (k0_t3_loop i).trips) (c1_i32_82 : BitVec 32) : Fin 4 → Nat :=
  let c0_84 : Index := 0#32
  let c1_85 : Index := 1#32
  let c2_i32_81 : BitVec 32 := 2#32
  let c0_i32_50 : BitVec 32 := 0#32
  let c1_i32_52 : BitVec 32 := 1#32
  let arg9 : BitVec 32 := Scf.iv c0_i32_50 c1_i32_52 k0_t3
  let v170 : BitVec 32 := Scalar.muli c2_i32_81 arg9
  let v171 : BitVec 32 := Scalar.addi v170 c1_i32_82
  let c512_i32_83 : BitVec 32 := 512#32
  let v172 : BitVec 32 := Scalar.muli v171 c512_i32_83
  let v173 : BitVec 32 := v172
  let v174 : Index := Scalar.indexCast v173
  let c0_86 : Index := 0#32
  ![0, 1, v174.toNat, 0]
def k0_mult15 (i : grid0.Coords) (k0_t3 : Fin (k0_t3_loop i).trips) : BitVec 32 :=
  let c2_i32_93 : BitVec 32 := 2#32
  let c0_i32_50 : BitVec 32 := 0#32
  let c1_i32_52 : BitVec 32 := 1#32
  let arg9 : BitVec 32 := Scf.iv c0_i32_50 c1_i32_52 k0_t3
  let v184 : BitVec 32 := Scalar.muli c2_i32_93 arg9
  let c512_i32_94 : BitVec 32 := 512#32
  let v190 : BitVec 32 := Scalar.muli v184 c512_i32_94
  v190
def k0_off11 (i : grid0.Coords) (k0_t3 : Fin (k0_t3_loop i).trips) : Fin 3 → Nat :=
  let c0_95 : Index := 0#32
  let c80_96 : Index := 80#32
  let c2_i32_93 : BitVec 32 := 2#32
  let c0_i32_50 : BitVec 32 := 0#32
  let c1_i32_52 : BitVec 32 := 1#32
  let arg9 : BitVec 32 := Scf.iv c0_i32_50 c1_i32_52 k0_t3
  let v184 : BitVec 32 := Scalar.muli c2_i32_93 arg9
  let c512_i32_94 : BitVec 32 := 512#32
  let v190 : BitVec 32 := Scalar.muli v184 c512_i32_94
  let v191 : BitVec 32 := v190
  let v192 : Index := Scalar.indexCast v191
  ![0, 80, v192.toNat]
def k0_mult16 (i : grid0.Coords) (k0_t3 : Fin (k0_t3_loop i).trips) : BitVec 32 :=
  let c2_i32_98 : BitVec 32 := 2#32
  let c0_i32_50 : BitVec 32 := 0#32
  let c1_i32_52 : BitVec 32 := 1#32
  let arg9 : BitVec 32 := Scf.iv c0_i32_50 c1_i32_52 k0_t3
  let v201 : BitVec 32 := Scalar.muli c2_i32_98 arg9
  let c2_i32_99 : BitVec 32 := 2#32
  let v202 : BitVec 32 := Scalar.addi v201 c2_i32_99
  let c512_i32_100 : BitVec 32 := 512#32
  let v203 : BitVec 32 := Scalar.muli v202 c512_i32_100
  v203
def k0_mult17 (i : grid0.Coords) (k0_t3 : Fin (k0_t3_loop i).trips) : BitVec 32 :=
  let c2_i32_110 : BitVec 32 := 2#32
  let c0_i32_50 : BitVec 32 := 0#32
  let c1_i32_52 : BitVec 32 := 1#32
  let arg9 : BitVec 32 := Scf.iv c0_i32_50 c1_i32_52 k0_t3
  let v215 : BitVec 32 := Scalar.muli c2_i32_110 arg9
  let c1_i32_111 : BitVec 32 := 1#32
  let v216 : BitVec 32 := Scalar.addi v215 c1_i32_111
  let c512_i32_112 : BitVec 32 := 512#32
  let v222 : BitVec 32 := Scalar.muli v216 c512_i32_112
  v222
def k0_off12 (i : grid0.Coords) (k0_t3 : Fin (k0_t3_loop i).trips) : Fin 3 → Nat :=
  let c0_113 : Index := 0#32
  let c80_114 : Index := 80#32
  let c2_i32_110 : BitVec 32 := 2#32
  let c0_i32_50 : BitVec 32 := 0#32
  let c1_i32_52 : BitVec 32 := 1#32
  let arg9 : BitVec 32 := Scf.iv c0_i32_50 c1_i32_52 k0_t3
  let v215 : BitVec 32 := Scalar.muli c2_i32_110 arg9
  let c1_i32_111 : BitVec 32 := 1#32
  let v216 : BitVec 32 := Scalar.addi v215 c1_i32_111
  let c512_i32_112 : BitVec 32 := 512#32
  let v222 : BitVec 32 := Scalar.muli v216 c512_i32_112
  let v223 : BitVec 32 := v222
  let v224 : Index := Scalar.indexCast v223
  ![0, 80, v224.toNat]
@[reducible] def k0_t4_loop (i : grid0.Coords) : Scf.Loop 32 :=
  let c0_i32_50 : BitVec 32 := 0#32
  let arg2 : BitVec 32 := BitVec.ofNat 32 (i 2).val
  let v97 : BitVec 32 := Scalar.subi arg2 c0_i32_50
  let c1_i32_51 : BitVec 32 := 1#32
  let v99 : BitVec 32 := Scalar.divsi v97 c1_i32_51
  let v100 : BitVec 32 := Scalar.muli v99 c1_i32_51
  let v101 : BitVec 32 := Scalar.addi c0_i32_50 v100
  let v98 : BitVec 32 := Scalar.addi c0_i32_50 v97
  let c1_i32_53 : BitVec 32 := 1#32
  ⟨v101, v98, c1_i32_53⟩
def k0_mult18 (i : grid0.Coords) (k0_t4 : Fin (k0_t4_loop i).trips) : BitVec 32 :=
  let c2_i32_81 : BitVec 32 := 2#32
  let c0_i32_50 : BitVec 32 := 0#32
  let arg2 : BitVec 32 := BitVec.ofNat 32 (i 2).val
  let v97 : BitVec 32 := Scalar.subi arg2 c0_i32_50
  let c1_i32_51 : BitVec 32 := 1#32
  let v99 : BitVec 32 := Scalar.divsi v97 c1_i32_51
  let v100 : BitVec 32 := Scalar.muli v99 c1_i32_51
  let v101 : BitVec 32 := Scalar.addi c0_i32_50 v100
  let c1_i32_53 : BitVec 32 := 1#32
  let arg9 : BitVec 32 := Scf.iv v101 c1_i32_53 k0_t4
  let v170 : BitVec 32 := Scalar.muli c2_i32_81 arg9
  let c1_i32_82 : BitVec 32 := 1#32
  let v171 : BitVec 32 := Scalar.addi v170 c1_i32_82
  let c512_i32_83 : BitVec 32 := 512#32
  let v172 : BitVec 32 := Scalar.muli v171 c512_i32_83
  v172
def k0_off13 (i : grid0.Coords) (k0_t4 : Fin (k0_t4_loop i).trips) (c1_i32_82 : BitVec 32) : Fin 4 → Nat :=
  let c0_84 : Index := 0#32
  let c1_85 : Index := 1#32
  let c2_i32_81 : BitVec 32 := 2#32
  let c0_i32_50 : BitVec 32 := 0#32
  let arg2 : BitVec 32 := BitVec.ofNat 32 (i 2).val
  let v97 : BitVec 32 := Scalar.subi arg2 c0_i32_50
  let c1_i32_51 : BitVec 32 := 1#32
  let v99 : BitVec 32 := Scalar.divsi v97 c1_i32_51
  let v100 : BitVec 32 := Scalar.muli v99 c1_i32_51
  let v101 : BitVec 32 := Scalar.addi c0_i32_50 v100
  let c1_i32_53 : BitVec 32 := 1#32
  let arg9 : BitVec 32 := Scf.iv v101 c1_i32_53 k0_t4
  let v170 : BitVec 32 := Scalar.muli c2_i32_81 arg9
  let v171 : BitVec 32 := Scalar.addi v170 c1_i32_82
  let c512_i32_83 : BitVec 32 := 512#32
  let v172 : BitVec 32 := Scalar.muli v171 c512_i32_83
  let v173 : BitVec 32 := v172
  let v174 : Index := Scalar.indexCast v173
  let c0_86 : Index := 0#32
  ![0, 1, v174.toNat, 0]
def k0_mult19 (i : grid0.Coords) (k0_t4 : Fin (k0_t4_loop i).trips) : BitVec 32 :=
  let c2_i32_93 : BitVec 32 := 2#32
  let c0_i32_50 : BitVec 32 := 0#32
  let arg2 : BitVec 32 := BitVec.ofNat 32 (i 2).val
  let v97 : BitVec 32 := Scalar.subi arg2 c0_i32_50
  let c1_i32_51 : BitVec 32 := 1#32
  let v99 : BitVec 32 := Scalar.divsi v97 c1_i32_51
  let v100 : BitVec 32 := Scalar.muli v99 c1_i32_51
  let v101 : BitVec 32 := Scalar.addi c0_i32_50 v100
  let c1_i32_53 : BitVec 32 := 1#32
  let arg9 : BitVec 32 := Scf.iv v101 c1_i32_53 k0_t4
  let v184 : BitVec 32 := Scalar.muli c2_i32_93 arg9
  let c512_i32_94 : BitVec 32 := 512#32
  let v190 : BitVec 32 := Scalar.muli v184 c512_i32_94
  v190
def k0_off14 (i : grid0.Coords) (k0_t4 : Fin (k0_t4_loop i).trips) : Fin 3 → Nat :=
  let c0_95 : Index := 0#32
  let c80_96 : Index := 80#32
  let c2_i32_93 : BitVec 32 := 2#32
  let c0_i32_50 : BitVec 32 := 0#32
  let arg2 : BitVec 32 := BitVec.ofNat 32 (i 2).val
  let v97 : BitVec 32 := Scalar.subi arg2 c0_i32_50
  let c1_i32_51 : BitVec 32 := 1#32
  let v99 : BitVec 32 := Scalar.divsi v97 c1_i32_51
  let v100 : BitVec 32 := Scalar.muli v99 c1_i32_51
  let v101 : BitVec 32 := Scalar.addi c0_i32_50 v100
  let c1_i32_53 : BitVec 32 := 1#32
  let arg9 : BitVec 32 := Scf.iv v101 c1_i32_53 k0_t4
  let v184 : BitVec 32 := Scalar.muli c2_i32_93 arg9
  let c512_i32_94 : BitVec 32 := 512#32
  let v190 : BitVec 32 := Scalar.muli v184 c512_i32_94
  let v191 : BitVec 32 := v190
  let v192 : Index := Scalar.indexCast v191
  ![0, 80, v192.toNat]
def k0_mult20 (i : grid0.Coords) (k0_t4 : Fin (k0_t4_loop i).trips) : BitVec 32 :=
  let c2_i32_98 : BitVec 32 := 2#32
  let c0_i32_50 : BitVec 32 := 0#32
  let arg2 : BitVec 32 := BitVec.ofNat 32 (i 2).val
  let v97 : BitVec 32 := Scalar.subi arg2 c0_i32_50
  let c1_i32_51 : BitVec 32 := 1#32
  let v99 : BitVec 32 := Scalar.divsi v97 c1_i32_51
  let v100 : BitVec 32 := Scalar.muli v99 c1_i32_51
  let v101 : BitVec 32 := Scalar.addi c0_i32_50 v100
  let c1_i32_53 : BitVec 32 := 1#32
  let arg9 : BitVec 32 := Scf.iv v101 c1_i32_53 k0_t4
  let v201 : BitVec 32 := Scalar.muli c2_i32_98 arg9
  let c2_i32_99 : BitVec 32 := 2#32
  let v202 : BitVec 32 := Scalar.addi v201 c2_i32_99
  let c512_i32_100 : BitVec 32 := 512#32
  let v203 : BitVec 32 := Scalar.muli v202 c512_i32_100
  v203
def k0_mult21 (i : grid0.Coords) (k0_t4 : Fin (k0_t4_loop i).trips) : BitVec 32 :=
  let c2_i32_110 : BitVec 32 := 2#32
  let c0_i32_50 : BitVec 32 := 0#32
  let arg2 : BitVec 32 := BitVec.ofNat 32 (i 2).val
  let v97 : BitVec 32 := Scalar.subi arg2 c0_i32_50
  let c1_i32_51 : BitVec 32 := 1#32
  let v99 : BitVec 32 := Scalar.divsi v97 c1_i32_51
  let v100 : BitVec 32 := Scalar.muli v99 c1_i32_51
  let v101 : BitVec 32 := Scalar.addi c0_i32_50 v100
  let c1_i32_53 : BitVec 32 := 1#32
  let arg9 : BitVec 32 := Scf.iv v101 c1_i32_53 k0_t4
  let v215 : BitVec 32 := Scalar.muli c2_i32_110 arg9
  let c1_i32_111 : BitVec 32 := 1#32
  let v216 : BitVec 32 := Scalar.addi v215 c1_i32_111
  let c512_i32_112 : BitVec 32 := 512#32
  let v222 : BitVec 32 := Scalar.muli v216 c512_i32_112
  v222
def k0_off15 (i : grid0.Coords) (k0_t4 : Fin (k0_t4_loop i).trips) : Fin 3 → Nat :=
  let c0_113 : Index := 0#32
  let c80_114 : Index := 80#32
  let c2_i32_110 : BitVec 32 := 2#32
  let c0_i32_50 : BitVec 32 := 0#32
  let arg2 : BitVec 32 := BitVec.ofNat 32 (i 2).val
  let v97 : BitVec 32 := Scalar.subi arg2 c0_i32_50
  let c1_i32_51 : BitVec 32 := 1#32
  let v99 : BitVec 32 := Scalar.divsi v97 c1_i32_51
  let v100 : BitVec 32 := Scalar.muli v99 c1_i32_51
  let v101 : BitVec 32 := Scalar.addi c0_i32_50 v100
  let c1_i32_53 : BitVec 32 := 1#32
  let arg9 : BitVec 32 := Scf.iv v101 c1_i32_53 k0_t4
  let v215 : BitVec 32 := Scalar.muli c2_i32_110 arg9
  let c1_i32_111 : BitVec 32 := 1#32
  let v216 : BitVec 32 := Scalar.addi v215 c1_i32_111
  let c512_i32_112 : BitVec 32 := 512#32
  let v222 : BitVec 32 := Scalar.muli v216 c512_i32_112
  let v223 : BitVec 32 := v222
  let v224 : Index := Scalar.indexCast v223
  ![0, 80, v224.toNat]
def k0_mult22 (i : grid0.Coords) : BitVec 32 :=
  let c2_i32_58 : BitVec 32 := 2#32
  let arg2 : BitVec 32 := BitVec.ofNat 32 (i 2).val
  let v110 : BitVec 32 := Scalar.muli c2_i32_58 arg2
  let c512_i32_59 : BitVec 32 := 512#32
  let v116 : BitVec 32 := Scalar.muli v110 c512_i32_59
  v116
def k0_off16 (i : grid0.Coords) : Fin 3 → Nat :=
  let c0_60 : Index := 0#32
  let c80 : Index := 80#32
  let c2_i32_58 : BitVec 32 := 2#32
  let arg2 : BitVec 32 := BitVec.ofNat 32 (i 2).val
  let v110 : BitVec 32 := Scalar.muli c2_i32_58 arg2
  let c512_i32_59 : BitVec 32 := 512#32
  let v116 : BitVec 32 := Scalar.muli v110 c512_i32_59
  let v117 : BitVec 32 := v116
  let v118 : Index := Scalar.indexCast v117
  ![0, 80, v118.toNat]
def k0_mult23 (i : grid0.Coords) : BitVec 32 :=
  let c2_i32_63 : BitVec 32 := 2#32
  let arg2 : BitVec 32 := BitVec.ofNat 32 (i 2).val
  let v130 : BitVec 32 := Scalar.muli c2_i32_63 arg2
  let c1_i32_64 : BitVec 32 := 1#32
  let v131 : BitVec 32 := Scalar.addi v130 c1_i32_64
  let c512_i32_65 : BitVec 32 := 512#32
  let v132 : BitVec 32 := Scalar.muli v131 c512_i32_65
  v132
def k0_off17 (i : grid0.Coords) : Fin 4 → Nat :=
  let c0_66 : Index := 0#32
  let c1_67 : Index := 1#32
  let c2_i32_63 : BitVec 32 := 2#32
  let arg2 : BitVec 32 := BitVec.ofNat 32 (i 2).val
  let v130 : BitVec 32 := Scalar.muli c2_i32_63 arg2
  let c1_i32_64 : BitVec 32 := 1#32
  let v131 : BitVec 32 := Scalar.addi v130 c1_i32_64
  let c512_i32_65 : BitVec 32 := 512#32
  let v132 : BitVec 32 := Scalar.muli v131 c512_i32_65
  let v133 : BitVec 32 := v132
  let v134 : Index := Scalar.indexCast v133
  let c0_68 : Index := 0#32
  ![0, 1, v134.toNat, 0]
def k0_mult24 (i : grid0.Coords) : BitVec 32 :=
  let c2_i32_72 : BitVec 32 := 2#32
  let arg2 : BitVec 32 := BitVec.ofNat 32 (i 2).val
  let v142 : BitVec 32 := Scalar.muli c2_i32_72 arg2
  let c1_i32_73 : BitVec 32 := 1#32
  let v143 : BitVec 32 := Scalar.addi v142 c1_i32_73
  let c512_i32_74 : BitVec 32 := 512#32
  let v149 : BitVec 32 := Scalar.muli v143 c512_i32_74
  v149
def k0_off18 (i : grid0.Coords) : Fin 3 → Nat :=
  let c0_75 : Index := 0#32
  let c80_76 : Index := 80#32
  let c2_i32_72 : BitVec 32 := 2#32
  let arg2 : BitVec 32 := BitVec.ofNat 32 (i 2).val
  let v142 : BitVec 32 := Scalar.muli c2_i32_72 arg2
  let c1_i32_73 : BitVec 32 := 1#32
  let v143 : BitVec 32 := Scalar.addi v142 c1_i32_73
  let c512_i32_74 : BitVec 32 := 512#32
  let v149 : BitVec 32 := Scalar.muli v143 c512_i32_74
  let v150 : BitVec 32 := v149
  let v151 : Index := Scalar.indexCast v150
  ![0, 80, v151.toNat]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x160x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Kernel2Ideal.lean ====
variable {F : FTy → Type} [FloatOps F] [Named F]
def κ : String → Option EReal := fun
  | "mask" => some ⊥
  | _ => none
-- ==== Reference2Ideal.lean ====
abbrev S2x8x16384x128 : Shape := ⟨4, ![2, 8, 16384, 128]⟩
abbrev S2x8x64x16384 : Shape := ⟨4, ![2, 8, 64, 16384]⟩
abbrev S2x8x16384x16384 : Shape := ⟨4, ![2, 8, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩
abbrev S2x8x16384 : Shape := ⟨3, ![2, 8, 16384]⟩
abbrev S2x8x16384x1 : Shape := ⟨4, ![2, 8, 16384, 1]⟩
abbrev S2x8x16384x64 : Shape := ⟨4, ![2, 8, 16384, 64]⟩
abbrev S2x16384x8x64 : Shape := ⟨4, ![2, 16384, 8, 64]⟩
abbrev S2x16384x512 : Shape := ⟨3, ![2, 16384, 512]⟩

abbrev nBuf : Space → Nat
  | .hbm => 36
  | .vmem => 0
  | .smem => 0
  | _ => 0

abbrev bufTy : (tb : Table) → Fin (tcTables nBuf tb) → BufTy
  | .hbm, ⟨0, _⟩ => ⟨S2x8x16384x128, .bf16⟩
  | .hbm, ⟨1, _⟩ => ⟨S2x8x16384x128, .bf16⟩
  | .hbm, ⟨2, _⟩ => ⟨S2x8x64x16384, .bf16⟩
  | .hbm, ⟨3, _⟩ => ⟨S2x8x16384x128, .f32⟩
  | .hbm, ⟨4, _⟩ => ⟨S2x8x16384x128, .f32⟩
  | .hbm, ⟨5, _⟩ => ⟨S2x8x16384x16384, .f32⟩
  | .hbm, ⟨6, _⟩ => ⟨S16384, .i32⟩
  | .hbm, ⟨7, _⟩ => ⟨S1x16384, .i32⟩
  | .hbm, ⟨8, _⟩ => ⟨S16384, .i32⟩
  | .hbm, ⟨9, _⟩ => ⟨S16384x1, .i32⟩
  | .hbm, ⟨10, _⟩ => ⟨S16384x16384, .i32⟩
  | .hbm, ⟨11, _⟩ => ⟨S16384x16384, .i32⟩
  | .hbm, ⟨12, _⟩ => ⟨S16384x16384, .i1⟩
  | .hbm, ⟨13, _⟩ => ⟨S_, .f32⟩
  | .hbm, ⟨14, _⟩ => ⟨S_, .f32⟩
  | .hbm, ⟨15, _⟩ => ⟨S2x8x16384x16384, .i1⟩
  | .hbm, ⟨16, _⟩ => ⟨S2x8x16384x16384, .f32⟩
  | .hbm, ⟨17, _⟩ => ⟨S2x8x16384x16384, .f32⟩
  | .hbm, ⟨18, _⟩ => ⟨S_, .f32⟩
  | .hbm, ⟨19, _⟩ => ⟨S2x8x16384, .f32⟩
  | .hbm, ⟨20, _⟩ => ⟨S2x8x16384x1, .f32⟩
  | .hbm, ⟨21, _⟩ => ⟨S2x8x16384x16384, .f32⟩
  | .hbm, ⟨22, _⟩ => ⟨S2x8x16384x16384, .f32⟩
  | .hbm, ⟨23, _⟩ => ⟨S_, .f32⟩
  | .hbm, ⟨24, _⟩ => ⟨S2x8x16384x16384, .f32⟩
  | .hbm, ⟨25, _⟩ => ⟨S2x8x16384x16384, .f32⟩
  | .hbm, ⟨26, _⟩ => ⟨S2x8x64x16384, .f32⟩
  | .hbm, ⟨27, _⟩ => ⟨S2x8x16384x64, .f32⟩
  | .hbm, ⟨28, _⟩ => ⟨S_, .f32⟩
  | .hbm, ⟨29, _⟩ => ⟨S2x8x16384, .f32⟩
  | .hbm, ⟨30, _⟩ => ⟨S2x8x16384x1, .f32⟩
  | .hbm, ⟨31, _⟩ => ⟨S2x8x16384x64, .f32⟩
  | .hbm, ⟨32, _⟩ => ⟨S2x8x16384x64, .f32⟩
  | .hbm, ⟨33, _⟩ => ⟨S2x16384x8x64, .f32⟩
  | .hbm, ⟨34, _⟩ => ⟨S2x16384x512, .f32⟩
  | .hbm, ⟨35, _⟩ => ⟨S2x16384x512, .bf16⟩
  | _, _ => ⟨S2x8x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel3.lean ====
abbrev S2x16384x1024 : Shape := ⟨3, ![2, 16384, 1024]⟩
abbrev S1024 : Shape := ⟨1, ![1024]⟩
abbrev S1024x2048 : Shape := ⟨2, ![1024, 2048]⟩
abbrev S31x1024 : Shape := ⟨2, ![31, 1024]⟩
abbrev S1024x1024 : Shape := ⟨2, ![1024, 1024]⟩
abbrev S1x1024 : Shape := ⟨2, ![1, 1024]⟩
abbrev S_ : Shape := ⟨0, ![]⟩
abbrev S32x1024 : Shape := ⟨2, ![32, 1024]⟩
abbrev S1x512x1024 : Shape := ⟨3, ![1, 512, 1024]⟩
abbrev S544x1024 : Shape := ⟨2, ![544, 1024]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩
abbrev S544x128 : Shape := ⟨2, ![544, 128]⟩
abbrev S1x128 : Shape := ⟨2, ![1, 128]⟩
abbrev S512x128 : Shape := ⟨2, ![512, 128]⟩

abbrev nBuf : Space → Nat
  | .hbm => 18
  | .vmem => 13
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x2048, .f32⟩
  | .hbm, ⟨3, _⟩ => ⟨S31x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1x1024, .f32⟩
  | .hbm, ⟨9, _⟩ => ⟨S1024x2048, .bf16⟩
  | .hbm, ⟨10, _⟩ => ⟨S_, .i32⟩
  | .hbm, ⟨11, _⟩ => ⟨S_, .f32⟩
  | .hbm, ⟨12, _⟩ => ⟨S32x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1024x1024, .bf16⟩
  | .hbm, ⟨17, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2048, .bf16⟩
  | .local _ .vmem, ⟨4, _⟩ => ⟨S32x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1x512x1024, .f32⟩
  | .local _ .vmem, ⟨10, _⟩ => ⟨S1x512x1024, .f32⟩
  | .local _ .vmem, ⟨11, _⟩ => ⟨S544x1024, .f32⟩
  | .local _ .vmem, ⟨12, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_13 : BitVec 32 := 0#32
  let c8_i32 : BitVec 32 := 8#32
  let v33 : BitVec 32 := Scalar.addi c0_i32_13 c8_i32
  let c1_i32 : BitVec 32 := 1#32
  ⟨c0_i32_13, v33, c1_i32⟩
def k0_mult1 (k0_t1 : Fin k0_t1_loop.trips) : BitVec 32 :=
  let c0_i32_13 : BitVec 32 := 0#32
  let c1_i32 : BitVec 32 := 1#32
  let arg13 : BitVec 32 := Scf.iv c0_i32_13 c1_i32 k0_t1
  let c128_i32 : BitVec 32 := 128#32
  let v69 : BitVec 32 := Scalar.muli arg13 c128_i32
  v69
def k0_off1 (k0_t1 : Fin k0_t1_loop.trips) : Fin 2 → Nat :=
  let c0_32 : Index := 0#32
  let c0_i32_13 : BitVec 32 := 0#32
  let c1_i32 : BitVec 32 := 1#32
  let arg13 : BitVec 32 := Scf.iv c0_i32_13 c1_i32 k0_t1
  let c128_i32 : BitVec 32 := 128#32
  let v69 : BitVec 32 := Scalar.muli arg13 c128_i32
  let v70 : BitVec 32 := v69
  let v71 : Index := Scalar.indexCast v70
  ![0, v71.toNat]
def k0_off2 (k0_t1 : Fin k0_t1_loop.trips) : Fin 2 → Nat :=
  let c0_33 : Index := 0#32
  let c0_i32_13 : BitVec 32 := 0#32
  let c1_i32 : BitVec 32 := 1#32
  let arg13 : BitVec 32 := Scf.iv c0_i32_13 c1_i32 k0_t1
  let c128_i32 : BitVec 32 := 128#32
  let v69 : BitVec 32 := Scalar.muli arg13 c128_i32
  let v70 : BitVec 32 := v69
  let v73 : Index := Scalar.indexCast v70
  ![0, v73.toNat]
def k0_off3 (k0_t1 : Fin k0_t1_loop.trips) : Fin 2 → Nat :=
  let c30 : Index := 30#32
  let c0_i32_13 : BitVec 32 := 0#32
  let c1_i32 : BitVec 32 := 1#32
  let arg13 : BitVec 32 := Scf.iv c0_i32_13 c1_i32 k0_t1
  let c128_i32 : BitVec 32 := 128#32
  let v69 : BitVec 32 := Scalar.muli arg13 c128_i32
  let v70 : BitVec 32 := v69
  let v78 : Index := Scalar.indexCast v70
  ![30, v78.toNat]
def k0_off4 (k0_t1 : Fin k0_t1_loop.trips) : Fin 2 → Nat :=
  let c22 : Index := 22#32
  let c0_i32_13 : BitVec 32 := 0#32
  let c1_i32 : BitVec 32 := 1#32
  let arg13 : BitVec 32 := Scf.iv c0_i32_13 c1_i32 k0_t1
  let c128_i32 : BitVec 32 := 128#32
  let v69 : BitVec 32 := Scalar.muli arg13 c128_i32
  let v70 : BitVec 32 := v69
  let v85 : Index := Scalar.indexCast v70
  ![22, v85.toNat]
def k0_off5 (k0_t1 : Fin k0_t1_loop.trips) : Fin 2 → Nat :=
  let c14 : Index := 14#32
  let c0_i32_13 : BitVec 32 := 0#32
  let c1_i32 : BitVec 32 := 1#32
  let arg13 : BitVec 32 := Scf.iv c0_i32_13 c1_i32 k0_t1
  let c128_i32 : BitVec 32 := 128#32
  let v69 : BitVec 32 := Scalar.muli arg13 c128_i32
  let v70 : BitVec 32 := v69
  let v92 : Index := Scalar.indexCast v70
  ![14, v92.toNat]
def k0_off6 (k0_t1 : Fin k0_t1_loop.trips) : Fin 2 → Nat :=
  let c6 : Index := 6#32
  let c0_i32_13 : BitVec 32 := 0#32
  let c1_i32 : BitVec 32 := 1#32
  let arg13 : BitVec 32 := Scf.iv c0_i32_13 c1_i32 k0_t1
  let c128_i32 : BitVec 32 := 128#32
  let v69 : BitVec 32 := Scalar.muli arg13 c128_i32
  let v70 : BitVec 32 := v69
  let v99 : Index := Scalar.indexCast v70
  ![6, v99.toNat]
def k0_off7 (k0_t1 : Fin k0_t1_loop.trips) : Fin 2 → Nat :=
  let c29 : Index := 29#32
  let c0_i32_13 : BitVec 32 := 0#32
  let c1_i32 : BitVec 32 := 1#32
  let arg13 : BitVec 32 := Scf.iv c0_i32_13 c1_i32 k0_t1
  let c128_i32 : BitVec 32 := 128#32
  let v69 : BitVec 32 := Scalar.muli arg13 c128_i32
  let v70 : BitVec 32 := v69
  let v107 : Index := Scalar.indexCast v70
  ![29, v107.toNat]
def k0_off8 (k0_t1 : Fin k0_t1_loop.trips) : Fin 2 → Nat :=
  let c21 : Index := 21#32
  let c0_i32_13 : BitVec 32 := 0#32
  let c1_i32 : BitVec 32 := 1#32
  let arg13 : BitVec 32 := Scf.iv c0_i32_13 c1_i32 k0_t1
  let c128_i32 : BitVec 32 := 128#32
  let v69 : BitVec 32 := Scalar.muli arg13 c128_i32
  let v70 : BitVec 32 := v69
  let v114 : Index := Scalar.indexCast v70
  ![21, v114.toNat]
def k0_off9 (k0_t1 : Fin k0_t1_loop.trips) : Fin 2 → Nat :=
  let c13 : Index := 13#32
  let c0_i32_13 : BitVec 32 := 0#32
  let c1_i32 : BitVec 32 := 1#32
  let arg13 : BitVec 32 := Scf.iv c0_i32_13 c1_i32 k0_t1
  let c128_i32 : BitVec 32 := 128#32
  let v69 : BitVec 32 := Scalar.muli arg13 c128_i32
  let v70 : BitVec 32 := v69
  let v121 : Index := Scalar.indexCast v70
  ![13, v121.toNat]
def k0_off10 (k0_t1 : Fin k0_t1_loop.trips) : Fin 2 → Nat :=
  let c5 : Index := 5#32
  let c0_i32_13 : BitVec 32 := 0#32
  let c1_i32 : BitVec 32 := 1#32
  let arg13 : BitVec 32 := Scf.iv c0_i32_13 c1_i32 k0_t1
  let c128_i32 : BitVec 32 := 128#32
  let v69 : BitVec 32 := Scalar.muli arg13 c128_i32
  let v70 : BitVec 32 := v69
  let v128 : Index := Scalar.indexCast v70
  ![5, v128.toNat]
def k0_off11 (k0_t1 : Fin k0_t1_loop.trips) : Fin 2 → Nat :=
  let c28 : Index := 28#32
  let c0_i32_13 : BitVec 32 := 0#32
  let c1_i32 : BitVec 32 := 1#32
  let arg13 : BitVec 32 := Scf.iv c0_i32_13 c1_i32 k0_t1
  let c128_i32 : BitVec 32 := 128#32
  let v69 : BitVec 32 := Scalar.muli arg13 c128_i32
  let v70 : BitVec 32 := v69
  let v136 : Index := Scalar.indexCast v70
  ![28, v136.toNat]
def k0_off12 (k0_t1 : Fin k0_t1_loop.trips) : Fin 2 → Nat :=
  let c20 : Index := 20#32
  let c0_i32_13 : BitVec 32 := 0#32
  let c1_i32 : BitVec 32 := 1#32
  let arg13 : BitVec 32 := Scf.iv c0_i32_13 c1_i32 k0_t1
  let c128_i32 : BitVec 32 := 128#32
  let v69 : BitVec 32 := Scalar.muli arg13 c128_i32
  let v70 : BitVec 32 := v69
  let v143 : Index := Scalar.indexCast v70
  ![20, v143.toNat]
def k0_off13 (k0_t1 : Fin k0_t1_loop.trips) : Fin 2 → Nat :=
  let c12 : Index := 12#32
  let c0_i32_13 : BitVec 32 := 0#32
  let c1_i32 : BitVec 32 := 1#32
  let arg13 : BitVec 32 := Scf.iv c0_i32_13 c1_i32 k0_t1
  let c128_i32 : BitVec 32 := 128#32
  let v69 : BitVec 32 := Scalar.muli arg13 c128_i32
  let v70 : BitVec 32 := v69
  let v150 : Index := Scalar.indexCast v70
  ![12, v150.toNat]
def k0_off14 (k0_t1 : Fin k0_t1_loop.trips) : Fin 2 → Nat :=
  let c4 : Index := 4#32
  let c0_i32_13 : BitVec 32 := 0#32
  let c1_i32 : BitVec 32 := 1#32
  let arg13 : BitVec 32 := Scf.iv c0_i32_13 c1_i32 k0_t1
  let c128_i32 : BitVec 32 := 128#32
  let v69 : BitVec 32 := Scalar.muli arg13 c128_i32
  let v70 : BitVec 32 := v69
  let v157 : Index := Scalar.indexCast v70
  ![4, v157.toNat]
def k0_off15 (k0_t1 : Fin k0_t1_loop.trips) : Fin 2 → Nat :=
  let c27 : Index := 27#32
  let c0_i32_13 : BitVec 32 := 0#32
  let c1_i32 : BitVec 32 := 1#32
  let arg13 : BitVec 32 := Scf.iv c0_i32_13 c1_i32 k0_t1
  let c128_i32 : BitVec 32 := 128#32
  let v69 : BitVec 32 := Scalar.muli arg13 c128_i32
  let v70 : BitVec 32 := v69
  let v165 : Index := Scalar.indexCast v70
  ![27, v165.toNat]
def k0_off16 (k0_t1 : Fin k0_t1_loop.trips) : Fin 2 → Nat :=
  let c19 : Index := 19#32
  let c0_i32_13 : BitVec 32 := 0#32
  let c1_i32 : BitVec 32 := 1#32
  let arg13 : BitVec 32 := Scf.iv c0_i32_13 c1_i32 k0_t1
  let c128_i32 : BitVec 32 := 128#32
  let v69 : BitVec 32 := Scalar.muli arg13 c128_i32
  let v70 : BitVec 32 := v69
  let v172 : Index := Scalar.indexCast v70
  ![19, v172.toNat]
def k0_off17 (k0_t1 : Fin k0_t1_loop.trips) : Fin 2 → Nat :=
  let c11 : Index := 11#32
  let c0_i32_13 : BitVec 32 := 0#32
  let c1_i32 : BitVec 32 := 1#32
  let arg13 : BitVec 32 := Scf.iv c0_i32_13 c1_i32 k0_t1
  let c128_i32 : BitVec 32 := 128#32
  let v69 : BitVec 32 := Scalar.muli arg13 c128_i32
  let v70 : BitVec 32 := v69
  let v179 : Index := Scalar.indexCast v70
  ![11, v179.toNat]
def k0_off18 (k0_t1 : Fin k0_t1_loop.trips) : Fin 2 → Nat :=
  let c3 : Index := 3#32
  let c0_i32_13 : BitVec 32 := 0#32
  let c1_i32 : BitVec 32 := 1#32
  let arg13 : BitVec 32 := Scf.iv c0_i32_13 c1_i32 k0_t1
  let c128_i32 : BitVec 32 := 128#32
  let v69 : BitVec 32 := Scalar.muli arg13 c128_i32
  let v70 : BitVec 32 := v69
  let v186 : Index := Scalar.indexCast v70
  ![3, v186.toNat]
def k0_off19 (k0_t1 : Fin k0_t1_loop.trips) : Fin 2 → Nat :=
  let c26 : Index := 26#32
  let c0_i32_13 : BitVec 32 := 0#32
  let c1_i32 : BitVec 32 := 1#32
  let arg13 : BitVec 32 := Scf.iv c0_i32_13 c1_i32 k0_t1
  let c128_i32 : BitVec 32 := 128#32
  let v69 : BitVec 32 := Scalar.muli arg13 c128_i32
  let v70 : BitVec 32 := v69
  let v194 : Index := Scalar.indexCast v70
  ![26, v194.toNat]
def k0_off20 (k0_t1 : Fin k0_t1_loop.trips) : Fin 2 → Nat :=
  let c18 : Index := 18#32
  let c0_i32_13 : BitVec 32 := 0#32
  let c1_i32 : BitVec 32 := 1#32
  let arg13 : BitVec 32 := Scf.iv c0_i32_13 c1_i32 k0_t1
  let c128_i32 : BitVec 32 := 128#32
  let v69 : BitVec 32 := Scalar.muli arg13 c128_i32
  let v70 : BitVec 32 := v69
  let v201 : Index := Scalar.indexCast v70
  ![18, v201.toNat]
def k0_off21 (k0_t1 : Fin k0_t1_loop.trips) : Fin 2 → Nat :=
  let c10 : Index := 10#32
  let c0_i32_13 : BitVec 32 := 0#32
  let c1_i32 : BitVec 32 := 1#32
  let arg13 : BitVec 32 := Scf.iv c0_i32_13 c1_i32 k0_t1
  let c128_i32 : BitVec 32 := 128#32
  let v69 : BitVec 32 := Scalar.muli arg13 c128_i32
  let v70 : BitVec 32 := v69
  let v208 : Index := Scalar.indexCast v70
  ![10, v208.toNat]
def k0_off22 (k0_t1 : Fin k0_t1_loop.trips) : Fin 2 → Nat :=
  let c2 : Index := 2#32
  let c0_i32_13 : BitVec 32 := 0#32
  let c1_i32 : BitVec 32 := 1#32
  let arg13 : BitVec 32 := Scf.iv c0_i32_13 c1_i32 k0_t1
  let c128_i32 : BitVec 32 := 128#32
  let v69 : BitVec 32 := Scalar.muli arg13 c128_i32
  let v70 : BitVec 32 := v69
  let v215 : Index := Scalar.indexCast v70
  ![2, v215.toNat]
def k0_off23 (k0_t1 : Fin k0_t1_loop.trips) : Fin 2 → Nat :=
  let c25 : Index := 25#32
  let c0_i32_13 : BitVec 32 := 0#32
  let c1_i32 : BitVec 32 := 1#32
  let arg13 : BitVec 32 := Scf.iv c0_i32_13 c1_i32 k0_t1
  let c128_i32 : BitVec 32 := 128#32
  let v69 : BitVec 32 := Scalar.muli arg13 c128_i32
  let v70 : BitVec 32 := v69
  let v223 : Index := Scalar.indexCast v70
  ![25, v223.toNat]
def k0_off24 (k0_t1 : Fin k0_t1_loop.trips) : Fin 2 → Nat :=
  let c17 : Index := 17#32
  let c0_i32_13 : BitVec 32 := 0#32
  let c1_i32 : BitVec 32 := 1#32
  let arg13 : BitVec 32 := Scf.iv c0_i32_13 c1_i32 k0_t1
  let c128_i32 : BitVec 32 := 128#32
  let v69 : BitVec 32 := Scalar.muli arg13 c128_i32
  let v70 : BitVec 32 := v69
  let v230 : Index := Scalar.indexCast v70
  ![17, v230.toNat]
def k0_off25 (k0_t1 : Fin k0_t1_loop.trips) : Fin 2 → Nat :=
  let c9 : Index := 9#32
  let c0_i32_13 : BitVec 32 := 0#32
  let c1_i32 : BitVec 32 := 1#32
  let arg13 : BitVec 32 := Scf.iv c0_i32_13 c1_i32 k0_t1
  let c128_i32 : BitVec 32 := 128#32
  let v69 : BitVec 32 := Scalar.muli arg13 c128_i32
  let v70 : BitVec 32 := v69
  let v237 : Index := Scalar.indexCast v70
  ![9, v237.toNat]
def k0_off26 (k0_t1 : Fin k0_t1_loop.trips) : Fin 2 → Nat :=
  let c1 : Index := 1#32
  let c0_i32_13 : BitVec 32 := 0#32
  let c1_i32 : BitVec 32 := 1#32
  let arg13 : BitVec 32 := Scf.iv c0_i32_13 c1_i32 k0_t1
  let c128_i32 : BitVec 32 := 128#32
  let v69 : BitVec 32 := Scalar.muli arg13 c128_i32
  let v70 : BitVec 32 := v69
  let v244 : Index := Scalar.indexCast v70
  ![1, v244.toNat]
def k0_off27 (k0_t1 : Fin k0_t1_loop.trips) : Fin 2 → Nat :=
  let c24 : Index := 24#32
  let c0_i32_13 : BitVec 32 := 0#32
  let c1_i32 : BitVec 32 := 1#32
  let arg13 : BitVec 32 := Scf.iv c0_i32_13 c1_i32 k0_t1
  let c128_i32 : BitVec 32 := 128#32
  let v69 : BitVec 32 := Scalar.muli arg13 c128_i32
  let v70 : BitVec 32 := v69
  let v252 : Index := Scalar.indexCast v70
  ![24, v252.toNat]
def k0_off28 (k0_t1 : Fin k0_t1_loop.trips) : Fin 2 → Nat :=
  let c16 : Index := 16#32
  let c0_i32_13 : BitVec 32 := 0#32
  let c1_i32 : BitVec 32 := 1#32
  let arg13 : BitVec 32 := Scf.iv c0_i32_13 c1_i32 k0_t1
  let c128_i32 : BitVec 32 := 128#32
  let v69 : BitVec 32 := Scalar.muli arg13 c128_i32
  let v70 : BitVec 32 := v69
  let v259 : Index := Scalar.indexCast v70
  ![16, v259.toNat]
def k0_off29 (k0_t1 : Fin k0_t1_loop.trips) : Fin 2 → Nat :=
  let c8 : Index := 8#32
  let c0_i32_13 : BitVec 32 := 0#32
  let c1_i32 : BitVec 32 := 1#32
  let arg13 : BitVec 32 := Scf.iv c0_i32_13 c1_i32 k0_t1
  let c128_i32 : BitVec 32 := 128#32
  let v69 : BitVec 32 := Scalar.muli arg13 c128_i32
  let v70 : BitVec 32 := v69
  let v266 : Index := Scalar.indexCast v70
  ![8, v266.toNat]
def k0_off30 (k0_t1 : Fin k0_t1_loop.trips) : Fin 2 → Nat :=
  let c0_35 : Index := 0#32
  let c0_i32_13 : BitVec 32 := 0#32
  let c1_i32 : BitVec 32 := 1#32
  let arg13 : BitVec 32 := Scf.iv c0_i32_13 c1_i32 k0_t1
  let c128_i32 : BitVec 32 := 128#32
  let v69 : BitVec 32 := Scalar.muli arg13 c128_i32
  let v70 : BitVec 32 := v69
  let v273 : Index := Scalar.indexCast v70
  ![0, v273.toNat]
def k0_off31 (k0_t1 : Fin k0_t1_loop.trips) : Fin 2 → Nat :=
  let c23 : Index := 23#32
  let c0_i32_13 : BitVec 32 := 0#32
  let c1_i32 : BitVec 32 := 1#32
  let arg13 : BitVec 32 := Scf.iv c0_i32_13 c1_i32 k0_t1
  let c128_i32 : BitVec 32 := 128#32
  let v69 : BitVec 32 := Scalar.muli arg13 c128_i32
  let v70 : BitVec 32 := v69
  let v281 : Index := Scalar.indexCast v70
  ![23, v281.toNat]
def k0_off32 (k0_t1 : Fin k0_t1_loop.trips) : Fin 2 → Nat :=
  let c15 : Index := 15#32
  let c0_i32_13 : BitVec 32 := 0#32
  let c1_i32 : BitVec 32 := 1#32
  let arg13 : BitVec 32 := Scf.iv c0_i32_13 c1_i32 k0_t1
  let c128_i32 : BitVec 32 := 128#32
  let v69 : BitVec 32 := Scalar.muli arg13 c128_i32
  let v70 : BitVec 32 := v69
  let v288 : Index := Scalar.indexCast v70
  ![15, v288.toNat]
def k0_off33 (k0_t1 : Fin k0_t1_loop.trips) : Fin 2 → Nat :=
  let c7 : Index := 7#32
  let c0_i32_13 : BitVec 32 := 0#32
  let c1_i32 : BitVec 32 := 1#32
  let arg13 : BitVec 32 := Scf.iv c0_i32_13 c1_i32 k0_t1
  let c128_i32 : BitVec 32 := 128#32
  let v69 : BitVec 32 := Scalar.muli arg13 c128_i32
  let v70 : BitVec 32 := v69
  let v295 : Index := Scalar.indexCast v70
  ![7, v295.toNat]
def k0_off34 (k0_t1 : Fin k0_t1_loop.trips) : Fin 2 → Nat :=
  let c0_36 : Index := 0#32
  let c0_i32_13 : BitVec 32 := 0#32
  let c1_i32 : BitVec 32 := 1#32
  let arg13 : BitVec 32 := Scf.iv c0_i32_13 c1_i32 k0_t1
  let c128_i32 : BitVec 32 := 128#32
  let v69 : BitVec 32 := Scalar.muli arg13 c128_i32
  let v70 : BitVec 32 := v69
  let v302 : Index := Scalar.indexCast v70
  ![0, v302.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S2x16384x1024 : Shape := ⟨3, ![2, 16384, 1024]⟩
abbrev S1024 : Shape := ⟨1, ![1024]⟩
abbrev S1024x2048 : Shape := ⟨2, ![1024, 2048]⟩
abbrev S31x1024 : Shape := ⟨2, ![31, 1024]⟩
abbrev S1024x1024 : Shape := ⟨2, ![1024, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2048 : Shape := ⟨3, ![2, 16384, 2048]⟩
abbrev S1x1024 : Shape := ⟨2, ![1, 1024]⟩
abbrev S2x16414x1024 : Shape := ⟨3, ![2, 16414, 1024]⟩
abbrev S2x16413x1024 : Shape := ⟨3, ![2, 16413, 1024]⟩
abbrev S2x16412x1024 : Shape := ⟨3, ![2, 16412, 1024]⟩
abbrev S2x16411x1024 : Shape := ⟨3, ![2, 16411, 1024]⟩
abbrev S2x16410x1024 : Shape := ⟨3, ![2, 16410, 1024]⟩
abbrev S2x16409x1024 : Shape := ⟨3, ![2, 16409, 1024]⟩
abbrev S2x16408x1024 : Shape := ⟨3, ![2, 16408, 1024]⟩
abbrev S2x16407x1024 : Shape := ⟨3, ![2, 16407, 1024]⟩
abbrev S2x16406x1024 : Shape := ⟨3, ![2, 16406, 1024]⟩
abbrev S2x16405x1024 : Shape := ⟨3, ![2, 16405, 1024]⟩
abbrev S2x16404x1024 : Shape := ⟨3, ![2, 16404, 1024]⟩
abbrev S2x16403x1024 : Shape := ⟨3, ![2, 16403, 1024]⟩
abbrev S2x16402x1024 : Shape := ⟨3, ![2, 16402, 1024]⟩
abbrev S2x16401x1024 : Shape := ⟨3, ![2, 16401, 1024]⟩
abbrev S2x16400x1024 : Shape := ⟨3, ![2, 16400, 1024]⟩
abbrev S2x16399x1024 : Shape := ⟨3, ![2, 16399, 1024]⟩
abbrev S2x16398x1024 : Shape := ⟨3, ![2, 16398, 1024]⟩
abbrev S2x16397x1024 : Shape := ⟨3, ![2, 16397, 1024]⟩
abbrev S2x16396x1024 : Shape := ⟨3, ![2, 16396, 1024]⟩
abbrev S2x16395x1024 : Shape := ⟨3, ![2, 16395, 1024]⟩
abbrev S2x16394x1024 : Shape := ⟨3, ![2, 16394, 1024]⟩
abbrev S2x16393x1024 : Shape := ⟨3, ![2, 16393, 1024]⟩
abbrev S2x16392x1024 : Shape := ⟨3, ![2, 16392, 1024]⟩
abbrev S2x16391x1024 : Shape := ⟨3, ![2, 16391, 1024]⟩
abbrev S2x16390x1024 : Shape := ⟨3, ![2, 16390, 1024]⟩
abbrev S2x16389x1024 : Shape := ⟨3, ![2, 16389, 1024]⟩
abbrev S2x16388x1024 : Shape := ⟨3, ![2, 16388, 1024]⟩
abbrev S2x16387x1024 : Shape := ⟨3, ![2, 16387, 1024]⟩
abbrev S2x16386x1024 : Shape := ⟨3, ![2, 16386, 1024]⟩
abbrev S2x16385x1024 : Shape := ⟨3, ![2, 16385, 1024]⟩

abbrev nBuf : Space → Nat
  | .hbm => 385
  | .vmem => 0
  | .smem => 0
  | _ => 0

abbrev hbmTy0_0 (i : Nat) : BufTy := match i % 128 with
  | 0 => ⟨S2x16384x1024, .f32⟩
  | 1 => ⟨S1024, .f32⟩
  | 2 => ⟨S1024x2048, .f32⟩
  | 3 => ⟨S31x1024, .f32⟩
  | 4 => ⟨S1024, .f32⟩
  | 5 => ⟨S1024, .f32⟩
  | 6 => ⟨S1024, .f32⟩
  | 7 => ⟨S1024x1024, .f32⟩
  | 8 => ⟨S2x16384x1024, .f32⟩
  | 9 => ⟨S_, .f32⟩
  | 10 => ⟨S2x16384, .f32⟩
  | 11 => ⟨S2x16384x1, .f32⟩
  | 12 => ⟨S_, .f32⟩
  | 13 => ⟨S2x16384x1, .f32⟩
  | 14 => ⟨S2x16384x1, .f32⟩
  | 15 => ⟨S_, .f32⟩
  | 16 => ⟨S2x16384x1, .f32⟩
  | 17 => ⟨S2x16384x1, .f32⟩
  | 18 => ⟨S2x16384x1, .f32⟩
  | 19 => ⟨S2x16384x1024, .f32⟩
  | 20 => ⟨S2x16384x1024, .f32⟩
  | 21 => ⟨S1x1x1024, .f32⟩
  | 22 => ⟨S2x16384x1024, .f32⟩
  | 23 => ⟨S2x16384x1024, .f32⟩
  | 24 => ⟨S2x16384x2048, .f32⟩
  | 25 => ⟨S2x16384x1024, .f32⟩
  | 26 => ⟨S2x16384x1024, .f32⟩
  | 27 => ⟨S2x16384x1024, .f32⟩
  | 28 => ⟨S2x16384x1024, .f32⟩
  | 29 => ⟨S_, .f32⟩
  | 30 => ⟨S2x16384x1024, .f32⟩
  | 31 => ⟨S2x16384x1024, .f32⟩
  | 32 => ⟨S_, .f32⟩
  | 33 => ⟨S2x16384x1024, .f32⟩
  | 34 => ⟨S2x16384x1024, .f32⟩
  | 35 => ⟨S2x16384x1024, .f32⟩
  | 36 => ⟨S1x1024, .f32⟩
  | 37 => ⟨S1024, .f32⟩
  | 38 => ⟨S_, .i32⟩
  | 39 => ⟨S_, .f32⟩
  | 40 => ⟨S2x16414x1024, .f32⟩
  | 41 => ⟨S2x16384x1024, .f32⟩
  | 42 => ⟨S1x1x1024, .f32⟩
  | 43 => ⟨S2x16384x1024, .f32⟩
  | 44 => ⟨S2x16384x1024, .f32⟩
  | 45 => ⟨S1x1x1024, .f32⟩
  | 46 => ⟨S2x16384x1024, .f32⟩
  | 47 => ⟨S2x16384x1024, .f32⟩
  | 48 => ⟨S1x1024, .f32⟩
  | 49 => ⟨S1024, .f32⟩
  | 50 => ⟨S_, .i32⟩
  | 51 => ⟨S_, .f32⟩
  | 52 => ⟨S2x16413x1024, .f32⟩
  | 53 => ⟨S2x16384x1024, .f32⟩
  | 54 => ⟨S1x1x1024, .f32⟩
  | 55 => ⟨S2x16384x1024, .f32⟩
  | 56 => ⟨S2x16384x1024, .f32⟩
  | 57 => ⟨S2x16384x1024, .f32⟩
  | 58 => ⟨S1x1024, .f32⟩
  | 59 => ⟨S1024, .f32⟩
  | 60 => ⟨S_, .i32⟩
  | 61 => ⟨S_, .f32⟩
  | 62 => ⟨S2x16412x1024, .f32⟩
  | 63 => ⟨S2x16384x1024, .f32⟩
  | 64 => ⟨S1x1x1024, .f32⟩
  | 65 => ⟨S2x16384x1024, .f32⟩
  | 66 => ⟨S2x16384x1024, .f32⟩
  | 67 => ⟨S2x16384x1024, .f32⟩
  | 68 => ⟨S1x1024, .f32⟩
  | 69 => ⟨S1024, .f32⟩
  | 70 => ⟨S_, .i32⟩
  | 71 => ⟨S_, .f32⟩
  | 72 => ⟨S2x16411x1024, .f32⟩
  | 73 => ⟨S2x16384x1024, .f32⟩
  | 74 => ⟨S1x1x1024, .f32⟩
  | 75 => ⟨S2x16384x1024, .f32⟩
  | 76 => ⟨S2x16384x1024, .f32⟩
  | 77 => ⟨S2x16384x1024, .f32⟩
  | 78 => ⟨S1x1024, .f32⟩
  | 79 => ⟨S1024, .f32⟩
  | 80 => ⟨S_, .i32⟩
  | 81 => ⟨S_, .f32⟩
  | 82 => ⟨S2x16410x1024, .f32⟩
  | 83 => ⟨S2x16384x1024, .f32⟩
  | 84 => ⟨S1x1x1024, .f32⟩
  | 85 => ⟨S2x16384x1024, .f32⟩
  | 86 => ⟨S2x16384x1024, .f32⟩
  | 87 => ⟨S2x16384x1024, .f32⟩
  | 88 => ⟨S1x1024, .f32⟩
  | 89 => ⟨S1024, .f32⟩
  | 90 => ⟨S_, .i32⟩
  | 91 => ⟨S_, .f32⟩
  | 92 => ⟨S2x16409x1024, .f32⟩
  | 93 => ⟨S2x16384x1024, .f32⟩
  | 94 => ⟨S1x1x1024, .f32⟩
  | 95 => ⟨S2x16384x1024, .f32⟩
  | 96 => ⟨S2x16384x1024, .f32⟩
  | 97 => ⟨S2x16384x1024, .f32⟩
  | 98 => ⟨S1x1024, .f32⟩
  | 99 => ⟨S1024, .f32⟩
  | 100 => ⟨S_, .i32⟩
  | 101 => ⟨S_, .f32⟩
  | 102 => ⟨S2x16408x1024, .f32⟩
  | 103 => ⟨S2x16384x1024, .f32⟩
  | 104 => ⟨S1x1x1024, .f32⟩
  | 105 => ⟨S2x16384x1024, .f32⟩
  | 106 => ⟨S2x16384x1024, .f32⟩
  | 107 => ⟨S2x16384x1024, .f32⟩
  | 108 => ⟨S1x1024, .f32⟩
  | 109 => ⟨S1024, .f32⟩
  | 110 => ⟨S_, .i32⟩
  | 111 => ⟨S_, .f32⟩
  | 112 => ⟨S2x16407x1024, .f32⟩
  | 113 => ⟨S2x16384x1024, .f32⟩
  | 114 => ⟨S1x1x1024, .f32⟩
  | 115 => ⟨S2x16384x1024, .f32⟩
  | 116 => ⟨S2x16384x1024, .f32⟩
  | 117 => ⟨S2x16384x1024, .f32⟩
  | 118 => ⟨S1x1024, .f32⟩
  | 119 => ⟨S1024, .f32⟩
  | 120 => ⟨S_, .i32⟩
  | 121 => ⟨S_, .f32⟩
  | 122 => ⟨S2x16406x1024, .f32⟩
  | 123 => ⟨S2x16384x1024, .f32⟩
  | 124 => ⟨S1x1x1024, .f32⟩
  | 125 => ⟨S2x16384x1024, .f32⟩
  | 126 => ⟨S2x16384x1024, .f32⟩
  | 127 => ⟨S2x16384x1024, .f32⟩
  | _ => ⟨S2x16384x1024, .f32⟩

abbrev hbmTy0_1 (i : Nat) : BufTy := match i % 128 with
  | 0 => ⟨S1x1024, .f32⟩
  | 1 => ⟨S1024, .f32⟩
  | 2 => ⟨S_, .i32⟩
  | 3 => ⟨S_, .f32⟩
  | 4 => ⟨S2x16405x1024, .f32⟩
  | 5 => ⟨S2x16384x1024, .f32⟩
  | 6 => ⟨S1x1x1024, .f32⟩
  | 7 => ⟨S2x16384x1024, .f32⟩
  | 8 => ⟨S2x16384x1024, .f32⟩
  | 9 => ⟨S2x16384x1024, .f32⟩
  | 10 => ⟨S1x1024, .f32⟩
  | 11 => ⟨S1024, .f32⟩
  | 12 => ⟨S_, .i32⟩
  | 13 => ⟨S_, .f32⟩
  | 14 => ⟨S2x16404x1024, .f32⟩
  | 15 => ⟨S2x16384x1024, .f32⟩
  | 16 => ⟨S1x1x1024, .f32⟩
  | 17 => ⟨S2x16384x1024, .f32⟩
  | 18 => ⟨S2x16384x1024, .f32⟩
  | 19 => ⟨S2x16384x1024, .f32⟩
  | 20 => ⟨S1x1024, .f32⟩
  | 21 => ⟨S1024, .f32⟩
  | 22 => ⟨S_, .i32⟩
  | 23 => ⟨S_, .f32⟩
  | 24 => ⟨S2x16403x1024, .f32⟩
  | 25 => ⟨S2x16384x1024, .f32⟩
  | 26 => ⟨S1x1x1024, .f32⟩
  | 27 => ⟨S2x16384x1024, .f32⟩
  | 28 => ⟨S2x16384x1024, .f32⟩
  | 29 => ⟨S2x16384x1024, .f32⟩
  | 30 => ⟨S1x1024, .f32⟩
  | 31 => ⟨S1024, .f32⟩
  | 32 => ⟨S_, .i32⟩
  | 33 => ⟨S_, .f32⟩
  | 34 => ⟨S2x16402x1024, .f32⟩
  | 35 => ⟨S2x16384x1024, .f32⟩
  | 36 => ⟨S1x1x1024, .f32⟩
  | 37 => ⟨S2x16384x1024, .f32⟩
  | 38 => ⟨S2x16384x1024, .f32⟩
  | 39 => ⟨S2x16384x1024, .f32⟩
  | 40 => ⟨S1x1024, .f32⟩
  | 41 => ⟨S1024, .f32⟩
  | 42 => ⟨S_, .i32⟩
  | 43 => ⟨S_, .f32⟩
  | 44 => ⟨S2x16401x1024, .f32⟩
  | 45 => ⟨S2x16384x1024, .f32⟩
  | 46 => ⟨S1x1x1024, .f32⟩
  | 47 => ⟨S2x16384x1024, .f32⟩
  | 48 => ⟨S2x16384x1024, .f32⟩
  | 49 => ⟨S2x16384x1024, .f32⟩
  | 50 => ⟨S1x1024, .f32⟩
  | 51 => ⟨S1024, .f32⟩
  | 52 => ⟨S_, .i32⟩
  | 53 => ⟨S_, .f32⟩
  | 54 => ⟨S2x16400x1024, .f32⟩
  | 55 => ⟨S2x16384x1024, .f32⟩
  | 56 => ⟨S1x1x1024, .f32⟩
  | 57 => ⟨S2x16384x1024, .f32⟩
  | 58 => ⟨S2x16384x1024, .f32⟩
  | 59 => ⟨S2x16384x1024, .f32⟩
  | 60 => ⟨S1x1024, .f32⟩
  | 61 => ⟨S1024, .f32⟩
  | 62 => ⟨S_, .i32⟩
  | 63 => ⟨S_, .f32⟩
  | 64 => ⟨S2x16399x1024, .f32⟩
  | 65 => ⟨S2x16384x1024, .f32⟩
  | 66 => ⟨S1x1x1024, .f32⟩
  | 67 => ⟨S2x16384x1024, .f32⟩
  | 68 => ⟨S2x16384x1024, .f32⟩
  | 69 => ⟨S2x16384x1024, .f32⟩
  | 70 => ⟨S1x1024, .f32⟩
  | 71 => ⟨S1024, .f32⟩
  | 72 => ⟨S_, .i32⟩
  | 73 => ⟨S_, .f32⟩
  | 74 => ⟨S2x16398x1024, .f32⟩
  | 75 => ⟨S2x16384x1024, .f32⟩
  | 76 => ⟨S1x1x1024, .f32⟩
  | 77 => ⟨S2x16384x1024, .f32⟩
  | 78 => ⟨S2x16384x1024, .f32⟩
  | 79 => ⟨S2x16384x1024, .f32⟩
  | 80 => ⟨S1x1024, .f32⟩
  | 81 => ⟨S1024, .f32⟩
  | 82 => ⟨S_, .i32⟩
  | 83 => ⟨S_, .f32⟩
  | 84 => ⟨S2x16397x1024, .f32⟩
  | 85 => ⟨S2x16384x1024, .f32⟩
  | 86 => ⟨S1x1x1024, .f32⟩
  | 87 => ⟨S2x16384x1024, .f32⟩
  | 88 => ⟨S2x16384x1024, .f32⟩
  | 89 => ⟨S2x16384x1024, .f32⟩
  | 90 => ⟨S1x1024, .f32⟩
  | 91 => ⟨S1024, .f32⟩
  | 92 => ⟨S_, .i32⟩
  | 93 => ⟨S_, .f32⟩
  | 94 => ⟨S2x16396x1024, .f32⟩
  | 95 => ⟨S2x16384x1024, .f32⟩
  | 96 => ⟨S1x1x1024, .f32⟩
  | 97 => ⟨S2x16384x1024, .f32⟩
  | 98 => ⟨S2x16384x1024, .f32⟩
  | 99 => ⟨S2x16384x1024, .f32⟩
  | 100 => ⟨S1x1024, .f32⟩
  | 101 => ⟨S1024, .f32⟩
  | 102 => ⟨S_, .i32⟩
  | 103 => ⟨S_, .f32⟩
  | 104 => ⟨S2x16395x1024, .f32⟩
  | 105 => ⟨S2x16384x1024, .f32⟩
  | 106 => ⟨S1x1x1024, .f32⟩
  | 107 => ⟨S2x16384x1024, .f32⟩
  | 108 => ⟨S2x16384x1024, .f32⟩
  | 109 => ⟨S2x16384x1024, .f32⟩
  | 110 => ⟨S1x1024, .f32⟩
  | 111 => ⟨S1024, .f32⟩
  | 112 => ⟨S_, .i32⟩
  | 113 => ⟨S_, .f32⟩
  | 114 => ⟨S2x16394x1024, .f32⟩
  | 115 => ⟨S2x16384x1024, .f32⟩
  | 116 => ⟨S1x1x1024, .f32⟩
  | 117 => ⟨S2x16384x1024, .f32⟩
  | 118 => ⟨S2x16384x1024, .f32⟩
  | 119 => ⟨S2x16384x1024, .f32⟩
  | 120 => ⟨S1x1024, .f32⟩
  | 121 => ⟨S1024, .f32⟩
  | 122 => ⟨S_, .i32⟩
  | 123 => ⟨S_, .f32⟩
  | 124 => ⟨S2x16393x1024, .f32⟩
  | 125 => ⟨S2x16384x1024, .f32⟩
  | 126 => ⟨S1x1x1024, .f32⟩
  | 127 => ⟨S2x16384x1024, .f32⟩
  | _ => ⟨S2x16384x1024, .f32⟩

abbrev hbmTy0_2 (i : Nat) : BufTy := match i % 128 with
  | 0 => ⟨S2x16384x1024, .f32⟩
  | 1 => ⟨S2x16384x1024, .f32⟩
  | 2 => ⟨S1x1024, .f32⟩
  | 3 => ⟨S1024, .f32⟩
  | 4 => ⟨S_, .i32⟩
  | 5 => ⟨S_, .f32⟩
  | 6 => ⟨S2x16392x1024, .f32⟩
  | 7 => ⟨S2x16384x1024, .f32⟩
  | 8 => ⟨S1x1x1024, .f32⟩
  | 9 => ⟨S2x16384x1024, .f32⟩
  | 10 => ⟨S2x16384x1024, .f32⟩
  | 11 => ⟨S2x16384x1024, .f32⟩
  | 12 => ⟨S1x1024, .f32⟩
  | 13 => ⟨S1024, .f32⟩
  | 14 => ⟨S_, .i32⟩
  | 15 => ⟨S_, .f32⟩
  | 16 => ⟨S2x16391x1024, .f32⟩
  | 17 => ⟨S2x16384x1024, .f32⟩
  | 18 => ⟨S1x1x1024, .f32⟩
  | 19 => ⟨S2x16384x1024, .f32⟩
  | 20 => ⟨S2x16384x1024, .f32⟩
  | 21 => ⟨S2x16384x1024, .f32⟩
  | 22 => ⟨S1x1024, .f32⟩
  | 23 => ⟨S1024, .f32⟩
  | 24 => ⟨S_, .i32⟩
  | 25 => ⟨S_, .f32⟩
  | 26 => ⟨S2x16390x1024, .f32⟩
  | 27 => ⟨S2x16384x1024, .f32⟩
  | 28 => ⟨S1x1x1024, .f32⟩
  | 29 => ⟨S2x16384x1024, .f32⟩
  | 30 => ⟨S2x16384x1024, .f32⟩
  | 31 => ⟨S2x16384x1024, .f32⟩
  | 32 => ⟨S1x1024, .f32⟩
  | 33 => ⟨S1024, .f32⟩
  | 34 => ⟨S_, .i32⟩
  | 35 => ⟨S_, .f32⟩
  | 36 => ⟨S2x16389x1024, .f32⟩
  | 37 => ⟨S2x16384x1024, .f32⟩
  | 38 => ⟨S1x1x1024, .f32⟩
  | 39 => ⟨S2x16384x1024, .f32⟩
  | 40 => ⟨S2x16384x1024, .f32⟩
  | 41 => ⟨S2x16384x1024, .f32⟩
  | 42 => ⟨S1x1024, .f32⟩
  | 43 => ⟨S1024, .f32⟩
  | 44 => ⟨S_, .i32⟩
  | 45 => ⟨S_, .f32⟩
  | 46 => ⟨S2x16388x1024, .f32⟩
  | 47 => ⟨S2x16384x1024, .f32⟩
  | 48 => ⟨S1x1x1024, .f32⟩
  | 49 => ⟨S2x16384x1024, .f32⟩
  | 50 => ⟨S2x16384x1024, .f32⟩
  | 51 => ⟨S2x16384x1024, .f32⟩
  | 52 => ⟨S1x1024, .f32⟩
  | 53 => ⟨S1024, .f32⟩
  | 54 => ⟨S_, .i32⟩
  | 55 => ⟨S_, .f32⟩
  | 56 => ⟨S2x16387x1024, .f32⟩
  | 57 => ⟨S2x16384x1024, .f32⟩
  | 58 => ⟨S1x1x1024, .f32⟩
  | 59 => ⟨S2x16384x1024, .f32⟩
  | 60 => ⟨S2x16384x1024, .f32⟩
  | 61 => ⟨S2x16384x1024, .f32⟩
  | 62 => ⟨S1x1024, .f32⟩
  | 63 => ⟨S1024, .f32⟩
  | 64 => ⟨S_, .i32⟩
  | 65 => ⟨S_, .f32⟩
  | 66 => ⟨S2x16386x1024, .f32⟩
  | 67 => ⟨S2x16384x1024, .f32⟩
  | 68 => ⟨S1x1x1024, .f32⟩
  | 69 => ⟨S2x16384x1024, .f32⟩
  | 70 => ⟨S2x16384x1024, .f32⟩
  | 71 => ⟨S2x16384x1024, .f32⟩
  | 72 => ⟨S1x1024, .f32⟩
  | 73 => ⟨S1024, .f32⟩
  | 74 => ⟨S_, .i32⟩
  | 75 => ⟨S_, .f32⟩
  | 76 => ⟨S2x16385x1024, .f32⟩
  | 77 => ⟨S2x16384x1024, .f32⟩
  | 78 => ⟨S1x1x1024, .f32⟩
  | 79 => ⟨S2x16384x1024, .f32⟩
  | 80 => ⟨S2x16384x1024, .f32⟩
  | 81 => ⟨S2x16384x1024, .f32⟩
  | 82 => ⟨S1x1024, .f32⟩
  | 83 => ⟨S1024, .f32⟩
  | 84 => ⟨S_, .i32⟩
  | 85 => ⟨S_, .f32⟩
  | 86 => ⟨S2x16384x1024, .f32⟩
  | 87 => ⟨S1x1x1024, .f32⟩
  | 88 => ⟨S2x16384x1024, .f32⟩
  | 89 => ⟨S2x16384x1024, .f32⟩
  | 90 => ⟨S2x16384x1024, .f32⟩
  | 91 => ⟨S_, .f32⟩
  | 92 => ⟨S2x16384, .f32⟩
  | 93 => ⟨S2x16384x1, .f32⟩
  | 94 => ⟨S_, .f32⟩
  | 95 => ⟨S2x16384x1, .f32⟩
  | 96 => ⟨S2x16384x1, .f32⟩
  | 97 => ⟨S2x16384x1024, .f32⟩
  | 98 => ⟨S2x16384x1024, .f32⟩
  | 99 => ⟨S2x16384x1024, .f32⟩
  | 100 => ⟨S_, .f32⟩
  | 101 => ⟨S2x16384, .f32⟩
  | 102 => ⟨S2x16384x1, .f32⟩
  | 103 => ⟨S_, .f32⟩
  | 104 => ⟨S2x16384x1, .f32⟩
  | 105 => ⟨S2x16384x1, .f32⟩
  | 106 => ⟨S_, .f32⟩
  | 107 => ⟨S2x16384x1, .f32⟩
  | 108 => ⟨S2x16384x1, .f32⟩
  | 109 => ⟨S2x16384x1, .f32⟩
  | 110 => ⟨S2x16384x1024, .f32⟩
  | 111 => ⟨S2x16384x1024, .f32⟩
  | 112 => ⟨S1x1x1024, .f32⟩
  | 113 => ⟨S2x16384x1024, .f32⟩
  | 114 => ⟨S2x16384x1024, .f32⟩
  | 115 => ⟨S1x1x1024, .f32⟩
  | 116 => ⟨S2x16384x1024, .f32⟩
  | 117 => ⟨S2x16384x1024, .f32⟩
  | 118 => ⟨S2x16384x1024, .f32⟩
  | 119 => ⟨S2x16384x1024, .f32⟩
  | 120 => ⟨S_, .f32⟩
  | 121 => ⟨S2x16384x1024, .f32⟩
  | 122 => ⟨S2x16384x1024, .f32⟩
  | 123 => ⟨S_, .f32⟩
  | 124 => ⟨S2x16384x1024, .f32⟩
  | 125 => ⟨S2x16384x1024, .f32⟩
  | 126 => ⟨S2x16384x1024, .f32⟩
  | 127 => ⟨S2x16384x1024, .f32⟩
  | _ => ⟨S2x16384x1024, .f32⟩

abbrev hbmTy0_3 (i : Nat) : BufTy := match i % 128 with
  | 0 => ⟨S2x16384x1024, .f32⟩
  | _ => ⟨S2x16384x1024, .f32⟩

abbrev hbmTy (i : Nat) : BufTy := match i / 128 with
  | 0 => hbmTy0_0 i
  | 1 => hbmTy0_1 i
  | 2 => hbmTy0_2 i
  | 3 => hbmTy0_3 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c : Ref sig .tc := ⟨.hbm, 38, rfl⟩
abbrev main_call0_v0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_4 : Ref sig .tc := ⟨.hbm, 50, rfl⟩
abbrev main_call1_v0 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_5 : Ref sig .tc := ⟨.hbm, 60, rfl⟩
abbrev main_call2_v0 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_6 : Ref sig .tc := ⟨.hbm, 70, rfl⟩
abbrev main_call3_v0 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_7 : Ref sig .tc := ⟨.hbm, 80, rfl⟩
abbrev main_call4_v0 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_c_8 : Ref sig .tc := ⟨.hbm, 90, rfl⟩
abbrev main_call5_v0 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_c_9 : Ref sig .tc := ⟨.hbm, 100, rfl⟩
abbrev main_call6_v0 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_c_10 : Ref sig .tc := ⟨.hbm, 110, rfl⟩
abbrev main_call7_v0 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_c_11 : Ref sig .tc := ⟨.hbm, 120, rfl⟩
abbrev main_call8_v0 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_c_12 : Ref sig .tc := ⟨.hbm, 130, rfl⟩
abbrev main_call9_v0 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_c_13 : Ref sig .tc := ⟨.hbm, 140, rfl⟩
abbrev main_call10_v0 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_c_14 : Ref sig .tc := ⟨.hbm, 150, rfl⟩
abbrev main_call11_v0 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_c_15 : Ref sig .tc := ⟨.hbm, 160, rfl⟩
abbrev main_call12_v0 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_c_16 : Ref sig .tc := ⟨.hbm, 170, rfl⟩
abbrev main_call13_v0 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_c_17 : Ref sig .tc := ⟨.hbm, 180, rfl⟩
abbrev main_call14_v0 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_c_18 : Ref sig .tc := ⟨.hbm, 190, rfl⟩
abbrev main_call15_v0 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_c_19 : Ref sig .tc := ⟨.hbm, 200, rfl⟩
abbrev main_call16_v0 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_c_20 : Ref sig .tc := ⟨.hbm, 210, rfl⟩
abbrev main_call17_v0 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_c_21 : Ref sig .tc := ⟨.hbm, 220, rfl⟩
abbrev main_call18_v0 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_c_22 : Ref sig .tc := ⟨.hbm, 230, rfl⟩
abbrev main_call19_v0 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_c_23 : Ref sig .tc := ⟨.hbm, 240, rfl⟩
abbrev main_call20_v0 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_c_24 : Ref sig .tc := ⟨.hbm, 250, rfl⟩
abbrev main_call21_v0 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_c_25 : Ref sig .tc := ⟨.hbm, 260, rfl⟩
abbrev main_call22_v0 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_c_26 : Ref sig .tc := ⟨.hbm, 270, rfl⟩
abbrev main_call23_v0 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_c_27 : Ref sig .tc := ⟨.hbm, 280, rfl⟩
abbrev main_call24_v0 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_v222 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_v226 : Ref sig .tc := ⟨.hbm, 289, rfl⟩
abbrev main_c_28 : Ref sig .tc := ⟨.hbm, 290, rfl⟩
abbrev main_call25_v0 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_c_29 : Ref sig .tc := ⟨.hbm, 300, rfl⟩
abbrev main_call26_v0 : Ref sig .tc := ⟨.hbm, 301, rfl⟩
abbrev main_v235 : Ref sig .tc := ⟨.hbm, 302, rfl⟩
abbrev main_v236 : Ref sig .tc := ⟨.hbm, 303, rfl⟩
abbrev main_v237 : Ref sig .tc := ⟨.hbm, 304, rfl⟩
abbrev main_v238 : Ref sig .tc := ⟨.hbm, 305, rfl⟩
abbrev main_v239 : Ref sig .tc := ⟨.hbm, 306, rfl⟩
abbrev main_v240 : Ref sig .tc := ⟨.hbm, 307, rfl⟩
abbrev main_v241 : Ref sig .tc := ⟨.hbm, 308, rfl⟩
abbrev main_v242 : Ref sig .tc := ⟨.hbm, 309, rfl⟩
abbrev main_c_30 : Ref sig .tc := ⟨.hbm, 310, rfl⟩
abbrev main_call27_v0 : Ref sig .tc := ⟨.hbm, 311, rfl⟩
abbrev main_v243 : Ref sig .tc := ⟨.hbm, 312, rfl⟩
abbrev main_v244 : Ref sig .tc := ⟨.hbm, 313, rfl⟩
abbrev main_v245 : Ref sig .tc := ⟨.hbm, 314, rfl⟩
abbrev main_v246 : Ref sig .tc := ⟨.hbm, 315, rfl⟩
abbrev main_v247 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_c_31 : Ref sig .tc := ⟨.hbm, 320, rfl⟩
abbrev main_call28_v0 : Ref sig .tc := ⟨.hbm, 321, rfl⟩
abbrev main_v251 : Ref sig .tc := ⟨.hbm, 322, rfl⟩
abbrev main_v252 : Ref sig .tc := ⟨.hbm, 323, rfl⟩
abbrev main_v253 : Ref sig .tc := ⟨.hbm, 324, rfl⟩
abbrev main_v254 : Ref sig .tc := ⟨.hbm, 325, rfl⟩
abbrev main_v255 : Ref sig .tc := ⟨.hbm, 326, rfl⟩
abbrev main_v256 : Ref sig .tc := ⟨.hbm, 327, rfl⟩
abbrev main_v257 : Ref sig .tc := ⟨.hbm, 328, rfl⟩
abbrev main_v258 : Ref sig .tc := ⟨.hbm, 329, rfl⟩
abbrev main_c_32 : Ref sig .tc := ⟨.hbm, 330, rfl⟩
abbrev main_call29_v0 : Ref sig .tc := ⟨.hbm, 331, rfl⟩
abbrev main_v259 : Ref sig .tc := ⟨.hbm, 332, rfl⟩
abbrev main_v260 : Ref sig .tc := ⟨.hbm, 333, rfl⟩
abbrev main_v261 : Ref sig .tc := ⟨.hbm, 334, rfl⟩
abbrev main_v262 : Ref sig .tc := ⟨.hbm, 335, rfl⟩
abbrev main_v263 : Ref sig .tc := ⟨.hbm, 336, rfl⟩
abbrev main_v264 : Ref sig .tc := ⟨.hbm, 337, rfl⟩
abbrev main_v265 : Ref sig .tc := ⟨.hbm, 338, rfl⟩
abbrev main_v266 : Ref sig .tc := ⟨.hbm, 339, rfl⟩
abbrev main_c_33 : Ref sig .tc := ⟨.hbm, 340, rfl⟩
abbrev main_call30_v0 : Ref sig .tc := ⟨.hbm, 341, rfl⟩
abbrev main_v267 : Ref sig .tc := ⟨.hbm, 342, rfl⟩
abbrev main_v268 : Ref sig .tc := ⟨.hbm, 343, rfl⟩
abbrev main_v269 : Ref sig .tc := ⟨.hbm, 344, rfl⟩
abbrev main_v270 : Ref sig .tc := ⟨.hbm, 345, rfl⟩
abbrev main_v271 : Ref sig .tc := ⟨.hbm, 346, rfl⟩
abbrev main_cst_34 : Ref sig .tc := ⟨.hbm, 347, rfl⟩
abbrev main_v272 : Ref sig .tc := ⟨.hbm, 348, rfl⟩
abbrev main_v273 : Ref sig .tc := ⟨.hbm, 349, rfl⟩
abbrev main_cst_35 : Ref sig .tc := ⟨.hbm, 350, rfl⟩
abbrev main_v274 : Ref sig .tc := ⟨.hbm, 351, rfl⟩
abbrev main_v275 : Ref sig .tc := ⟨.hbm, 352, rfl⟩
abbrev main_v276 : Ref sig .tc := ⟨.hbm, 353, rfl⟩
abbrev main_v277 : Ref sig .tc := ⟨.hbm, 354, rfl⟩
abbrev main_v278 : Ref sig .tc := ⟨.hbm, 355, rfl⟩
abbrev main_cst_36 : Ref sig .tc := ⟨.hbm, 356, rfl⟩
abbrev main_v279 : Ref sig .tc := ⟨.hbm, 357, rfl⟩
abbrev main_v280 : Ref sig .tc := ⟨.hbm, 358, rfl⟩
abbrev main_cst_37 : Ref sig .tc := ⟨.hbm, 359, rfl⟩
abbrev main_v281 : Ref sig .tc := ⟨.hbm, 360, rfl⟩
abbrev main_v282 : Ref sig .tc := ⟨.hbm, 361, rfl⟩
abbrev main_cst_38 : Ref sig .tc := ⟨.hbm, 362, rfl⟩
abbrev main_v283 : Ref sig .tc := ⟨.hbm, 363, rfl⟩
abbrev main_v284 : Ref sig .tc := ⟨.hbm, 364, rfl⟩
abbrev main_v285 : Ref sig .tc := ⟨.hbm, 365, rfl⟩
abbrev main_v286 : Ref sig .tc := ⟨.hbm, 366, rfl⟩
abbrev main_v287 : Ref sig .tc := ⟨.hbm, 367, rfl⟩
abbrev main_v288 : Ref sig .tc := ⟨.hbm, 368, rfl⟩
abbrev main_v289 : Ref sig .tc := ⟨.hbm, 369, rfl⟩
abbrev main_v290 : Ref sig .tc := ⟨.hbm, 370, rfl⟩
abbrev main_v291 : Ref sig .tc := ⟨.hbm, 371, rfl⟩
abbrev main_v292 : Ref sig .tc := ⟨.hbm, 372, rfl⟩
abbrev main_v293 : Ref sig .tc := ⟨.hbm, 373, rfl⟩
abbrev main_v294 : Ref sig .tc := ⟨.hbm, 374, rfl⟩
abbrev main_v295 : Ref sig .tc := ⟨.hbm, 375, rfl⟩
abbrev main_cst_39 : Ref sig .tc := ⟨.hbm, 376, rfl⟩
abbrev main_v296 : Ref sig .tc := ⟨.hbm, 377, rfl⟩
abbrev main_v297 : Ref sig .tc := ⟨.hbm, 378, rfl⟩
abbrev main_cst_40 : Ref sig .tc := ⟨.hbm, 379, rfl⟩
abbrev main_v298 : Ref sig .tc := ⟨.hbm, 380, rfl⟩
abbrev main_v299 : Ref sig .tc := ⟨.hbm, 381, rfl⟩
abbrev main_v300 : Ref sig .tc := ⟨.hbm, 382, rfl⟩
abbrev main_v301 : Ref sig .tc := ⟨.hbm, 383, rfl⟩
abbrev main_v302 : Ref sig .tc := ⟨.hbm, 384, rfl⟩

abbrev nD : Nat := 1
abbrev τ : Topo := Topo.v7x

variable {F : FTy → Type} [FloatOps F]
-- ==== Kernel4.lean ====
abbrev S2x16384x512 : Shape := ⟨3, ![2, 16384, 512]⟩
abbrev S2x16384x1024 : Shape := ⟨3, ![2, 16384, 1024]⟩
abbrev S4x128x128 : Shape := ⟨3, ![4, 128, 128]⟩
abbrev S512 : Shape := ⟨1, ![512]⟩
abbrev S1024x1024 : Shape := ⟨2, ![1024, 1024]⟩
abbrev S1x512 : Shape := ⟨2, ![1, 512]⟩
abbrev S1x512x512 : Shape := ⟨3, ![1, 512, 512]⟩
abbrev S1x512x1024 : Shape := ⟨3, ![1, 512, 1024]⟩
abbrev S16x512 : Shape := ⟨2, ![16, 512]⟩
abbrev S512x512 : Shape := ⟨2, ![512, 512]⟩
abbrev S512x1 : Shape := ⟨2, ![512, 1]⟩
abbrev S512x128 : Shape := ⟨2, ![512, 128]⟩
abbrev S16x128 : Shape := ⟨2, ![16, 128]⟩
abbrev S528x128 : Shape := ⟨2, ![528, 128]⟩
abbrev S1x128x128 : Shape := ⟨3, ![1, 128, 128]⟩
abbrev S128x128 : Shape := ⟨2, ![128, 128]⟩
abbrev S1x128 : Shape := ⟨2, ![1, 128]⟩
abbrev S512x1024 : Shape := ⟨2, ![512, 1024]⟩

abbrev nBuf : Space → Nat
  | .hbm => 10
  | .vmem => 12
  | .smem => 0
  | _ => 0

abbrev bufTy : (tb : Table) → Fin (tcTables nBuf tb) → BufTy
  | .hbm, ⟨0, _⟩ => ⟨S2x16384x512, .bf16⟩
  | .hbm, ⟨1, _⟩ => ⟨S2x16384x512, .f32⟩
  | .hbm, ⟨2, _⟩ => ⟨S2x16384x1024, .f32⟩
  | .hbm, ⟨3, _⟩ => ⟨S4x128x128, .f32⟩
  | .hbm, ⟨4, _⟩ => ⟨S512, .f32⟩
  | .hbm, ⟨5, _⟩ => ⟨S1024x1024, .f32⟩
  | .hbm, ⟨6, _⟩ => ⟨S4x128x128, .bf16⟩
  | .hbm, ⟨7, _⟩ => ⟨S1x512, .f32⟩
  | .hbm, ⟨8, _⟩ => ⟨S1024x1024, .bf16⟩
  | .hbm, ⟨9, _⟩ => ⟨S2x16384x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .f32⟩
  | .local _ .vmem, ⟨3, _⟩ => ⟨S1x512x512, .f32⟩
  | .local _ .vmem, ⟨4, _⟩ => ⟨S1x512x1024, .f32⟩
  | .local _ .vmem, ⟨5, _⟩ => ⟨S1x512x1024, .f32⟩
  | .local _ .vmem, ⟨6, _⟩ => ⟨S4x128x128, .bf16⟩
  | .local _ .vmem, ⟨7, _⟩ => ⟨S1x512, .f32⟩
  | .local _ .vmem, ⟨8, _⟩ => ⟨S1024x1024, .bf16⟩
  | .local _ .vmem, ⟨9, _⟩ => ⟨S1x512x1024, .f32⟩
  | .local _ .vmem, ⟨10, _⟩ => ⟨S1x512x1024, .f32⟩
  | .local _ .vmem, ⟨11, _⟩ => ⟨S16x512, .f32⟩
  | _, _ => ⟨S2x16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S2x16384x512 : Shape := ⟨3, ![2, 16384, 512]⟩
abbrev S2x16384x1024 : Shape := ⟨3, ![2, 16384, 1024]⟩
abbrev S4x128x128 : Shape := ⟨3, ![4, 128, 128]⟩
abbrev S512 : Shape := ⟨1, ![512]⟩
abbrev S1024x1024 : Shape := ⟨2, ![1024, 1024]⟩
abbrev S2x16384x128 : Shape := ⟨3, ![2, 16384, 128]⟩
abbrev S_ : Shape := ⟨0, ![]⟩
abbrev S2x16385x128 : Shape := ⟨3, ![2, 16385, 128]⟩
abbrev S16384 : Shape := ⟨1, ![16384]⟩
abbrev S16384x1 : Shape := ⟨2, ![16384, 1]⟩
abbrev S1x16384x1 : Shape := ⟨3, ![1, 16384, 1]⟩
abbrev S1x128x128 : Shape := ⟨3, ![1, 128, 128]⟩
abbrev S128x128 : Shape := ⟨2, ![128, 128]⟩
abbrev S128 : Shape := ⟨1, ![128]⟩
abbrev S1x1x128 : Shape := ⟨3, ![1, 1, 128]⟩
abbrev S2x16386x128 : Shape := ⟨3, ![2, 16386, 128]⟩
abbrev S2x16387x128 : Shape := ⟨3, ![2, 16387, 128]⟩
abbrev S2x16388x128 : Shape := ⟨3, ![2, 16388, 128]⟩
abbrev S2x16389x128 : Shape := ⟨3, ![2, 16389, 128]⟩
abbrev S2x16390x128 : Shape := ⟨3, ![2, 16390, 128]⟩
abbrev S2x16391x128 : Shape := ⟨3, ![2, 16391, 128]⟩
abbrev S2x16392x128 : Shape := ⟨3, ![2, 16392, 128]⟩
abbrev S2x16393x128 : Shape := ⟨3, ![2, 16393, 128]⟩
abbrev S2x16394x128 : Shape := ⟨3, ![2, 16394, 128]⟩
abbrev S2x16395x128 : Shape := ⟨3, ![2, 16395, 128]⟩
abbrev S2x16396x128 : Shape := ⟨3, ![2, 16396, 128]⟩
abbrev S2x16397x128 : Shape := ⟨3, ![2, 16397, 128]⟩
abbrev S2x16398x128 : Shape := ⟨3, ![2, 16398, 128]⟩
abbrev S2x16399x128 : Shape := ⟨3, ![2, 16399, 128]⟩

abbrev nBuf : Space → Nat
  | .hbm => 224
  | .vmem => 0
  | .smem => 0
  | _ => 0

abbrev hbmTy0_0 (i : Nat) : BufTy := match i % 128 with
  | 0 => ⟨S2x16384x512, .bf16⟩
  | 1 => ⟨S2x16384x512, .f32⟩
  | 2 => ⟨S2x16384x1024, .f32⟩
  | 3 => ⟨S4x128x128, .f32⟩
  | 4 => ⟨S512, .f32⟩
  | 5 => ⟨S1024x1024, .f32⟩
  | 6 => ⟨S2x16384x512, .f32⟩
  | 7 => ⟨S2x16384x128, .f32⟩
  | 8 => ⟨S_, .i32⟩
  | 9 => ⟨S_, .f32⟩
  | 10 => ⟨S2x16385x128, .f32⟩
  | 11 => ⟨S2x16384x128, .f32⟩
  | 12 => ⟨S2x16384x128, .f32⟩
  | 13 => ⟨S16384, .i32⟩
  | 14 => ⟨S_, .i32⟩
  | 15 => ⟨S16384, .i32⟩
  | 16 => ⟨S16384, .i32⟩
  | 17 => ⟨S16384, .f32⟩
  | 18 => ⟨S_, .f32⟩
  | 19 => ⟨S16384, .f32⟩
  | 20 => ⟨S16384, .f32⟩
  | 21 => ⟨S16384x1, .f32⟩
  | 22 => ⟨S1x16384x1, .f32⟩
  | 23 => ⟨S2x16384x128, .f32⟩
  | 24 => ⟨S2x16384x128, .f32⟩
  | 25 => ⟨S2x16384x128, .f32⟩
  | 26 => ⟨S1x128x128, .f32⟩
  | 27 => ⟨S128x128, .f32⟩
  | 28 => ⟨S2x16384x128, .f32⟩
  | 29 => ⟨S128, .f32⟩
  | 30 => ⟨S1x1x128, .f32⟩
  | 31 => ⟨S2x16384x128, .f32⟩
  | 32 => ⟨S2x16384x128, .f32⟩
  | 33 => ⟨S2x16384x128, .f32⟩
  | 34 => ⟨S_, .i32⟩
  | 35 => ⟨S_, .f32⟩
  | 36 => ⟨S2x16385x128, .f32⟩
  | 37 => ⟨S2x16384x128, .f32⟩
  | 38 => ⟨S2x16384x128, .f32⟩
  | 39 => ⟨S_, .i32⟩
  | 40 => ⟨S_, .f32⟩
  | 41 => ⟨S2x16386x128, .f32⟩
  | 42 => ⟨S2x16384x128, .f32⟩
  | 43 => ⟨S2x16384x128, .f32⟩
  | 44 => ⟨S_, .i32⟩
  | 45 => ⟨S_, .f32⟩
  | 46 => ⟨S2x16387x128, .f32⟩
  | 47 => ⟨S2x16384x128, .f32⟩
  | 48 => ⟨S2x16384x128, .f32⟩
  | 49 => ⟨S16384, .i32⟩
  | 50 => ⟨S_, .i32⟩
  | 51 => ⟨S16384, .i32⟩
  | 52 => ⟨S16384, .i32⟩
  | 53 => ⟨S16384, .f32⟩
  | 54 => ⟨S_, .f32⟩
  | 55 => ⟨S16384, .f32⟩
  | 56 => ⟨S16384, .f32⟩
  | 57 => ⟨S16384x1, .f32⟩
  | 58 => ⟨S1x16384x1, .f32⟩
  | 59 => ⟨S2x16384x128, .f32⟩
  | 60 => ⟨S2x16384x128, .f32⟩
  | 61 => ⟨S2x16384x128, .f32⟩
  | 62 => ⟨S1x128x128, .f32⟩
  | 63 => ⟨S128x128, .f32⟩
  | 64 => ⟨S2x16384x128, .f32⟩
  | 65 => ⟨S128, .f32⟩
  | 66 => ⟨S1x1x128, .f32⟩
  | 67 => ⟨S2x16384x128, .f32⟩
  | 68 => ⟨S2x16384x128, .f32⟩
  | 69 => ⟨S2x16384x128, .f32⟩
  | 70 => ⟨S_, .i32⟩
  | 71 => ⟨S_, .f32⟩
  | 72 => ⟨S2x16385x128, .f32⟩
  | 73 => ⟨S2x16384x128, .f32⟩
  | 74 => ⟨S2x16384x128, .f32⟩
  | 75 => ⟨S_, .i32⟩
  | 76 => ⟨S_, .f32⟩
  | 77 => ⟨S2x16386x128, .f32⟩
  | 78 => ⟨S2x16384x128, .f32⟩
  | 79 => ⟨S2x16384x128, .f32⟩
  | 80 => ⟨S_, .i32⟩
  | 81 => ⟨S_, .f32⟩
  | 82 => ⟨S2x16387x128, .f32⟩
  | 83 => ⟨S2x16384x128, .f32⟩
  | 84 => ⟨S2x16384x128, .f32⟩
  | 85 => ⟨S_, .i32⟩
  | 86 => ⟨S_, .f32⟩
  | 87 => ⟨S2x16388x128, .f32⟩
  | 88 => ⟨S2x16384x128, .f32⟩
  | 89 => ⟨S2x16384x128, .f32⟩
  | 90 => ⟨S_, .i32⟩
  | 91 => ⟨S_, .f32⟩
  | 92 => ⟨S2x16389x128, .f32⟩
  | 93 => ⟨S2x16384x128, .f32⟩
  | 94 => ⟨S2x16384x128, .f32⟩
  | 95 => ⟨S_, .i32⟩
  | 96 => ⟨S_, .f32⟩
  | 97 => ⟨S2x16390x128, .f32⟩
  | 98 => ⟨S2x16384x128, .f32⟩
  | 99 => ⟨S2x16384x128, .f32⟩
  | 100 => ⟨S_, .i32⟩
  | 101 => ⟨S_, .f32⟩
  | 102 => ⟨S2x16391x128, .f32⟩
  | 103 => ⟨S2x16384x128, .f32⟩
  | 104 => ⟨S2x16384x128, .f32⟩
  | 105 => ⟨S16384, .i32⟩
  | 106 => ⟨S_, .i32⟩
  | 107 => ⟨S16384, .i32⟩
  | 108 => ⟨S16384, .i32⟩
  | 109 => ⟨S16384, .f32⟩
  | 110 => ⟨S_, .f32⟩
  | 111 => ⟨S16384, .f32⟩
  | 112 => ⟨S16384, .f32⟩
  | 113 => ⟨S16384x1, .f32⟩
  | 114 => ⟨S1x16384x1, .f32⟩
  | 115 => ⟨S2x16384x128, .f32⟩
  | 116 => ⟨S2x16384x128, .f32⟩
  | 117 => ⟨S2x16384x128, .f32⟩
  | 118 => ⟨S1x128x128, .f32⟩
  | 119 => ⟨S128x128, .f32⟩
  | 120 => ⟨S2x16384x128, .f32⟩
  | 121 => ⟨S128, .f32⟩
  | 122 => ⟨S1x1x128, .f32⟩
  | 123 => ⟨S2x16384x128, .f32⟩
  | 124 => ⟨S2x16384x128, .f32⟩
  | 125 => ⟨S2x16384x128, .f32⟩
  | 126 => ⟨S_, .i32⟩
  | 127 => ⟨S_, .f32⟩
  | _ => ⟨S2x16384x512, .bf16⟩

abbrev hbmTy0_1 (i : Nat) : BufTy := match i % 128 with
  | 0 => ⟨S2x16385x128, .f32⟩
  | 1 => ⟨S2x16384x128, .f32⟩
  | 2 => ⟨S2x16384x128, .f32⟩
  | 3 => ⟨S_, .i32⟩
  | 4 => ⟨S_, .f32⟩
  | 5 => ⟨S2x16386x128, .f32⟩
  | 6 => ⟨S2x16384x128, .f32⟩
  | 7 => ⟨S2x16384x128, .f32⟩
  | 8 => ⟨S_, .i32⟩
  | 9 => ⟨S_, .f32⟩
  | 10 => ⟨S2x16387x128, .f32⟩
  | 11 => ⟨S2x16384x128, .f32⟩
  | 12 => ⟨S2x16384x128, .f32⟩
  | 13 => ⟨S_, .i32⟩
  | 14 => ⟨S_, .f32⟩
  | 15 => ⟨S2x16388x128, .f32⟩
  | 16 => ⟨S2x16384x128, .f32⟩
  | 17 => ⟨S2x16384x128, .f32⟩
  | 18 => ⟨S_, .i32⟩
  | 19 => ⟨S_, .f32⟩
  | 20 => ⟨S2x16389x128, .f32⟩
  | 21 => ⟨S2x16384x128, .f32⟩
  | 22 => ⟨S2x16384x128, .f32⟩
  | 23 => ⟨S_, .i32⟩
  | 24 => ⟨S_, .f32⟩
  | 25 => ⟨S2x16390x128, .f32⟩
  | 26 => ⟨S2x16384x128, .f32⟩
  | 27 => ⟨S2x16384x128, .f32⟩
  | 28 => ⟨S_, .i32⟩
  | 29 => ⟨S_, .f32⟩
  | 30 => ⟨S2x16391x128, .f32⟩
  | 31 => ⟨S2x16384x128, .f32⟩
  | 32 => ⟨S2x16384x128, .f32⟩
  | 33 => ⟨S_, .i32⟩
  | 34 => ⟨S_, .f32⟩
  | 35 => ⟨S2x16392x128, .f32⟩
  | 36 => ⟨S2x16384x128, .f32⟩
  | 37 => ⟨S2x16384x128, .f32⟩
  | 38 => ⟨S_, .i32⟩
  | 39 => ⟨S_, .f32⟩
  | 40 => ⟨S2x16393x128, .f32⟩
  | 41 => ⟨S2x16384x128, .f32⟩
  | 42 => ⟨S2x16384x128, .f32⟩
  | 43 => ⟨S_, .i32⟩
  | 44 => ⟨S_, .f32⟩
  | 45 => ⟨S2x16394x128, .f32⟩
  | 46 => ⟨S2x16384x128, .f32⟩
  | 47 => ⟨S2x16384x128, .f32⟩
  | 48 => ⟨S_, .i32⟩
  | 49 => ⟨S_, .f32⟩
  | 50 => ⟨S2x16395x128, .f32⟩
  | 51 => ⟨S2x16384x128, .f32⟩
  | 52 => ⟨S2x16384x128, .f32⟩
  | 53 => ⟨S_, .i32⟩
  | 54 => ⟨S_, .f32⟩
  | 55 => ⟨S2x16396x128, .f32⟩
  | 56 => ⟨S2x16384x128, .f32⟩
  | 57 => ⟨S2x16384x128, .f32⟩
  | 58 => ⟨S_, .i32⟩
  | 59 => ⟨S_, .f32⟩
  | 60 => ⟨S2x16397x128, .f32⟩
  | 61 => ⟨S2x16384x128, .f32⟩
  | 62 => ⟨S2x16384x128, .f32⟩
  | 63 => ⟨S_, .i32⟩
  | 64 => ⟨S_, .f32⟩
  | 65 => ⟨S2x16398x128, .f32⟩
  | 66 => ⟨S2x16384x128, .f32⟩
  | 67 => ⟨S2x16384x128, .f32⟩
  | 68 => ⟨S_, .i32⟩
  | 69 => ⟨S_, .f32⟩
  | 70 => ⟨S2x16399x128, .f32⟩
  | 71 => ⟨S2x16384x128, .f32⟩
  | 72 => ⟨S2x16384x128, .f32⟩
  | 73 => ⟨S16384, .i32⟩
  | 74 => ⟨S_, .i32⟩
  | 75 => ⟨S16384, .i32⟩
  | 76 => ⟨S16384, .i32⟩
  | 77 => ⟨S16384, .f32⟩
  | 78 => ⟨S_, .f32⟩
  | 79 => ⟨S16384, .f32⟩
  | 80 => ⟨S16384, .f32⟩
  | 81 => ⟨S16384x1, .f32⟩
  | 82 => ⟨S1x16384x1, .f32⟩
  | 83 => ⟨S2x16384x128, .f32⟩
  | 84 => ⟨S2x16384x128, .f32⟩
  | 85 => ⟨S2x16384x128, .f32⟩
  | 86 => ⟨S1x128x128, .f32⟩
  | 87 => ⟨S128x128, .f32⟩
  | 88 => ⟨S2x16384x128, .f32⟩
  | 89 => ⟨S128, .f32⟩
  | 90 => ⟨S1x1x128, .f32⟩
  | 91 => ⟨S2x16384x128, .f32⟩
  | 92 => ⟨S2x16384x128, .f32⟩
  | 93 => ⟨S2x16384x1024, .f32⟩
  | 94 => ⟨S2x16384x1024, .f32⟩
  | 95 => ⟨S2x16384x1024, .f32⟩
  | _ => ⟨S2x16384x512, .bf16⟩

abbrev hbmTy (i : Nat) : BufTy := match i / 128 with
  | 0 => hbmTy0_0 i
  | 1 => hbmTy0_1 i
  | _ => ⟨S2x16384x512, .bf16⟩

abbrev bufTy : (tb : Table) → Fin (tcTables nBuf tb) → BufTy
  | .hbm, ⟨i, _⟩ => hbmTy i
  | _, _ => ⟨S2x16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_1 : Ref sig .tc := ⟨.hbm, 34, rfl⟩
abbrev main_call1_v0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_2 : Ref sig .tc := ⟨.hbm, 39, rfl⟩
abbrev main_call2_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_3 : Ref sig .tc := ⟨.hbm, 44, rfl⟩
abbrev main_call3_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_6 : Ref sig .tc := ⟨.hbm, 70, rfl⟩
abbrev main_call4_v0 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_7 : Ref sig .tc := ⟨.hbm, 75, rfl⟩
abbrev main_call5_v0 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_8 : Ref sig .tc := ⟨.hbm, 80, rfl⟩
abbrev main_call6_v0 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_9 : Ref sig .tc := ⟨.hbm, 85, rfl⟩
abbrev main_call7_v0 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_10 : Ref sig .tc := ⟨.hbm, 90, rfl⟩
abbrev main_call8_v0 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_11 : Ref sig .tc := ⟨.hbm, 95, rfl⟩
abbrev main_call9_v0 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_12 : Ref sig .tc := ⟨.hbm, 100, rfl⟩
abbrev main_call10_v0 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c_13 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_c_15 : Ref sig .tc := ⟨.hbm, 126, rfl⟩
abbrev main_call11_v0 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_c_16 : Ref sig .tc := ⟨.hbm, 131, rfl⟩
abbrev main_call12_v0 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_c_17 : Ref sig .tc := ⟨.hbm, 136, rfl⟩
abbrev main_call13_v0 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_c_18 : Ref sig .tc := ⟨.hbm, 141, rfl⟩
abbrev main_call14_v0 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_c_19 : Ref sig .tc := ⟨.hbm, 146, rfl⟩
abbrev main_call15_v0 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_c_20 : Ref sig .tc := ⟨.hbm, 151, rfl⟩
abbrev main_call16_v0 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_c_21 : Ref sig .tc := ⟨.hbm, 156, rfl⟩
abbrev main_call17_v0 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_c_22 : Ref sig .tc := ⟨.hbm, 161, rfl⟩
abbrev main_call18_v0 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_c_23 : Ref sig .tc := ⟨.hbm, 166, rfl⟩
abbrev main_call19_v0 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_c_24 : Ref sig .tc := ⟨.hbm, 171, rfl⟩
abbrev main_call20_v0 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_c_25 : Ref sig .tc := ⟨.hbm, 176, rfl⟩
abbrev main_call21_v0 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_c_26 : Ref sig .tc := ⟨.hbm, 181, rfl⟩
abbrev main_call22_v0 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_c_27 : Ref sig .tc := ⟨.hbm, 186, rfl⟩
abbrev main_call23_v0 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_c_28 : Ref sig .tc := ⟨.hbm, 191, rfl⟩
abbrev main_call24_v0 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_c_29 : Ref sig .tc := ⟨.hbm, 196, rfl⟩
abbrev main_call25_v0 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_c_30 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_cst_31 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩

abbrev nD : Nat := 1
abbrev τ : Topo := Topo.v7x

variable {F : FTy → Type} [FloatOps F]
-- ==== Proof.Ffn.Chunk.lean ====
module

public import proofs.«01_k».proof.Proof.Gen.KernelIdeal.Value
public import Idealize.ShloMosaic.Lib.Pointwise

@[expose] public section
set_option maxRecDepth 16384
noncomputable section

namespace Cert.KernelIdeal.Ffn

open Cert.KernelIdeal Cert.KernelIdeal.Gen Idealize.ShloMosaic Idealize.ShloMosaic.TcCoe Idealize.SL.Sem

/-- The up-projection of normalised row `r`, column `j`. -/
def up (h : FVec Ideal S512x1024 .bf16) (w : Vec Ideal S1024x5632 .bf16) (r : Fin 512) (j : Fin 5632) : EReal :=
  ∑ k : Fin 1024, h (ix2 r k) * w (ix2 k j)

/-- The up-projection `n` rows above row `r` of a block (`n ≤ 8`): a row of the block, or one of the eight rows
    `p` kept from the block before it. -/
def past (h : FVec Ideal S512x1024 .bf16) (w : Vec Ideal S1024x5632 .bf16) (p : Vec Ideal S8x5632 .f32) (n : ℕ)
    (hn : 1 ≤ n ∧ n ≤ 8) (r : Fin 512) (j : Fin 5632) : EReal :=
  if hr : r.val < n then p (ix2 ⟨r.val + 8 - n, by omega⟩ j) else up h w ⟨r.val - n, by omega⟩ j

/-- The three-tap causal convolution of the up-projection at row `r`, column `j`. -/
def conv (h : FVec Ideal S512x1024 .bf16) (w : Vec Ideal S1024x5632 .bf16) (cw : Vec Ideal S8x5632 .f32)
    (cb : Vec Ideal S1x5632 .f32) (p : Vec Ideal S8x5632 .f32) (r : Fin 512) (j : Fin 5632) : EReal :=
  cb (ix2 0 j) + cw (ix2 2 j) * up h w r j + cw (ix2 1 j) * past h w p 1 (by decide) r j
    + cw (ix2 0 j) * past h w p 2 (by decide) r j

/-- The gated activation at row `r`, column `j` of the first half. -/
def act (h : FVec Ideal S512x1024 .bf16) (w : Vec Ideal S1024x5632 .bf16) (cw : Vec Ideal S8x5632 .f32)
    (cb : Vec Ideal S1x5632 .f32) (p : Vec Ideal S8x5632 .f32) (r : Fin 512) (j : Fin 2816) : EReal :=
  conv h w cw cb p r ⟨j.val, by omega⟩ * Ideal.logistic (conv h w cw cb p r ⟨j.val, by omega⟩)
    * conv h w cw cb p r ⟨j.val + 2816, by omega⟩

section
variable {F : FTy → Type} [FloatOps F]

/-- One chunk of 256 columns of the convolution, as the kernel computes it from what it loads for the chunk. -/
def convF (h : FVec F S512x1024 .bf16) (w : Vec F S1024x256 .bf16) (p : Vec F S8x256 .f32)
    (cb c2 c1 c0 : Vec F S1x256 .f32) : FVec F S512x256 .f32 :=
  k0_pay11 (k0_pay13 h w p) (k0_pay9 cb)
    (mulf (broadcastTo S512x256 (shapeCast S1x256 c2 shapeCasts_S1x256_S1x256) broadcasts_S1x256_S512x256)
      (k0_pay12 h w)) c1 c0

/-- One chunk of 256 columns of the gated activation, from the two chunks of the convolution. -/
def actF (gate val : FVec F S512x256 .f32) : FVec F S512x256 .bf16 :=
  shapeCast S512x256 (truncf .bf16 (mulf (mulf gate (logistic gate)) val) bitsLt_bf16_f32) shapeCasts_S512x256_S512x256

end

/-- A chunk's operands are the 256 columns from column `o` on of the whole operands. -/
structure Cols (w : Vec Ideal S1024x5632 .bf16) (cw : Vec Ideal S8x5632 .f32) (cb : Vec Ideal S1x5632 .f32)
    (p : Vec Ideal S8x5632 .f32) (o : ℕ) (ho : o + 256 ≤ 5632) (w' : Vec Ideal S1024x256 .bf16)
    (p' : Vec Ideal S8x256 .f32) (cb' c2 c1 c0 : Vec Ideal S1x256 .f32) : Prop where
  hw : ∀ (k : Fin 1024) (j : Fin 256), w' (ix2 k j) = w (ix2 k ⟨o + j.val, by omega⟩)
  hp : ∀ (k : Fin 8) (j : Fin 256), p' (ix2 k j) = p (ix2 k ⟨o + j.val, by omega⟩)
  hcb : ∀ (j : Fin 256), cb' (ix2 0 j) = cb (ix2 0 ⟨o + j.val, by omega⟩)
  h2 : ∀ (j : Fin 256), c2 (ix2 0 j) = cw (ix2 2 ⟨o + j.val, by omega⟩)
  h1 : ∀ (j : Fin 256), c1 (ix2 0 j) = cw (ix2 1 ⟨o + j.val, by omega⟩)
  h0 : ∀ (j : Fin 256), c0 (ix2 0 j) = cw (ix2 0 ⟨o + j.val, by omega⟩)

/-- A chunk's product is the up-projection at the chunk's columns. -/
theorem up_chunk (h : FVec Ideal S512x1024 .bf16) (w : Vec Ideal S1024x5632 .bf16) (o : ℕ) (ho : o + 256 ≤ 5632)
    (w' : Vec Ideal S1024x256 .bf16)
    (hw : ∀ (k : Fin 1024) (j : Fin 256), w' (ix2 k j) = w (ix2 k ⟨o + j.val, by omega⟩)) (r : Fin 512) (j : Fin 256) :
    k0_pay12 h w' (ix2 r j) = up h w r ⟨o + j.val, by omega⟩ := by
  unfold k0_pay12 up
  pointwise
  simp [hw]

/-- A chunk of the convolution, as the kernel computes it, is the convolution at the chunk's columns. -/
theorem conv_chunk (h : FVec Ideal S512x1024 .bf16) {w : Vec Ideal S1024x5632 .bf16} {cw : Vec Ideal S8x5632 .f32}
    {cb : Vec Ideal S1x5632 .f32} {p : Vec Ideal S8x5632 .f32} {o : ℕ} {ho : o + 256 ≤ 5632}
    {w' : Vec Ideal S1024x256 .bf16} {p' : Vec Ideal S8x256 .f32} {cb' c2 c1 c0 : Vec Ideal S1x256 .f32}
    (hc : Cols w cw cb p o ho w' p' cb' c2 c1 c0) (r : Fin 512) (j : Fin 256) :
    convF h w' p' cb' c2 c1 c0 (ix2 r j) = conv h w cw cb p r ⟨o + j.val, by omega⟩ := by
  have hup := up_chunk h w o ho w' hc.hw
  have past_eq : ∀ (n : ℕ) (hn : 1 ≤ n ∧ n ≤ 8),
      (if hr : (8 + r.val + 520 - n) % 520 < 8 then p' (ix2 ⟨(8 + r.val + 520 - n) % 520, hr⟩ j)
        else k0_pay12 h w' (ix2 ⟨(8 + r.val + 520 - n) % 520 - 8, by omega⟩ j))
      = past h w p n hn r ⟨o + j.val, by omega⟩ := by
    intro n hn
    unfold past
    by_cases hr : r.val < n
    · rw [dif_pos (by omega), dif_pos hr, hc.hp]
      congr 3; omega
    · rw [dif_neg (by omega), dif_neg hr, hup]
      congr 2; omega
  unfold convF k0_pay11 k0_pay13 k0_pay9 conv
  pointwise
  rw [hup, hc.hcb, hc.h2, hc.h1, hc.h0, ← past_eq 1 (by decide), ← past_eq 2 (by decide)]

/-- A chunk of the gated activation, from its two chunks of the convolution. -/
theorem act_chunk {h : FVec Ideal S512x1024 .bf16} {w : Vec Ideal S1024x5632 .bf16} {cw : Vec Ideal S8x5632 .f32}
    {cb : Vec Ideal S1x5632 .f32} {p : Vec Ideal S8x5632 .f32} {o : ℕ} (ho : o + 256 ≤ 2816)
    {gate val : FVec Ideal S512x256 .f32}
    (hg : ∀ (r : Fin 512) (j : Fin 256), gate (ix2 r j) = conv h w cw cb p r ⟨o + j.val, by omega⟩)
    (hv : ∀ (r : Fin 512) (j : Fin 256), val (ix2 r j) = conv h w cw cb p r ⟨o + 2816 + j.val, by omega⟩)
    (r : Fin 512) (j : Fin 256) : actF gate val (ix2 r j) = act h w cw cb p r ⟨o + j.val, by omega⟩ := by
  unfold actF act
  pointwise
  rw [hg, hv]
  congr 3; omega

/-- The rows a chunk keeps for the next block are the last eight rows of the up-projection. -/
theorem keep_chunk (h : FVec Ideal S512x1024 .bf16) (w : Vec Ideal S1024x5632 .bf16) (o : ℕ) (ho : o + 256 ≤ 5632)
    (w' : Vec Ideal S1024x256 .bf16)
    (hw : ∀ (k : Fin 1024) (j : Fin 256), w' (ix2 k j) = w (ix2 k ⟨o + j.val, by omega⟩)) (r : Fin 8) (j : Fin 256) :
    k0_pay14 h w' (ix2 r j) = up h w ⟨504 + r.val, by omega⟩ ⟨o + j.val, by omega⟩ := by
  unfold k0_pay14
  pointwise
  exact up_chunk h w o ho w' hw _ _

/-- The block the kernel stores: the block of activations plus the down-projection of the gated activation. -/
theorem out_block (x : Vec Ideal S1x512x1024 .f32) (a : Vec Ideal S512x2816 .bf16) (wd : Vec Ideal S2816x1024 .bf16)
    (r : Fin 512) (j : Fin 1024) :
    k0_pay2 (k0_pay4 x) a wd (ix3 0 r j) = x (ix3 0 r j) + ∑ k : Fin 2816, a (ix2 r k) * wd (ix2 k j) := by
  unfold k0_pay2 k0_pay4
  pointwise

/-- A block's normalised rows: each row scaled by the reciprocal root of its mean square plus the small constant,
    and by the gains. -/
theorem norm_block (x : Vec Ideal S1x512x1024 .f32) (g : Vec Ideal S1x1024 .f32) (r : Fin 512) (j : Fin 1024) :
    k0_pay5 x g (ix2 r j) = x (ix3 0 r j) * Ideal.rsqrt (Ideal.div (∑ k : Fin 1024, x (ix3 0 r k) * x (ix3 0 r k))
      (Ideal.ofBits .f32 0x44800000#32) + Ideal.ofBits .f32 0x358637BD#32) * g (ix2 0 j) := by
  unfold k0_pay5 k0_pay4
  pointwise

end Cert.KernelIdeal.Ffn
-- ==== Proof.Ffn.Point.lean ====
module

public import proofs.«01_k».proof.Proof.Ffn.Chunk
public import Idealize.ShloMosaic.Lib.WholeRead

@[expose] public section
set_option maxRecDepth 16384
noncomputable section

namespace Cert.KernelIdeal.Ffn

open Cert.KernelIdeal Cert.KernelIdeal.Gen Idealize.ShloMosaic Idealize.ShloMosaic.TcCoe Idealize.SL.Sem

variable {arg4 : Memref sig .tc .vmem S1024x5632 .bf16} (harg4 : arg4.IsWhole)
  {arg5 : Memref sig .tc .vmem S8x5632 .f32} (harg5 : arg5.IsWhole)
  {arg6 : Memref sig .tc .vmem S1x5632 .f32} (harg6 : arg6.IsWhole)
  (x2 : Vec Ideal S1024x5632 .bf16) (x3 : Vec Ideal S8x5632 .f32) (x4 : Vec Ideal S1x5632 .f32)

/-- The load of 256 columns of the up-projection's weights. -/
abbrev ldW (o : ℕ) (i : ∀ a, ![0, o] a + S1024x256.size a ≤ S1024x5632.size a) : Vec Ideal S1024x256 .bf16 :=
  View.readAt (Elt Ideal) arg4.view (Rect.unit (s := S1024x5632) ![0, o] S1024x256.size i).toLoadRect (harg4.unread x2)

/-- The load of 256 columns of row `n` of the taps. -/
abbrev ldC (n o : ℕ) (i : ∀ a, ![n, o] a + S1x256.size a ≤ S8x5632.size a) : Vec Ideal S1x256 .f32 :=
  View.readAt (Elt Ideal) arg5.view (Rect.unit (s := S8x5632) ![n, o] S1x256.size i).toLoadRect (harg5.unread x3)

/-- The load of 256 columns of the convolution's bias. -/
abbrev ldB (o : ℕ) (i : ∀ a, ![0, o] a + S1x256.size a ≤ S1x5632.size a) : Vec Ideal S1x256 .f32 :=
  View.readAt (Elt Ideal) arg6.view (Rect.unit (s := S1x5632) ![0, o] S1x256.size i).toLoadRect (harg6.unread x4)

/-- The chunk of weights loaded at column `o`, read at an index. -/
theorem ldW_apply {o : ℕ} (ho : o + 256 ≤ 5632) (i) (k : Fin 1024) (j : Fin 256) :
    ldW harg4 x2 o i (ix2 k j) = x2 (ix2 k ⟨o + j.val, by omega⟩) := by
  unfold ldW
  rw [harg4.readAt_unread]; congr 1; funext a; fin_cases a <;> ext <;> simp [LoadRect.idx]

/-- The chunk of taps loaded at row `n`, column `o`, read at an index. -/
theorem ldC_apply (n : Fin 8) {o : ℕ} (ho : o + 256 ≤ 5632) (i) (j : Fin 256) :
    ldC harg5 x3 n.val o i (ix2 0 j) = x3 (ix2 n ⟨o + j.val, by omega⟩) := by
  unfold ldC
  rw [harg5.readAt_unread]; congr 1; funext a; fin_cases a <;> ext <;> simp [LoadRect.idx]

/-- The chunk of bias loaded at column `o`, read at an index. -/
theorem ldB_apply {o : ℕ} (ho : o + 256 ≤ 5632) (i) (j : Fin 256) :
    ldB harg6 x4 o i (ix2 0 j) = x4 (ix2 0 ⟨o + j.val, by omega⟩) := by
  unfold ldB
  rw [harg6.readAt_unread]; congr 1; funext a; fin_cases a <;> ext <;> simp [LoadRect.idx]

/-- The loads of a chunk are the 256 columns from column `o` on. -/
theorem cols_loads {o : ℕ} (ho : o + 256 ≤ 5632) (p : Vec Ideal S8x5632 .f32) {p' : Vec Ideal S8x256 .f32}
    (hp : ∀ (k : Fin 8) (j : Fin 256), p' (ix2 k j) = p (ix2 k ⟨o + j.val, by omega⟩)) (i4 i6 i52 i51 i50) :
    Cols x2 x3 x4 p o ho (ldW harg4 x2 o i4) p' (ldB harg6 x4 o i6) (ldC harg5 x3 2 o i52) (ldC harg5 x3 1 o i51)
      (ldC harg5 x3 0 o i50) where
  hw := ldW_apply harg4 x2 ho i4
  hp := hp
  hcb := ldB_apply harg6 x4 ho i6
  h2 := ldC_apply harg5 x3 2 ho i52
  h1 := ldC_apply harg5 x3 1 ho i51
  h0 := ldC_apply harg5 x3 0 ho i50

/-- The gated activation of a whole block. -/
def actBlock (h : FVec Ideal S512x1024 .bf16) (w : Vec Ideal S1024x5632 .bf16) (cw : Vec Ideal S8x5632 .f32)
    (cb : Vec Ideal S1x5632 .f32) (p : Vec Ideal S8x5632 .f32) : Vec Ideal S512x2816 .bf16 :=
  fun i => act h w cw cb p (i 0) (i 1)

/-- The eight rows a whole block keeps for the next one. -/
def keepBlock (h : FVec Ideal S512x1024 .bf16) (w : Vec Ideal S1024x5632 .bf16) : Vec Ideal S8x5632 .f32 :=
  fun i => up h w ⟨504 + (i 0).val, by have : (i 0).val < 8 := (i 0).isLt; omega⟩ (i 1)

/-- The chunk of the gated activation stored at columns `o` on, from the chunks at `o` and at `o + 2816`. -/
theorem act_piece (o o' : ℕ) (ho : o + 256 ≤ 2816) (ho' : o' = o + 2816) (h : FVec Ideal S512x1024 .bf16)
    (p : Vec Ideal S8x5632 .f32) {p' p'' : Vec Ideal S8x256 .f32}
    (hp : ∀ (k : Fin 8) (j : Fin 256), p' (ix2 k j) = p (ix2 k ⟨o + j.val, by omega⟩))
    (hp' : ∀ (k : Fin 8) (j : Fin 256), p'' (ix2 k j) = p (ix2 k ⟨o' + j.val, by omega⟩))
    (i4 i6 i52 i51 i50 i4' i6' i52' i51' i50' ia) (x : (Rect.unit (s := S512x2816) ![0, o] S512x256.size ia).shape.Idx) :
    actF (convF h (ldW harg4 x2 o i4) p' (ldB harg6 x4 o i6) (ldC harg5 x3 2 o i52) (ldC harg5 x3 1 o i51)
        (ldC harg5 x3 0 o i50))
      (convF h (ldW harg4 x2 o' i4') p'' (ldB harg6 x4 o' i6') (ldC harg5 x3 2 o' i52') (ldC harg5 x3 1 o' i51')
        (ldC harg5 x3 0 o' i50')) x
      = actBlock h x2 x3 x4 p ((Rect.unit (s := S512x2816) ![0, o] S512x256.size ia).emb x) := by
  subst ho'
  obtain ⟨r, j, rfl⟩ : ∃ (r : Fin 512) (j : Fin 256), x = ix2 r j := ⟨x 0, x 1, by funext a; fin_cases a <;> rfl⟩
  rw [act_chunk (h := h) (w := x2) (cw := x3) (cb := x4) (p := p) (o := o) ho
    (conv_chunk h (cols_loads harg4 harg5 harg6 x2 x3 x4 (by omega) p hp i4 i6 i52 i51 i50))
    (conv_chunk h (cols_loads harg4 harg5 harg6 x2 x3 x4 (by omega) p hp' i4' i6' i52' i51' i50'))]
  unfold actBlock
  congr 1 <;> ext <;> simp

/-- The rows a chunk keeps, stored at columns `o` on. -/
theorem keep_piece (o : ℕ) (ho : o + 256 ≤ 5632) (h : FVec Ideal S512x1024 .bf16) (i4 ik)
    (x : (Rect.unit (s := S8x5632) ![0, o] S8x256.size ik).shape.Idx) :
    k0_pay14 h (ldW harg4 x2 o i4) x = keepBlock h x2 ((Rect.unit (s := S8x5632) ![0, o] S8x256.size ik).emb x) := by
  obtain ⟨r, j, rfl⟩ : ∃ (r : Fin 8) (j : Fin 256), x = ix2 r j := ⟨x 0, x 1, by funext a; fin_cases a <;> rfl⟩
  rw [keep_chunk h x2 o ho _ (ldW_apply harg4 x2 ho i4)]
  unfold keepBlock
  congr 1 <;> ext <;> simp

end Cert.KernelIdeal.Ffn
-- ==== Proof.Ffn.CaseA.lean ====
module

public import proofs.«01_k».proof.Proof.Ffn.Point

@[expose] public section
set_option maxRecDepth 16384
noncomputable section

namespace Cert.KernelIdeal.Ffn

open Cert.KernelIdeal Cert.KernelIdeal.Gen Idealize.ShloMosaic Idealize.ShloMosaic.TcCoe Idealize.SL.Sem

section
variable (c : Dev nD) (i : grid0.Coords) (arg2 : Memref sig .tc .vmem S1x512x1024 .f32) (harg2 : arg2.IsWhole)
  (arg3 : Memref sig .tc .vmem S1x1024 .f32) (harg3 : arg3.IsWhole) (arg4 : Memref sig .tc .vmem S1024x5632 .bf16)
  (harg4 : arg4.IsWhole) (arg5 : Memref sig .tc .vmem S8x5632 .f32) (harg5 : arg5.IsWhole)
  (arg6 : Memref sig .tc .vmem S1x5632 .f32) (harg6 : arg6.IsWhole) (arg7 : Memref sig .tc .vmem S2816x1024 .bf16)
  (harg7 : arg7.IsWhole) (arg8 : Memref sig .tc .vmem S1x512x1024 .f32) (harg8 : arg8.IsWhole)
  (arg9 : Memref sig .tc .vmem S512x2816 .bf16) (harg9 : arg9.IsWhole) (arg10 : Memref sig .tc .vmem S8x5632 .f32)
  (harg10 : arg10.IsWhole)
  (x0 : Vec Ideal S1x512x1024 .f32) (x1 : Vec Ideal S1x1024 .f32) (x2 : Vec Ideal S1024x5632 .bf16)
  (x3 : Vec Ideal S8x5632 .f32) (x4 : Vec Ideal S1x5632 .f32) (x5 : Vec Ideal S2816x1024 .bf16)

/-- No rows are kept before a sequence's first block. -/
def noRows : Vec Ideal S8x5632 .f32 := fun _ => 0

/-- The kept rows after the stores `L` read zero in the 256 columns from `o` on. -/
def ZeroAt (L : List (View.Piece (Elt Ideal) S8x5632 .f32)) (o : ℕ) : Prop :=
  ∀ (k : Fin 8) (j : Fin 5632), o ≤ j.val → j.val < o + 256 → View.canon L (ix2 k j) = (0 : EReal)

/-- The fill with zeros reads zero everywhere. -/
theorem zero_fill (o : ℕ) (i) : ZeroAt [⟨Rect.unit (s := S8x5632) ![0, 0] S8x5632.size i, k0_pay3 (F := Ideal)⟩] o := by
  intro k j _ _
  rw [View.canon_unit_zero (by funext a; fin_cases a <;> rfl)]
  unfold k0_pay3
  pointwise

/-- A store to other columns keeps them zero. -/
theorem zero_skip {L : List (View.Piece (Elt Ideal) S8x5632 .f32)} {o : ℕ} (h : ZeroAt L o) (o' : ℕ) (i)
    (w : Vec Ideal S8x256 .f32) (hd : o' + 256 ≤ o ∨ o + 256 ≤ o') :
    ZeroAt (⟨Rect.unit (s := S8x5632) ![0, o'] S8x256.size i, w⟩ :: L) o := by
  intro k j h1 h2
  rw [View.canon_cons_of_not_mem]
  · exact h k j h1 h2
  · intro hm
    obtain ⟨h3, h4⟩ := (Rect.mem_set_unit (inb := i)).mp hm 1
    have h3' : o' ≤ j.val := h3
    have h4' : j.val < o' + 256 := h4
    omega

/-- An element read after a store of columns `o` on: in those columns the store's value, else what was there. -/
theorem keep_step {L : List (View.Piece (Elt Ideal) S8x5632 .f32)} {G : Vec Ideal S8x5632 .f32} {o : ℕ} (i)
    {w : Vec Ideal S8x256 .f32} (hw : ∀ x, w x = G ((Rect.unit (s := S8x5632) ![0, o] S8x256.size i).emb x))
    {y : S8x5632.Idx} (h : ((y 1).val < o ∨ o + 256 ≤ (y 1).val) → View.canon L y = G y) :
    View.canon (⟨Rect.unit (s := S8x5632) ![0, o] S8x256.size i, w⟩ :: L) y = G y := by
  by_cases hm : y ∈ (Rect.unit (s := S8x5632) ![0, o] S8x256.size i).set
  · obtain ⟨x, hx⟩ := (Rect.unit (s := S8x5632) ![0, o] S8x256.size i).exists_idx_of_mem hm
    have e : (Rect.unit (s := S8x5632) ![0, o] S8x256.size i).emb x = y := hx
    rw [← e, View.canon_cons_emb]
    exact hw x
  · rw [View.canon_cons_of_not_mem ⟨Rect.unit (s := S8x5632) ![0, o] S8x256.size i, w⟩ L hm]
    refine h ?_
    by_contra hc
    refine hm (Rect.mem_set_unit.mpr fun a => ?_)
    have h0 : (y 0).val < 8 := (y 0).isLt
    fin_cases a
    · simpa using h0
    · simp; omega

/-- A load of 256 columns out of rows that hold zero is zero. -/
theorem zero_load {L : List (View.Piece (Elt Ideal) S8x5632 .f32)} (o : ℕ) (ho : o + 256 ≤ 5632) (ik) (hz : ZeroAt L o)
    (k : Fin 8) (j : Fin 256) :
    (arg10.view.readCov L (Rect.unit (s := S8x5632) ![0, o] S8x256.size ik).toLoadRect
      : Vec Ideal S8x256 .f32) (ix2 k j) = noRows (ix2 k ⟨o + j.val, by omega⟩) := by
  rw [View.readCov_eq_canon']
  have e : (Rect.unit (s := S8x5632) ![0, o] S8x256.size ik).toLoadRect.idx (ix2 k j) = ix2 k ⟨o + j.val, by omega⟩ := by
    funext a; fin_cases a <;> ext <;> simp [LoadRect.idx]
  have h0 := hz k ⟨o + j.val, by omega⟩ (by simp) (by simp)
  rw [← e] at h0
  exact h0

/-- The rows the point normalises are the normalised block. -/
theorem norm_A : kernelRun0_A.sl.r_1 c arg2 harg2 arg3 harg3 x0 x1 = k0_pay5 x0 x1 := by
  unfold kernelRun0_A.sl.r_1
  congr 1 <;> funext x
  · rw [harg2.readAt_unread]; congr 1; funext a; ext; fin_cases a <;> simp [LoadRect.idx]
  · rw [harg3.readAt_unread]; congr 1; funext a; ext; fin_cases a <;> simp [LoadRect.idx]

/-- Each chunk the first block of a sequence stores is its columns of the gated activation. -/
theorem pieces_A : ∀ q ∈ kernelRun0_A.sl.HS0_11 c arg2 harg2 arg3 harg3 arg4 harg4 arg5 harg5 arg6 harg6 arg10 x0 x1 x2 x3 x4,
    ∀ x : q.1.shape.Idx, q.2 x = actBlock (kernelRun0_A.sl.r_1 c arg2 harg2 arg3 harg3 x0 x1) x2 x3 x4 noRows (q.1.emb x) := by
  have hk := @zero_load arg10
  have piece := act_piece harg4 harg5 harg6 x2 x3 x4
  intro q hq
  simp only [kernelRun0_A.sl.HS0_11, List.mem_cons, List.not_mem_nil, or_false] at hq
  rcases hq with rfl | rfl | rfl | rfl | rfl | rfl | rfl | rfl | rfl | rfl | rfl <;>
    exact piece _ _ (by omega) (by rfl) _ noRows (hk _ (by omega) _ (by
      repeat' first | refine zero_skip ?_ _ _ _ (by omega) | exact zero_fill _ _)) (hk _ (by omega) _ (by
      repeat' first | refine zero_skip ?_ _ _ _ (by omega) | exact zero_fill _ _)) _ _ _ _ _ _ _ _ _ _ (by decide)

/-- The scratch the point fills holds its gated activations. -/
theorem act_scratch_A : (kernelRun0_A.sl.v779 c arg2 harg2 arg3 harg3 arg4 harg4 arg5 harg5 arg6 harg6 arg9 arg10 x0 x1 x2 x3 x4
      : Vec Ideal S512x2816 .bf16) = actBlock (k0_pay5 x0 x1) x2 x3 x4 noRows := by
  have hp := pieces_A c arg2 harg2 arg3 harg3 arg4 harg4 arg5 harg5 arg6 harg6 arg10 x0 x1 x2 x3 x4
  rw [norm_A] at hp
  unfold kernelRun0_A.sl.v779
  rw [View.readCov_eq_canon']
  funext y
  refine (View.canon_apply_of_pieces _ _ hp _ (View.cover_of_tiledL
    (kernelRun0_A.sl.HS0_11 c arg2 harg2 arg3 harg3 arg4 harg4 arg5 harg5 arg6 harg6 arg10 x0 x1 x2 x3 x4) S512x256.size (by sl_kernel_rfl) _)).trans ?_
  congr 1; funext a; ext; fin_cases a <;> simp [LoadRect.idx]

/-- The activations the point adds at the end are its block. -/
theorem x_A : kernelRun0_A.sl.r c arg2 harg2 x0 = k0_pay4 x0 := by
  unfold kernelRun0_A.sl.r
  congr 1; funext x
  rw [harg2.readAt_unread]; congr 1; funext a; ext; fin_cases a <;> simp [LoadRect.idx]

/-- What a first point of a sequence writes: its block plus the down-projection, nothing above its first row. -/
theorem out_A (hc0 : cond0_0 i) (r : Fin 512) (j : Fin 1024) :
    out0_A_6 c i arg2 harg2 arg3 harg3 arg4 harg4 arg5 harg5 arg6 harg6 arg7 harg7 arg8 harg8 arg9 harg9 arg10 harg10 hc0 x0 x1 x2 x3 x4 x5 (ix3 0 r j)
      = x0 (ix3 0 r j) + ∑ k : Fin 2816, act (k0_pay5 x0 x1) x2 x3 x4 noRows r k * x5 (ix2 k j) := by
  have h5 : (View.readAt (Elt Ideal) arg7.view (Rect.unit (s := S2816x1024) ![0, 0] ![2816, 1024]
      inb_S2816x1024_S2816x1024_0_0).toLoadRect
      (harg7.unread x5) : Vec Ideal S2816x1024 .bf16) = x5 := by
    funext x
    rw [harg7.readAt_unread]; congr 1; funext a; ext; fin_cases a <;> simp [LoadRect.idx]
  unfold out0_A_6
  rw [View.read_writes_junk_eq_canon]
  unfold kernelRun0_A
  dsimp only
  rw [x_A, act_scratch_A, h5, View.canon_unit_zero (by funext a; fin_cases a <;> rfl)]
  exact out_block x0 _ x5 r j

/-- What a first point of a sequence keeps: the last eight rows of its up-projection. -/
theorem keep_A (hc0 : cond0_0 i) :
    sout0_A_1 c i arg2 harg2 arg3 harg3 arg4 harg4 arg5 harg5 arg6 harg6 arg7 harg7 arg8 harg8 arg9 harg9 arg10 harg10 hc0 x0 x1 x2 x3 x4 x5 = keepBlock (k0_pay5 x0 x1) x2 := by
  have piece := keep_piece harg4 x2
  unfold sout0_A_1
  rw [View.read_writes_junk_eq_canon]
  rw [← norm_A c arg2 harg2 arg3 harg3]
  funext y
  have hy : (y 1).val < 5632 := (y 1).isLt
  unfold kernelRun0_A
  simp only [kernelRun0_A.sl.HS1_2, kernelRun0_A.sl.HS1_3, kernelRun0_A.sl.HS1_4, kernelRun0_A.sl.HS1_5, kernelRun0_A.sl.HS1_6, kernelRun0_A.sl.HS1_7, kernelRun0_A.sl.HS1_8, kernelRun0_A.sl.HS1_9, kernelRun0_A.sl.HS1_10, kernelRun0_A.sl.HS1_11, kernelRun0_A.sl.HS1_12, kernelRun0_A.sl.HS1_13, kernelRun0_A.sl.HS1_14, kernelRun0_A.sl.HS1_15, kernelRun0_A.sl.HS1_16, kernelRun0_A.sl.HS1_17, kernelRun0_A.sl.HS1_18, kernelRun0_A.sl.HS1_19, kernelRun0_A.sl.HS1_20, kernelRun0_A.sl.HS1_21, kernelRun0_A.sl.HS1_22]
  iterate 22
    refine keep_step _ (piece _ (by omega) _ _ (by decide)) (fun hd => ?_)
  exfalso
  omega

end
end Cert.KernelIdeal.Ffn
-- ==== Proof.Ffn.CaseB.lean ====
module

public import proofs.«01_k».proof.Proof.Ffn.Point

@[expose] public section
set_option maxRecDepth 16384
noncomputable section

namespace Cert.KernelIdeal.Ffn

open Cert.KernelIdeal Cert.KernelIdeal.Gen Idealize.ShloMosaic Idealize.ShloMosaic.TcCoe Idealize.SL.Sem

section
variable (c : Dev nD) (i : grid0.Coords) (arg2 : Memref sig .tc .vmem S1x512x1024 .f32) (harg2 : arg2.IsWhole)
  (arg3 : Memref sig .tc .vmem S1x1024 .f32) (harg3 : arg3.IsWhole) (arg4 : Memref sig .tc .vmem S1024x5632 .bf16)
  (harg4 : arg4.IsWhole) (arg5 : Memref sig .tc .vmem S8x5632 .f32) (harg5 : arg5.IsWhole)
  (arg6 : Memref sig .tc .vmem S1x5632 .f32) (harg6 : arg6.IsWhole) (arg7 : Memref sig .tc .vmem S2816x1024 .bf16)
  (harg7 : arg7.IsWhole) (arg8 : Memref sig .tc .vmem S1x512x1024 .f32) (harg8 : arg8.IsWhole)
  (arg9 : Memref sig .tc .vmem S512x2816 .bf16) (harg9 : arg9.IsWhole) (arg10 : Memref sig .tc .vmem S8x5632 .f32)
  (harg10 : arg10.IsWhole)
  (x0 : Vec Ideal S1x512x1024 .f32) (x1 : Vec Ideal S1x1024 .f32) (x2 : Vec Ideal S1024x5632 .bf16)
  (x3 : Vec Ideal S8x5632 .f32) (x4 : Vec Ideal S1x5632 .f32) (x5 : Vec Ideal S2816x1024 .bf16)
  (xs1 : Vec Ideal S8x5632 .f32)

/-- A load of 256 columns out of the kept rows. -/
theorem carry_load (o : ℕ) (ho : o + 256 ≤ 5632) (ik) (k : Fin 8) (j : Fin 256) :
    (View.readAt (Elt Ideal) arg10.view (Rect.unit (s := S8x5632) ![0, o] S8x256.size ik).toLoadRect (harg10.unread xs1)
      : Vec Ideal S8x256 .f32) (ix2 k j) = xs1 (ix2 k ⟨o + j.val, by omega⟩) := by
  rw [harg10.readAt_unread]; congr 1; funext a; fin_cases a <;> ext <;> simp [LoadRect.idx]

/-- The rows the point normalises are the normalised block. -/
theorem norm_B : kernelRun0_B.sl.r_1 c arg2 harg2 arg3 harg3 x0 x1 = k0_pay5 x0 x1 := by
  unfold kernelRun0_B.sl.r_1
  congr 1 <;> funext x
  · rw [harg2.readAt_unread]; congr 1; funext a; ext; fin_cases a <;> simp [LoadRect.idx]
  · rw [harg3.readAt_unread]; congr 1; funext a; ext; fin_cases a <;> simp [LoadRect.idx]

/-- Each piece stored in the scratch is a chunk of the gated activations. -/
theorem pieces_B : ∀ q ∈ kernelRun0_B.sl.HS0_11 c arg2 harg2 arg3 harg3 arg4 harg4 arg5 harg5 arg6 harg6 arg10 harg10 x0 x1 x2 x3 x4 xs1,
    ∀ x : q.1.shape.Idx, q.2 x = actBlock (kernelRun0_B.sl.r_1 c arg2 harg2 arg3 harg3 x0 x1) x2 x3 x4 xs1 (q.1.emb x) := by
  have hk := carry_load arg10 harg10 xs1
  have piece := act_piece harg4 harg5 harg6 x2 x3 x4
  intro q hq
  simp only [kernelRun0_B.sl.HS0_11, List.mem_cons, List.not_mem_nil, or_false] at hq
  rcases hq with rfl | rfl | rfl | rfl | rfl | rfl | rfl | rfl | rfl | rfl | rfl <;>
    exact piece _ _ (by omega) (by rfl) _ xs1 (hk _ (by omega) _) (hk _ (by omega) _) _ _ _ _ _ _ _ _ _ _ (by decide)

/-- The scratch the point fills holds its gated activations. -/
theorem act_scratch_B : (kernelRun0_B.sl.v779 c arg2 harg2 arg3 harg3 arg4 harg4 arg5 harg5 arg6 harg6 arg9 arg10 harg10 x0 x1 x2 x3 x4 xs1
      : Vec Ideal S512x2816 .bf16) = actBlock (k0_pay5 x0 x1) x2 x3 x4 xs1 := by
  have hp := pieces_B c arg2 harg2 arg3 harg3 arg4 harg4 arg5 harg5 arg6 harg6 arg10 harg10 x0 x1 x2 x3 x4 xs1
  rw [norm_B] at hp
  unfold kernelRun0_B.sl.v779
  rw [View.readCov_eq_canon']
  funext y
  refine (View.canon_apply_of_pieces _ _ hp _ (View.cover_of_tiledL
    (kernelRun0_B.sl.HS0_11 c arg2 harg2 arg3 harg3 arg4 harg4 arg5 harg5 arg6 harg6 arg10 harg10 x0 x1 x2 x3 x4 xs1) S512x256.size (by sl_kernel_rfl) _)).trans ?_
  congr 1; funext a; ext; fin_cases a <;> simp [LoadRect.idx]

/-- The activations the point adds at the end are its block. -/
theorem x_B : kernelRun0_B.sl.r c arg2 harg2 x0 = k0_pay4 x0 := by
  unfold kernelRun0_B.sl.r
  congr 1; funext x
  rw [harg2.readAt_unread]; congr 1; funext a; ext; fin_cases a <;> simp [LoadRect.idx]

/-- What a later point of a sequence writes: its block plus the down-projection, the kept rows above its first row. -/
theorem out_B (hc0 : ¬cond0_0 i) (r : Fin 512) (j : Fin 1024) :
    out0_B_6 c i arg2 harg2 arg3 harg3 arg4 harg4 arg5 harg5 arg6 harg6 arg7 harg7 arg8 harg8 arg9 harg9 arg10 harg10 hc0 x0 x1 x2 x3 x4 x5 xs1 (ix3 0 r j)
      = x0 (ix3 0 r j) + ∑ k : Fin 2816, act (k0_pay5 x0 x1) x2 x3 x4 xs1 r k * x5 (ix2 k j) := by
  have h5 : (View.readAt (Elt Ideal) arg7.view (Rect.unit (s := S2816x1024) ![0, 0] ![2816, 1024]
      inb_S2816x1024_S2816x1024_0_0).toLoadRect
      (harg7.unread x5) : Vec Ideal S2816x1024 .bf16) = x5 := by
    funext x
    rw [harg7.readAt_unread]; congr 1; funext a; ext; fin_cases a <;> simp [LoadRect.idx]
  unfold out0_B_6
  rw [View.read_writes_junk_eq_canon]
  unfold kernelRun0_B
  dsimp only
  rw [x_B, act_scratch_B, h5, View.canon_unit_zero (by funext a; fin_cases a <;> rfl)]
  exact out_block x0 _ x5 r j

/-- What a later point of a sequence keeps: the last eight rows of its up-projection. -/
theorem keep_B (hc0 : ¬cond0_0 i) :
    sout0_B_1 c i arg2 harg2 arg3 harg3 arg4 harg4 arg5 harg5 arg6 harg6 arg7 harg7 arg8 harg8 arg9 harg9 arg10 harg10 hc0 x0 x1 x2 x3 x4 x5 xs1 = keepBlock (k0_pay5 x0 x1) x2 := by
  have piece := keep_piece harg4 x2
  unfold sout0_B_1
  rw [View.read_writes_junk_eq_canon]
  funext y
  refine View.canon_apply_of_pieces _ _ ?_ _ (scover0_B_1 c i arg2 harg2 arg3 harg3 arg4 harg4 arg5 harg5 arg6 harg6 arg7 harg7 arg8 harg8 arg9 harg9 arg10 harg10 hc0 x0 x1 x2 x3 x4 x5 xs1 y)
  rw [← norm_B c arg2 harg2 arg3 harg3]
  intro q hq
  unfold kernelRun0_B at hq
  simp only [List.mem_cons, List.not_mem_nil, or_false] at hq
  rcases hq with rfl | rfl | rfl | rfl | rfl | rfl | rfl | rfl | rfl | rfl | rfl | rfl | rfl | rfl | rfl | rfl | rfl | rfl
    | rfl | rfl | rfl | rfl <;>
    exact piece _ (by omega) _ _ (by decide)

end
end Cert.KernelIdeal.Ffn
-- ==== Proof.Ffn.Spec.lean ====
module

public import Idealize.ShloMosaic.Lib.Pointwise

@[expose] public section
noncomputable section

/-! The convolutional feed-forward over whole arrays, read at an index. -/

namespace Cert.FfnSpec

open Idealize.ShloMosaic Idealize.SL.Sem

/-- An array of extended reals of the given axes. -/
abbrev Arr (n : ℕ) (d : Fin n → ℕ) : Type := (⟨n, d⟩ : Shape).Idx → EReal

section
variable (x : Arr 3 ![2, 16384, 1024]) (g : Arr 1 ![1024]) (wu : Arr 2 ![1024, 5632]) (cw : Arr 2 ![3, 5632])
  (cb : Arr 1 ![5632]) (wd : Arr 2 ![2816, 1024])

/-- The root-mean-square normalised activations at sequence `b`, row `s`, column `k`. -/
def norm (b : Fin 2) (s : Fin 16384) (k : Fin 1024) : EReal :=
  x (ix3 b s k) * Ideal.rsqrt (Ideal.div (∑ q : Fin 1024, x (ix3 b s q) * x (ix3 b s q)) (Ideal.ofBits .f32 0x44800000#32)
    + Ideal.ofBits .f32 0x358637BD#32) * g (ix1 k)

/-- The up-projection at row `s`, column `j`. -/
def up (b : Fin 2) (s : Fin 16384) (j : Fin 5632) : EReal := ∑ k : Fin 1024, norm x g b s k * wu (ix2 k j)

/-- The up-projection `n` rows before row `s`, zero before the first row of a sequence. -/
def past (n : ℕ) (b : Fin 2) (s : Fin 16384) (j : Fin 5632) : EReal :=
  if s.val < n then 0 else up x g wu b ⟨s.val - n, by omega⟩ j

/-- The causal convolution of three taps, with its bias. -/
def conv (b : Fin 2) (s : Fin 16384) (j : Fin 5632) : EReal :=
  cb (ix1 j) + cw (ix2 0 j) * past x g wu 2 b s j + cw (ix2 1 j) * past x g wu 1 b s j + cw (ix2 2 j) * up x g wu b s j

/-- The gated activation: the first half of the columns through `x · logistic x`, times the second half. -/
def act (b : Fin 2) (s : Fin 16384) (j : Fin 2816) : EReal :=
  conv x g wu cw cb b s ⟨j.val, by omega⟩ * Ideal.logistic (conv x g wu cw cb b s ⟨j.val, by omega⟩)
    * conv x g wu cw cb b s ⟨2816 + j.val, by omega⟩

/-- The feed-forward's result: the activations plus the down-projection. -/
def out (b : Fin 2) (s : Fin 16384) (j : Fin 1024) : EReal :=
  x (ix3 b s j) + ∑ k : Fin 2816, act x g wu cw cb b s k * wd (ix2 k j)

end

end Cert.FfnSpec

end
-- ==== Proof.Ffn.Grid.lean ====
module

public import proofs.«01_k».proof.Proof.Ffn.CaseA
public import proofs.«01_k».proof.Proof.Ffn.CaseB
public import proofs.«01_k».proof.Proof.Ffn.Spec
public import Idealize.ShloMosaic.Lib.Pipeline.ValueKit

@[expose] public section
set_option maxRecDepth 16384
noncomputable section

namespace Cert.KernelIdeal.Ffn

open Cert.KernelIdeal Cert.KernelIdeal.Gen Idealize.ShloMosaic Idealize.ShloMosaic.TcCoe Idealize.SL.Sem

variable (m : (ℓ : Loc nD τ sig) → Buf (Elt Ideal) ℓ) (c : Dev nD)

/-- The rows window 0 reads at point `t`: 512 rows of one sequence. -/
theorem idx0 : ∀ t : Fin cfg0.N, win0_0.index t (0 : Fin 3) = t.val / 32 ∧ win0_0.index t (1 : Fin 3) = t.val % 32
    ∧ win0_0.index t (2 : Fin 3) = 0 := (by decide +kernel : ∀ t : Fin grid0.N, _)

/-- The rest of the inputs are read whole at every point. -/
theorem idxW : ∀ t : Fin cfg0.N, win0_1.index t = ![0, 0] ∧ win0_2.index t = ![0, 0] ∧ win0_3.index t = ![0, 0]
    ∧ win0_4.index t = ![0, 0] ∧ win0_5.index t = ![0, 0] := (by decide +kernel : ∀ t : Fin grid0.N, _)

/-- The activations' block. -/
theorem iblk0 (t : Fin cfg0.N) (ht : t.val < 64) (r : Fin 512) (j : Fin 1024) :
    (iblk m c 0 t : Vec Ideal S1x512x1024 .f32) (ix3 0 r j)
      = m ((c : Thread nD τ).loc main_arg0) (ix3 ⟨t.val / 32, by omega⟩ ⟨512 * (t.val % 32) + r.val, by omega⟩ j) := by
  blk_ext [iblk, V, idx0 t]

/-- The norm's gains. -/
theorem iblk1 (t : Fin cfg0.N) (j : Fin 1024) :
    (iblk m c 1 t : Vec Ideal S1x1024 .f32) (ix2 0 j) = m ((c : Thread nD τ).loc main_arg1) (ix1 j) := by
  have e : (win0_1.blk t).view.emb (ix2 0 j) = ix2 0 j := by blk_ext [idxW t]
  show V m c main_v0 ((win0_1.blk t).view.emb (ix2 0 j)) = _
  rw [e]
  simp only [V, hostOps0, hostOps0_1, hostOps0_2, List.flatten_cons, List.flatten_nil, List.append_nil, List.cons_append, List.nil_append]
  entry_read
  pointwise

/-- The up-projection's weights. -/
theorem iblk2 (t : Fin cfg0.N) (k : Fin 1024) (j : Fin 5632) :
    (iblk m c 2 t : Vec Ideal S1024x5632 .bf16) (ix2 k j) = m ((c : Thread nD τ).loc main_arg2) (ix2 k j) := by
  blk_ext [iblk, V, idxW t]

/-- The convolution's taps. -/
theorem iblk3 (t : Fin cfg0.N) (k : Fin 3) (j : Fin 5632) :
    (iblk m c 3 t : Vec Ideal S8x5632 .f32) (ix2 ⟨k.val, by omega⟩ j) = m ((c : Thread nD τ).loc main_arg3) (ix2 k j) := by
  have e : (win0_3.blk t).view.emb (ix2 ⟨k.val, by omega⟩ j) = ix2 ⟨k.val, by omega⟩ j := by blk_ext [idxW t]
  show V m c main_v2 ((win0_3.blk t).view.emb (ix2 ⟨k.val, by omega⟩ j)) = _
  rw [e]
  simp only [V, hostOps0, hostOps0_1, hostOps0_2, List.flatten_cons, List.flatten_nil, List.append_nil, List.cons_append, List.nil_append]
  entry_read
  simp only [StableHlo.TRef.toBuf, StableHlo.TRef.ofBuf, cast_eq]
  pointwise

/-- The convolution's bias. -/
theorem iblk4 (t : Fin cfg0.N) (j : Fin 5632) :
    (iblk m c 4 t : Vec Ideal S1x5632 .f32) (ix2 0 j) = m ((c : Thread nD τ).loc main_arg4) (ix1 j) := by
  have e : (win0_4.blk t).view.emb (ix2 0 j) = ix2 0 j := by blk_ext [idxW t]
  show V m c main_v3 ((win0_4.blk t).view.emb (ix2 0 j)) = _
  rw [e]
  simp only [V, hostOps0, hostOps0_1, hostOps0_2, List.flatten_cons, List.flatten_nil, List.append_nil, List.cons_append, List.nil_append]
  entry_read
  pointwise

/-- The down-projection's weights. -/
theorem iblk5 (t : Fin cfg0.N) (k : Fin 2816) (j : Fin 1024) :
    (iblk m c 5 t : Vec Ideal S2816x1024 .bf16) (ix2 k j) = m ((c : Thread nD τ).loc main_arg5) (ix2 k j) := by
  blk_ext [iblk, V, idxW t]

/-- The activations, read with the axes the specification names. -/
abbrev aX : FfnSpec.Arr 3 ![2, 16384, 1024] := m ((c : Thread nD τ).loc main_arg0)
/-- The gains. -/
abbrev aG : FfnSpec.Arr 1 ![1024] := m ((c : Thread nD τ).loc main_arg1)
/-- The up-projection's weights. -/
abbrev aU : FfnSpec.Arr 2 ![1024, 5632] := m ((c : Thread nD τ).loc main_arg2)
/-- The convolution's taps. -/
abbrev aC : FfnSpec.Arr 2 ![3, 5632] := m ((c : Thread nD τ).loc main_arg3)
/-- The convolution's bias. -/
abbrev aB : FfnSpec.Arr 1 ![5632] := m ((c : Thread nD τ).loc main_arg4)
/-- The down-projection's weights. -/
abbrev aD : FfnSpec.Arr 2 ![2816, 1024] := m ((c : Thread nD τ).loc main_arg5)

/-- The sequence a grid point works on. -/
abbrev seqOf (t : Fin cfg0.N) (ht : t.val < 64) : Fin 2 := ⟨t.val / 32, by omega⟩
/-- The row of the sequence that is row `r` of a grid point's block. -/
abbrev rowOf (t : Fin cfg0.N) (r : Fin 512) : Fin 16384 := ⟨512 * (t.val % 32) + r.val, by omega⟩

/-- A block's normalised rows are the normalised rows of the sequence. -/
theorem norm_at (t : Fin cfg0.N) (ht : t.val < 64) (r : Fin 512) (k : Fin 1024) :
    k0_pay5 (iblk m c 0 t) (iblk m c 1 t) (ix2 r k) = FfnSpec.norm (aX m c) (aG m c) (seqOf t ht) (rowOf t r) k := by
  rw [norm_block]
  unfold FfnSpec.norm
  rw [iblk0 m c t ht, iblk1 m c t]
  simp only [iblk0 m c t ht]

/-- A block's up-projection is the up-projection of the sequence's rows. -/
theorem up_at (t : Fin cfg0.N) (ht : t.val < 64) (r : Fin 512) (j : Fin 5632) :
    up (k0_pay5 (iblk m c 0 t) (iblk m c 1 t)) (iblk m c 2 t) r j
      = FfnSpec.up (aX m c) (aG m c) (aU m c) (seqOf t ht) (rowOf t r) j := by
  unfold up FfnSpec.up
  refine Finset.sum_congr rfl fun k _ => ?_
  rw [norm_at m c t ht, iblk2 m c t]

/-- The eight rows a point keeps for the next are its block's last eight rows of the up-projection. -/
theorem keep_at (t : Fin cfg0.N) :
    (outsAt0 m c t.val t.isLt).2 = keepBlock (k0_pay5 (iblk m c 0 t) (iblk m c 1 t)) (iblk m c 2 t) := by
  by_cases h : t.val % 32 = 0
  · rw [outsAt0_A m c t h]; dsimp only; exact keep_A ..
  · rw [outsAt0_B m c t h]; dsimp only; exact keep_B ..

/-- The rows above a block's first row: zero at the start of a sequence, and otherwise what the point before kept. -/
def carried (t : Fin cfg0.N) : Vec Ideal S8x5632 .f32 :=
  if t.val % 32 = 0 then noRows
  else (outsAt0 m c (t.val - 1) (Nat.lt_of_le_of_lt (Nat.sub_le _ _) t.isLt)).2

/-- The up-projection `n` rows above a row of the block is that of the sequence `n` rows above, zero before its start. -/
theorem past_at (t : Fin cfg0.N) (ht : t.val < 64) (n : ℕ) (hn : 1 ≤ n ∧ n ≤ 8) (r : Fin 512) (j : Fin 5632) :
    past (k0_pay5 (iblk m c 0 t) (iblk m c 1 t)) (iblk m c 2 t) (carried m c t) n hn r j
      = FfnSpec.past (aX m c) (aG m c) (aU m c) n (seqOf t ht) (rowOf t r) j := by
  have hr := r.isLt
  unfold past FfnSpec.past
  by_cases h : r.val < n
  · rw [dif_pos h]
    unfold carried
    by_cases h0 : t.val % 32 = 0
    · rw [if_pos h0, if_pos (by simp only [rowOf]; omega)]
      rfl
    · rw [if_neg h0, if_neg (by simp only [rowOf]; omega),
        keep_at m c ⟨t.val - 1, Nat.lt_of_le_of_lt (Nat.sub_le _ _) t.isLt⟩]
      unfold keepBlock
      refine (up_at m c _ (by show t.val - 1 < 64; omega) _ _).trans ?_
      congr 1
      · ext; simp only [seqOf]; omega
      · ext; simp only [rowOf]; simp; omega
  · rw [dif_neg h, if_neg (by simp only [rowOf]; omega), up_at m c t ht]
    congr 1
    ext; simp only [rowOf]; omega

/-- A block's convolution is the convolution of the sequence. -/
theorem conv_at (t : Fin cfg0.N) (ht : t.val < 64) (r : Fin 512) (j : Fin 5632) :
    conv (k0_pay5 (iblk m c 0 t) (iblk m c 1 t)) (iblk m c 2 t) (iblk m c 3 t) (iblk m c 4 t) (carried m c t) r j
      = FfnSpec.conv (aX m c) (aG m c) (aU m c) (aC m c) (aB m c) (seqOf t ht) (rowOf t r) j := by
  unfold conv FfnSpec.conv
  rw [up_at m c t ht, past_at m c t ht, past_at m c t ht, iblk4 m c t]
  rw [show (iblk m c 3 t : Vec Ideal S8x5632 .f32) (ix2 2 j) = aC m c (ix2 2 j) from iblk3 m c t 2 j,
    show (iblk m c 3 t : Vec Ideal S8x5632 .f32) (ix2 1 j) = aC m c (ix2 1 j) from iblk3 m c t 1 j,
    show (iblk m c 3 t : Vec Ideal S8x5632 .f32) (ix2 0 j) = aC m c (ix2 0 j) from iblk3 m c t 0 j]
  rw [add_assoc (aB m c (ix1 j)), add_assoc (aB m c (ix1 j)), add_assoc (aB m c (ix1 j)), add_assoc (aB m c (ix1 j))]
  congr 1
  rw [add_right_comm, add_comm (_ * _) (_ * FfnSpec.past _ _ _ 2 _ _ _), add_right_comm]

/-- A block's gated activation is the activation of the sequence's rows. -/
theorem act_at (t : Fin cfg0.N) (ht : t.val < 64) (r : Fin 512) (j : Fin 2816) :
    act (k0_pay5 (iblk m c 0 t) (iblk m c 1 t)) (iblk m c 2 t) (iblk m c 3 t) (iblk m c 4 t) (carried m c t) r j
      = FfnSpec.act (aX m c) (aG m c) (aU m c) (aC m c) (aB m c) (seqOf t ht) (rowOf t r) j := by
  have e : (⟨j.val + 2816, by omega⟩ : Fin 5632) = ⟨2816 + j.val, by omega⟩ := Fin.ext (Nat.add_comm _ _)
  unfold act FfnSpec.act
  rw [conv_at m c t ht, conv_at m c t ht]
  exact congrArg (_ * ·) (congrArg (FfnSpec.conv (aX m c) (aG m c) (aU m c) (aC m c) (aB m c) (seqOf t ht) (rowOf t r)) e)

/-- What a point writes is the feed-forward's rows of its block. -/
theorem out_at (t : Fin cfg0.N) (ht : t.val < 64) (r : Fin 512) (j : Fin 1024) :
    (outsAt0 m c t.val t.isLt).1 (ix3 0 r j)
      = FfnSpec.out (aX m c) (aG m c) (aU m c) (aC m c) (aB m c) (aD m c) (seqOf t ht) (rowOf t r) j := by
  have e : (outsAt0 m c t.val t.isLt).1 (ix3 0 r j)
      = (show EReal from (iblk m c 0 t : Vec Ideal S1x512x1024 .f32) (ix3 0 r j))
        + ∑ k : Fin 2816, act (k0_pay5 (iblk m c 0 t) (iblk m c 1 t)) (iblk m c 2 t) (iblk m c 3 t) (iblk m c 4 t)
            (carried m c t) r k * (show EReal from (iblk m c 5 t : Vec Ideal S2816x1024 .bf16) (ix2 k j)) := by
    unfold carried
    by_cases h : t.val % 32 = 0
    · rw [outsAt0_A m c t h, if_pos h]; dsimp only; exact out_A ..
    · rw [outsAt0_B m c t h, if_neg h]; dsimp only; exact out_B ..
  rw [e]
  unfold FfnSpec.out
  rw [iblk0 m c t ht]
  refine congrArg₂ (· + ·) rfl (Finset.sum_congr rfl fun k _ => ?_)
  rw [act_at m c t ht, iblk5 m c t]

/-- The kernel's result is the feed-forward of its arguments. -/
theorem kernel_out (b : Fin 2) (s : Fin 16384) (j : Fin 1024) :
    Cert.KernelIdeal.Value.G6 m c (ix3 b s j)
      = FfnSpec.out (aX m c) (aG m c) (aU m c) (aC m c) (aB m c) (aD m c) b s j := by
  have hb := b.isLt
  have hs := s.isLt
  have hj := j.isLt
  have hp : Cert.KernelIdeal.Value.pt6Of (ix3 b s j) = 32 * b.val + s.val / 512 := by
    show 32 * (b.val / 1 - 0) + 1 * (s.val / 512 - 0) + 1 * (j.val / 1024 - 0) = _
    omega
  have hN : cfg0.N = 64 := N_0
  have ht : Cert.KernelIdeal.Value.pt6Of (ix3 b s j) < cfg0.N := by omega
  unfold Cert.KernelIdeal.Value.G6
  rw [dif_pos ht, ← Cert.KernelIdeal.Value.outsAt0_sweep m c _ ht]
  have hl : Cert.KernelIdeal.Value.loc6Of (ix3 b s j) = ix3 0 ⟨s.val % 512, by omega⟩ j := by
    funext a; ext; fin_cases a
    · show b.val % 1 = 0; omega
    · rfl
    · show j.val % 1024 = j.val; omega
  rw [hl]
  refine (out_at m c ⟨_, ht⟩ (by show Cert.KernelIdeal.Value.pt6Of (ix3 b s j) < 64; omega) _ j).trans ?_
  congr 1
  · ext; show Cert.KernelIdeal.Value.pt6Of (ix3 b s j) / 32 = b.val; omega
  · ext; show 512 * (Cert.KernelIdeal.Value.pt6Of (ix3 b s j) % 32) + s.val % 512 = s.val; omega

end Cert.KernelIdeal.Ffn

end
-- ==== Proof.Ffn.Reference.lean ====
module

public import proofs.«01_k».proof.Proof.Gen.ReferenceIdeal.Run
public import proofs.«01_k».proof.Proof.Ffn.Spec

@[expose] public section
set_option maxRecDepth 16384
noncomputable section

namespace Cert.FfnSpec

open Idealize.ShloMosaic Idealize.ShloMosaic.TcCoe Idealize.SL.Sem Cert.ReferenceIdeal

/-- The number a padded place holds. -/
abbrev padded : EReal := FloatOps.sitofp (F := Ideal) FTy.f32 0#32

section
variable (x : Arr 3 ![2, 16384, 1024]) (g : Arr 1 ![1024]) (wu : Arr 2 ![1024, 5632]) (cw : Arr 2 ![3, 5632]) (cb : Arr 1 ![5632])

/-- A row read out of the up-projection padded above by `n` rows. -/
theorem past_read (n : ℕ) (b : Fin 2) (s : Fin 16384) (k : Fin 5632) :
    (if h : (n ≤ s.val ∧ s.val - n < 16384) ∧ k.val < 5632 then up x g wu b ⟨s.val - n, h.1.2⟩ ⟨k.val, h.2⟩ else padded)
      = past x g wu n b s k := by
  unfold past
  by_cases hn : n ≤ s.val
  · rw [dif_pos ⟨⟨hn, by omega⟩, k.isLt⟩, if_neg (by omega)]
  · rw [dif_neg (fun h => hn h.1.1), if_pos (by omega)]
    norm_num [padded, FloatOps.sitofp]

/-- The convolution as a sum over three padded copies of the up-projection. -/
theorem conv_read (b : Fin 2) (s : Fin 16384) (k : Fin 5632) :
    cb (ix1 k) + cw (ix2 0 k) * (if h : (2 ≤ s.val ∧ s.val - 2 < 16384) ∧ k.val < 5632 then
          up x g wu b ⟨s.val - 2, h.1.2⟩ ⟨k.val, h.2⟩ else padded)
      + cw (ix2 1 k) * (if h : (1 ≤ s.val ∧ s.val - 1 < 16384) ∧ k.val < 5632 then
          up x g wu b ⟨s.val - 1, h.1.2⟩ ⟨k.val, h.2⟩ else padded)
      + cw (ix2 2 k) * (if h : k.val < 5632 then up x g wu b s ⟨k.val, h⟩ else padded)
      = conv x g wu cw cb b s k := by
  rw [dif_pos k.isLt, past_read, past_read]
  rfl

end

set_option maxHeartbeats 1000000 in
/-- The reference's result, read at an index, is the feed-forward of its arguments. -/
theorem reference_out (m : (ℓ : Loc nD τ sig) → Buf (Elt Ideal) ℓ) (c : Dev nD) (b : Fin 2) (s : Fin 16384) (j : Fin 1024) :
    Cert.ReferenceIdeal.Value.res_main_v44 m c (ix3 b s j)
      = out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) b s j := by
  unfold Cert.ReferenceIdeal.Value.res_main_v44
  pointwise
  unfold out
  refine congrArg₂ (· + ·) rfl (Finset.sum_congr rfl fun k _ => ?_)
  unfold act
  have h1 := fun q : Fin 5632 => conv_read (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) b s q
  refine congrArg₂ (· * ·) (congrArg₂ (· * ·) (congrArg₂ (· * ·) ?_ ?_) ?_) rfl
  · exact h1 ⟨k.val, by omega⟩
  · unfold Ideal.logistic
    refine congrArg (fun z => Ideal.div 1 (1 + z)) (congrArg (fun z => Ideal.exp (-z)) ?_)
    exact h1 ⟨k.val, by omega⟩
  · have h2 := h1 ⟨2816 + k.val, by omega⟩
    unfold up norm padded at h2
    dsimp only at h2
    exact h2

end Cert.FfnSpec

end
-- ==== Proof.Pool.Spec.lean ====
module

public import Idealize.ShloMosaic.Lib.Pointwise

@[expose] public section
noncomputable section

/-! The pooling and the output projection over whole arrays, read at an index. -/

namespace Cert.PoolSpec

open Idealize.ShloMosaic Idealize.SL.Sem

/-- An array of extended reals of the given axes. -/
abbrev Arr (n : ℕ) (d : Fin n → ℕ) : Type := (⟨n, d⟩ : Shape).Idx → EReal

/-- The number of rows of a sequence up to row `s`, as a float. -/
def count (s : ℕ) : EReal := FloatOps.sitofp (F := Ideal) .f32 (BitVec.ofNat 32 (s + 1))

/-- The most rows a window has, as a float: 2, 4, 8 and 16 for the four groups of columns. -/
def most : Fin 4 → EReal := ![Ideal.ofBits .f32 0x40000000#32, Ideal.ofBits .f32 0x40800000#32,
  Ideal.ofBits .f32 0x41000000#32, Ideal.ofBits .f32 0x41800000#32]

/-- The rows of a group's window. -/
def rows : Fin 4 → ℕ := ![2, 4, 8, 16]

/-- Column `q` of group `g`. -/
abbrev col (g : Fin 4) (q : Fin 128) : Fin 512 := ⟨128 * g.val + q.val, by omega⟩

/-- One group's entry from its trailing sum `t`, its own row `v`, its count `n`, the window's limit `m`, the group's weights and its scale. -/
def entry (t v : Fin 128 → EReal) (n m : EReal) (w : Fin 128 → EReal) (c : EReal) : EReal :=
  (∑ k : Fin 128, (Ideal.div (t k) (min n m) - v k) * w k) * c

/-- The row the output projection meets: 512 columns of one kind and the four groups of 128 columns. -/
def join (a : Fin 512 → EReal) (p : Fin 4 → Fin 128 → EReal) (k : Fin 1024) : EReal :=
  if h : k.val < 512 then a ⟨k.val, h⟩
  else if h : k.val - 512 < 128 then p 0 ⟨k.val - 512, h⟩
  else if h : k.val - 512 - 128 < 128 then p 1 ⟨k.val - 512 - 128, h⟩
  else if h : k.val - 512 - 128 - 128 < 128 then p 2 ⟨k.val - 512 - 128 - 128, h⟩
  else p 3 ⟨k.val - 512 - 128 - 128 - 128, by omega⟩

section
variable (a u : Arr 3 ![2, 16384, 512]) (x : Arr 3 ![2, 16384, 1024]) (wp : Arr 3 ![4, 128, 128]) (ps : Arr 1 ![512])
  (wo : Arr 2 ![1024, 1024])

/-- The row `n` rows before row `s`, zero before the first row of a sequence. -/
def past (n : ℕ) (b : Fin 2) (s : Fin 16384) (j : Fin 512) : EReal :=
  if s.val < n then 0 else u (ix3 b ⟨s.val - n, by omega⟩ j)

/-- The sum of the last `w` rows up to row `s`. -/
def trailing (w : ℕ) (b : Fin 2) (s : Fin 16384) (j : Fin 512) : EReal := ∑ d ∈ Finset.range w, past u d b s j

/-- Column `q` of group `g`: the trailing mean less the row itself, projected and scaled. -/
def part (b : Fin 2) (s : Fin 16384) (g : Fin 4) (q : Fin 128) : EReal :=
  entry (fun k => trailing u (rows g) b s (col g k)) (fun k => u (ix3 b s (col g k))) (count s.val) (most g)
    (fun k => wp (ix3 g k q)) (ps (ix1 (col g q)))

/-- The result: the activations plus the projection of the attention's columns beside the pooled ones. -/
def out (b : Fin 2) (s : Fin 16384) (j : Fin 1024) : EReal :=
  x (ix3 b s j) + ∑ k : Fin 1024, join (fun k => a (ix3 b s k)) (part u wp ps b s) k * wo (ix2 k j)

end

end Cert.PoolSpec

end
-- ==== Proof.Pool.Block.lean ====
module

public import proofs.«01_k».proof.Proof.Gen.Kernel4Ideal.Skeleton
public import proofs.«01_k».proof.Proof.Pool.Spec

@[expose] public section
set_option maxRecDepth 16384
noncomputable section

namespace Cert.Kernel4Ideal.Pool

open Cert.Kernel4Ideal Cert.Kernel4Ideal.Gen Idealize.ShloMosaic Idealize.ShloMosaic.TcCoe Idealize.SL.Sem

/-- Sixteen rows above a block, then the block's own. -/
abbrev ext (p : Vec Ideal S16x128 .f32) (v : FVec Ideal S512x128 .f32) : FVec Ideal S528x128 .f32 :=
  concatenate S528x128 0 [⟨S16x128, p⟩, ⟨S512x128, v⟩] concatenates_S16x128_S512x128_S528x128_d0

/-- Rows plus the rows `n` before. -/
abbrev dbl (n : BitVec 32) (v : FVec Ideal S528x128 .f32) : FVec Ideal S528x128 .f32 :=
  addf v (dynamicRotate 0 n none v rotates_S528x128_d0)

/-- The mean less the row itself, projected. -/
def mixF (t : FVec Ideal S528x128 .f32) (n : FVec Ideal S512x1 .f32) (m : Ideal .f32) (v : FVec Ideal S512x128 .f32)
    (w : Vec Ideal S1x128x128 .bf16) : FVec Ideal S512x128 .f32 :=
  matmul dot_S512x128_S128x128_S512x128_1_0_0_1_n_n none
    (truncf .bf16 (subf (divf (extractStridedSlice S512x128 ![16, 0] t slices_S528x128_o16_0_S512x128)
      (broadcastTo S512x128 (minimumf n (broadcast S512x1 m)) broadcasts_S512x1_S512x128)) v) bitsLt_bf16_f32)
    (shapeCast S128x128 w shapeCasts_S1x128x128_S128x128 : FVec Ideal S128x128 .bf16) (constant S512x128 .f32 0x00000000#32)

/-- A projected group scaled. -/
def scaleF (y : FVec Ideal S512x128 .f32) (c : Vec Ideal S1x128 .f32) : FVec Ideal S512x128 .bf16 :=
  truncf .bf16 (mulf y (broadcastTo S512x128 (shapeCast S1x128 c shapeCasts_S1x128_S1x128 : FVec Ideal S1x128 .f32) broadcasts_S1x128_S512x128)) bitsLt_bf16_f32

/-- A projected and scaled group, read at an index. -/
theorem group_apply (t : FVec Ideal S528x128 .f32) (n : FVec Ideal S512x1 .f32) (m : Ideal .f32) (v : FVec Ideal S512x128 .f32)
    (w : Vec Ideal S1x128x128 .bf16) (c : Vec Ideal S1x128 .f32) (r : Fin 512) (q : Fin 128) :
    scaleF (mixF t n m v w) c (ix2 r q)
      = PoolSpec.entry (fun k => t (ix2 ⟨16 + r.val, by omega⟩ k)) (fun k => v (ix2 r k)) (n (ix2 r 0)) m
          (fun k => w (ix3 0 k q)) (c (ix2 0 q)) := by
  unfold scaleF mixF PoolSpec.entry
  pointwise

/-- Each row from row `n - 1` on is the sum of `n` rows of `x`. -/
def Sums (n : ℕ) (v : FVec Ideal S528x128 .f32) (x : ℕ → EReal) (k : Fin 128) : Prop :=
  ∀ p : Fin 528, n ≤ p.val + 1 → v (ix2 p k) = ∑ d ∈ Finset.range n, x (p.val - d)

/-- Rows are the sums of one row. -/
theorem sums_one (v : FVec Ideal S528x128 .f32) (k : Fin 128) :
    Sums 1 v (fun p => if h : p < 528 then v (ix2 ⟨p, h⟩ k) else 0) k := by
  intro p _
  rw [Finset.sum_range_one]
  show v (ix2 p k) = if h : p.val < 528 then v (ix2 ⟨p.val, h⟩ k) else 0
  rw [dif_pos p.isLt]

/-- Adding the rows `n` before doubles the number of rows summed. -/
theorem sums_double (n m : ℕ) (hn : n + n = m) (hm : m ≤ 16) (v : FVec Ideal S528x128 .f32) (x : ℕ → EReal) (k : Fin 128)
    (h : Sums n v x k) : Sums m (dbl (BitVec.ofNat 32 n) v) x k := by
  subst hn
  intro p hp
  have hlt := p.isLt
  have e : dynamicRotate 0 (BitVec.ofNat 32 n) none v rotates_S528x128_d0 (ix2 p k) = v (ix2 ⟨p.val - n, by omega⟩ k) := by
    refine (Pointwise.dynamicRotate_apply (0 : Fin 2) _ _ v _ _).trans (congrArg v ?_)
    have hb : (BitVec.ofNat 32 n).toNat = n := by rw [BitVec.toNat_ofNat]; omega
    funext a
    ext
    fin_cases a
    · show (p.val + 528 - ((BitVec.ofNat 32 n).toNat + 0) % 528) % 528 = p.val - n
      rw [hb]; omega
    · rfl
  show (v (ix2 p k) : EReal) + dynamicRotate 0 (BitVec.ofNat 32 n) none v rotates_S528x128_d0 (ix2 p k) = _
  rw [e, h p (by omega), h ⟨p.val - n, by omega⟩ (by simp only; omega), Finset.sum_range_add]
  refine congrArg₂ (· + ·) rfl (Finset.sum_congr rfl fun d _ => ?_)
  exact congrArg x (by simp only; omega)

/-- The count of a block's row. -/
theorem count_apply (i : grid0.Coords) (r : Fin 512) :
    k0_pay4 (F := Ideal) i (ix2 r 0) = PoolSpec.count (512 * (i 1).val + r.val) := by
  unfold k0_pay4 PoolSpec.count
  pointwise
  have hi : (i 1).val < 32 := (i 1).isLt
  refine congrArg (FloatOps.sitofp (F := Ideal) .f32) (BitVec.eq_of_toNat_eq ?_)
  simp only [IntOp.addi, Scalar.addi, Scalar.muli, IntOp.muli, BitVec.toNat_add, BitVec.toNat_mul, BitVec.toNat_ofNat]
  omega

/-- The row the output projection meets, read at a column. -/
theorem join_apply (v4 : FVec Ideal S512x512 .f32) (v10 : FVec Ideal S512x1 .f32) (v12 : FVec Ideal S512x512 .bf16)
    (v32 v54 : FVec Ideal S512x128 .bf16) (v73 : FVec Ideal S512x128 .f32) (v74 : Vec Ideal S1x128 .f32)
    (v80 : Vec Ideal S16x128 .f32) (v97 : Vec Ideal S1x128x128 .bf16) (v100 : Vec Ideal S1x128 .f32) (r : Fin 512) (k : Fin 1024) :
    k0_pay11 v4 v10 v12 v32 v54 v73 v74 v80 v97 v100 (ix2 r k)
      = PoolSpec.join (fun k => v12 (ix2 r k)) ![fun q => v32 (ix2 r q), fun q => v54 (ix2 r q), fun q => scaleF v73 v74 (ix2 r q),
          fun q => scaleF (mixF (dbl 8#32 (dbl 4#32 (dbl 2#32 (dbl 1#32 (ext v80
            (extractStridedSlice S512x128 ![0, 384] v4 slices_S512x512_o0_384_S512x128)))))) v10 (Scalar.ofBits .f32 0x41800000#32)
            (extractStridedSlice S512x128 ![0, 384] v4 slices_S512x512_o0_384_S512x128) v97) v100 (ix2 r q)] k := by
  show concatenate S512x1024 1 [⟨S512x512, v12⟩, ⟨S512x128, v32⟩, ⟨S512x128, v54⟩, ⟨S512x128, scaleF v73 v74⟩,
    ⟨S512x128, scaleF (mixF (dbl 8#32 (dbl 4#32 (dbl 2#32 (dbl 1#32 (ext v80
            (extractStridedSlice S512x128 ![0, 384] v4 slices_S512x512_o0_384_S512x128)))))) v10 (Scalar.ofBits .f32 0x41800000#32)
            (extractStridedSlice S512x128 ![0, 384] v4 slices_S512x512_o0_384_S512x128) v97) v100⟩]
    concatenates_S512x512_S512x128_S512x128_S512x128_S512x128_S512x1024_d1 (ix2 r k) = _
  generalize scaleF v73 v74 = z2
  generalize scaleF (mixF _ _ _ _ _) _ = z3
  unfold PoolSpec.join
  pointwise

/-- What a point writes, from its row of the projection. -/
theorem result_apply (y : FVec Ideal S512x1024 .bf16) (x2 : Vec Ideal S1x512x1024 .f32) (x5 : Vec Ideal S1024x1024 .bf16)
    (r : Fin 512) (j : Fin 1024) :
    k0_pay1 y (k0_pay12 x2) x5 (ix3 0 r j) = x2 (ix3 0 r j) + ∑ k : Fin 1024, y (ix2 r k) * x5 (ix2 k j) := by
  unfold k0_pay1 k0_pay12
  pointwise

end Cert.Kernel4Ideal.Pool

end
-- ==== Proof.Pool.Case.lean ====
module

public import proofs.«01_k».proof.Proof.Gen.Kernel4Ideal.Frame
public import Idealize.ShloMosaic.Lib.WholeRead
public import Idealize.ShloMosaic.Lib.Pipeline.ValueKit
public import proofs.«01_k».proof.Proof.Pool.Block

@[expose] public section
set_option maxRecDepth 16384
noncomputable section

namespace Cert.Kernel4Ideal.Pool

open Cert.Kernel4Ideal Cert.Kernel4Ideal.Gen Idealize.ShloMosaic Idealize.ShloMosaic.TcCoe Idealize.SL.Sem

/-- Group `g`'s projection. -/
def weights (g : Fin 4) (x3 : Vec Ideal S4x128x128 .bf16) : Vec Ideal S1x128x128 .bf16 := fun y => x3 (ix3 g (y 1) (y 2))

/-- Group `g`'s scales. -/
def scales (g : Fin 4) (x4 : Vec Ideal S1x512 .f32) : Vec Ideal S1x128 .f32 := fun y =>
  x4 (ix2 (y 0) (PoolSpec.col g (y 1)))

/-- Group `g`'s columns of the sixteen rows above a block. -/
def rowsAbove (g : Fin 4) (p : Vec Ideal S16x512 .f32) : Vec Ideal S16x128 .f32 := fun y =>
  p (ix2 (y 0) (PoolSpec.col g (y 1)))

/-- The sixteen rows above the first block of a sequence. -/
def noRows : Vec Ideal S16x512 .f32 := fun _ => 0

/-- The row of the output projection a point computes, from its blocks and the sixteen rows above. -/
def joined (i : grid0.Coords) (x0 : Vec Ideal S1x512x512 .bf16) (x1 : Vec Ideal S1x512x512 .f32) (x3 : Vec Ideal S4x128x128 .bf16)
    (x4 : Vec Ideal S1x512 .f32) (p : Vec Ideal S16x512 .f32) : FVec Ideal S512x1024 .bf16 :=
  k0_pay11 (k0_pay3 x1) (k0_pay4 i) (k0_pay5 x0) (k0_pay6 i x1 (rowsAbove 0 p) (weights 0 x3) (scales 0 x4))
    (k0_pay8 (k0_pay4 i) (k0_pay7 x1) (rowsAbove 1 p) (weights 1 x3) (scales 1 x4))
    (k0_pay9 (k0_pay3 x1) (k0_pay4 i) (rowsAbove 2 p) (weights 2 x3)) (scales 2 x4) (rowsAbove 3 p) (weights 3 x3) (scales 3 x4)

section
variable (c : Dev nD) (i : grid0.Coords) (arg2 : Memref sig .tc .vmem S1x512x512 .bf16) (harg2 : arg2.IsWhole)
  (arg3 : Memref sig .tc .vmem S1x512x512 .f32) (harg3 : arg3.IsWhole) (arg4 : Memref sig .tc .vmem S1x512x1024 .f32)
  (harg4 : arg4.IsWhole) (arg5 : Memref sig .tc .vmem S4x128x128 .bf16) (harg5 : arg5.IsWhole)
  (arg6 : Memref sig .tc .vmem S1x512 .f32) (harg6 : arg6.IsWhole) (arg7 : Memref sig .tc .vmem S1024x1024 .bf16)
  (harg7 : arg7.IsWhole) (arg8 : Memref sig .tc .vmem S1x512x1024 .f32) (harg8 : arg8.IsWhole)
  (arg9 : Memref sig .tc .vmem S16x512 .f32) (harg9 : arg9.IsWhole)
  (x0 : Vec Ideal S1x512x512 .bf16) (x1 : Vec Ideal S1x512x512 .f32) (x2 : Vec Ideal S1x512x1024 .f32)
  (x3 : Vec Ideal S4x128x128 .bf16) (x4 : Vec Ideal S1x512 .f32) (x5 : Vec Ideal S1024x1024 .bf16) (xs0 : Vec Ideal S16x512 .f32)

/-- A load of the whole block of the attention's columns. -/
theorem read_x0 (ik) : (View.readAt (Elt Ideal) arg2.view (Rect.unit (s := S1x512x512) ![0, 0, 0] S1x512x512.size ik).toLoadRect
    (harg2.unread x0) : Vec Ideal S1x512x512 .bf16) = x0 := by
  funext x; rw [harg2.readAt_unread]; congr 1; funext a; ext; fin_cases a <;> simp [LoadRect.idx]

/-- A load of the whole block of the pooled columns' rows. -/
theorem read_x1 (ik) : (View.readAt (Elt Ideal) arg3.view (Rect.unit (s := S1x512x512) ![0, 0, 0] S1x512x512.size ik).toLoadRect
    (harg3.unread x1) : Vec Ideal S1x512x512 .f32) = x1 := by
  funext x; rw [harg3.readAt_unread]; congr 1; funext a; ext; fin_cases a <;> simp [LoadRect.idx]

/-- A load of the whole block of activations. -/
theorem read_x2 (ik) : (View.readAt (Elt Ideal) arg4.view (Rect.unit (s := S1x512x1024) ![0, 0, 0] S1x512x1024.size ik).toLoadRect
    (harg4.unread x2) : Vec Ideal S1x512x1024 .f32) = x2 := by
  funext x; rw [harg4.readAt_unread]; congr 1; funext a; ext; fin_cases a <;> simp [LoadRect.idx]

/-- A load of one group's projection. -/
theorem read_x3 (n : ℕ) (g : Fin 4) (h : n = g.val) (ik) :
    (View.readAt (Elt Ideal) arg5.view (Rect.unit (s := S4x128x128) ![n, 0, 0] S1x128x128.size ik).toLoadRect
      (harg5.unread x3) : Vec Ideal S1x128x128 .bf16) = weights g x3 := by
  subst h
  funext x
  have h0 : (x 0).val < 1 := (x 0).isLt
  rw [harg5.readAt_unread]; unfold weights; congr 1; funext a; ext; fin_cases a
  · simp [LoadRect.idx]
  · simp [LoadRect.idx]
  · simp [LoadRect.idx]

/-- A load of one group's scales. -/
theorem read_x4 (n : ℕ) (g : Fin 4) (h : n = 128 * g.val) (ik) :
    (View.readAt (Elt Ideal) arg6.view (Rect.unit (s := S1x512) ![0, n] S1x128.size ik).toLoadRect
      (harg6.unread x4) : Vec Ideal S1x128 .f32) = scales g x4 := by
  subst h
  funext x
  rw [harg6.readAt_unread]; unfold scales; congr 1; funext a; ext; fin_cases a <;> simp [LoadRect.idx]

/-- A load of the output projection's weights. -/
theorem read_x5 (ik) : (View.readAt (Elt Ideal) arg7.view (Rect.unit (s := S1024x1024) ![0, 0] S1024x1024.size ik).toLoadRect
    (harg7.unread x5) : Vec Ideal S1024x1024 .bf16) = x5 := by
  funext x; rw [harg7.readAt_unread]; congr 1; funext a; ext; fin_cases a <;> simp [LoadRect.idx]

/-- A load of one group's columns of the rows kept. -/
theorem read_kept (n : ℕ) (g : Fin 4) (h : n = 128 * g.val) (ik) :
    (View.readAt (Elt Ideal) arg9.view (Rect.unit (s := S16x512) ![0, n] S16x128.size ik).toLoadRect
      (harg9.unread xs0) : Vec Ideal S16x128 .f32) = rowsAbove g xs0 := by
  subst h
  funext x
  rw [harg9.readAt_unread]; unfold rowsAbove; congr 1; funext a; ext; fin_cases a <;> simp [LoadRect.idx]

/-- The rows stored before the first block of a sequence are zero. -/
theorem zero_rows : (k0_pay2 : FVec Ideal S16x512 .f32) = noRows := by
  funext y
  obtain ⟨r, j, rfl⟩ : ∃ (r : Fin 16) (j : Fin 512), y = ix2 r j := ⟨y 0, y 1, by funext a; fin_cases a <;> rfl⟩
  unfold k0_pay2
  pointwise
  rfl

/-- A load of one group's columns of the rows stored before the first block of a sequence. -/
theorem read_first (n : ℕ) (g : Fin 4) (h : n = 128 * g.val) (ik) :
    (arg9.view.readCov (kernelRun0_A.sl.HS0_1 (F := Ideal)) (Rect.unit (s := S16x512) ![0, n] S16x128.size ik).toLoadRect
      : Vec Ideal S16x128 .f32) = rowsAbove g noRows := by
  rw [View.readCov_eq_canon']
  unfold kernelRun0_A.sl.HS0_1
  rw [View.canon_unit_zero (by funext a; fin_cases a <;> rfl), zero_rows]
  rfl

/-- What a first point of a sequence writes. -/
theorem out_A (hc0) :
    out0_A_6 c i arg2 harg2 arg3 harg3 arg4 harg4 arg5 harg5 arg6 harg6 arg7 harg7 arg8 harg8 arg9 harg9 hc0 x0 x1 x2 x3 x4 x5
      = k0_pay1 (joined i x0 x1 x3 x4 noRows) (k0_pay12 x2) x5 := by
  unfold out0_A_6
  rw [View.read_writes_junk_eq_canon]
  unfold kernelRun0_A
  dsimp only
  rw [View.canon_unit_zero (by funext a; fin_cases a <;> rfl)]
  unfold kernelRun0_A.sl.r_6 kernelRun0_A.sl.r_7 kernelRun0_A.sl.r_8 kernelRun0_A.sl.r_5 kernelRun0_A.sl.r_4 kernelRun0_A.sl.r_3 kernelRun0_A.sl.r_2 kernelRun0_A.sl.r_1 kernelRun0_A.sl.r
    kernelRun0_A.sl.v14 kernelRun0_A.sl.v34 kernelRun0_A.sl.v56 kernelRun0_A.sl.v80
  rw [read_x0, read_x1, read_x2, read_x5]
  rw [read_x3 _ _ _ 0 0 rfl, read_x3 _ _ _ 1 1 rfl, read_x3 _ _ _ 2 2 rfl, read_x3 _ _ _ 3 3 rfl]
  rw [read_x4 _ _ _ 0 0 rfl, read_x4 _ _ _ 128 1 rfl, read_x4 _ _ _ 256 2 rfl, read_x4 _ _ _ 384 3 rfl]
  rw [read_first _ 0 0 rfl, read_first _ 128 1 rfl, read_first _ 256 2 rfl, read_first _ 384 3 rfl]
  rfl

/-- What a later point writes. -/
theorem out_B (hc0) :
    out0_B_6 c i arg2 harg2 arg3 harg3 arg4 harg4 arg5 harg5 arg6 harg6 arg7 harg7 arg8 harg8 arg9 harg9 hc0 x0 x1 x2 x3 x4 x5 xs0
      = k0_pay1 (joined i x0 x1 x3 x4 xs0) (k0_pay12 x2) x5 := by
  unfold out0_B_6
  rw [View.read_writes_junk_eq_canon]
  unfold kernelRun0_B
  dsimp only
  rw [View.canon_unit_zero (by funext a; fin_cases a <;> rfl)]
  unfold kernelRun0_B.sl.r_7 kernelRun0_B.sl.r_8 kernelRun0_B.sl.r_9 kernelRun0_B.sl.r_6 kernelRun0_B.sl.r_5 kernelRun0_B.sl.r_4 kernelRun0_B.sl.r_3 kernelRun0_B.sl.r_2 kernelRun0_B.sl.r_1 kernelRun0_B.sl.r
  rw [read_x0, read_x1, read_x2, read_x5]
  rw [read_x3 _ _ _ 0 0 rfl, read_x3 _ _ _ 1 1 rfl, read_x3 _ _ _ 2 2 rfl, read_x3 _ _ _ 3 3 rfl]
  rw [read_x4 _ _ _ 0 0 rfl, read_x4 _ _ _ 128 1 rfl, read_x4 _ _ _ 256 2 rfl, read_x4 _ _ _ 384 3 rfl]
  rw [read_kept _ _ _ 0 0 rfl, read_kept _ _ _ 128 1 rfl, read_kept _ _ _ 256 2 rfl, read_kept _ _ _ 384 3 rfl]
  rfl

/-- What a first point of a sequence keeps. -/
theorem keep_A (hc0) :
    sout0_A_0 c i arg2 harg2 arg3 harg3 arg4 harg4 arg5 harg5 arg6 harg6 arg7 harg7 arg8 harg8 arg9 harg9 hc0 x0 x1 x2 x3 x4 x5
      = k0_pay10 (k0_pay3 x1) := by
  unfold sout0_A_0
  rw [View.read_writes_junk_eq_canon]
  unfold kernelRun0_A
  dsimp only
  unfold kernelRun0_A.sl.r
  rw [read_x1]
  exact View.canon_cons_unit_zero (by funext a; fin_cases a <;> rfl) _ _ _

/-- What a later point keeps. -/
theorem keep_B (hc0) :
    sout0_B_0 c i arg2 harg2 arg3 harg3 arg4 harg4 arg5 harg5 arg6 harg6 arg7 harg7 arg8 harg8 arg9 harg9 hc0 x0 x1 x2 x3 x4 x5 xs0
      = k0_pay10 (k0_pay3 x1) := by
  unfold sout0_B_0
  rw [View.read_writes_junk_eq_canon]
  unfold kernelRun0_B
  dsimp only
  unfold kernelRun0_B.sl.r
  rw [read_x1, View.canon_unit_zero (by funext a; fin_cases a <;> rfl)]

end

end Cert.Kernel4Ideal.Pool

end
-- ==== Proof.Pool.Grid.lean ====
module

public import proofs.«01_k».proof.Proof.Pool.Case
public import proofs.«01_k».proof.Proof.Gen.Kernel4Ideal.Value
public import Idealize.ShloMosaic.Lib.Pipeline.ValueKit

@[expose] public section
set_option maxRecDepth 16384
noncomputable section

namespace Cert.Kernel4Ideal.Pool

open Cert.Kernel4Ideal Cert.Kernel4Ideal.Gen Idealize.ShloMosaic Idealize.ShloMosaic.TcCoe Idealize.SL.Sem

variable (m : (ℓ : Loc nD τ sig) → Buf (Elt Ideal) ℓ) (c : Dev nD)

/-- Windows 0, 1 and 2 read 512 rows of one sequence at point `t`, whose second coordinate is the block of the sequence. -/
theorem idxR : ∀ t : Fin cfg0.N, win0_0.index t (0 : Fin 3) = t.val / 32 ∧ win0_0.index t (1 : Fin 3) = t.val % 32
    ∧ win0_0.index t (2 : Fin 3) = 0 ∧ win0_1.index t (0 : Fin 3) = t.val / 32 ∧ win0_1.index t (1 : Fin 3) = t.val % 32
    ∧ win0_1.index t (2 : Fin 3) = 0 ∧ win0_2.index t (0 : Fin 3) = t.val / 32 ∧ win0_2.index t (1 : Fin 3) = t.val % 32
    ∧ win0_2.index t (2 : Fin 3) = 0 := (by decide +kernel : ∀ t : Fin grid0.N, _)

/-- Every other input is read whole at every point. -/
theorem idxW : ∀ t : Fin cfg0.N, win0_3.index t = ![0, 0, 0] ∧ win0_4.index t = ![0, 0] ∧ win0_5.index t = ![0, 0] :=
  (by decide +kernel : ∀ t : Fin grid0.N, _)

/-- A point's second coordinate is the block of its sequence. -/
theorem coord_at : ∀ t : Fin cfg0.N, ((grid0.coords t) 1).val = t.val % 32 := (by decide +kernel : ∀ t : Fin grid0.N, _)

/-- A block of the attention's columns. -/
theorem iblk0 (t : Fin cfg0.N) (ht : t.val < 64) (r : Fin 512) (j : Fin 512) :
    (iblk m c 0 t : Vec Ideal S1x512x512 .bf16) (ix3 0 r j)
      = m ((c : Thread nD τ).loc main_arg0) (ix3 ⟨t.val / 32, by omega⟩ ⟨512 * (t.val % 32) + r.val, by omega⟩ j) := by
  blk_ext [iblk, V, idxR t]

/-- A block of the rows pooled. -/
theorem iblk1 (t : Fin cfg0.N) (ht : t.val < 64) (r : Fin 512) (j : Fin 512) :
    (iblk m c 1 t : Vec Ideal S1x512x512 .f32) (ix3 0 r j)
      = m ((c : Thread nD τ).loc main_arg1) (ix3 ⟨t.val / 32, by omega⟩ ⟨512 * (t.val % 32) + r.val, by omega⟩ j) := by
  blk_ext [iblk, V, idxR t]

/-- A block of activations. -/
theorem iblk2 (t : Fin cfg0.N) (ht : t.val < 64) (r : Fin 512) (j : Fin 1024) :
    (iblk m c 2 t : Vec Ideal S1x512x1024 .f32) (ix3 0 r j)
      = m ((c : Thread nD τ).loc main_arg2) (ix3 ⟨t.val / 32, by omega⟩ ⟨512 * (t.val % 32) + r.val, by omega⟩ j) := by
  blk_ext [iblk, V, idxR t]

/-- The groups' projections. -/
theorem iblk3 (t : Fin cfg0.N) (g : Fin 4) (k q : Fin 128) :
    (iblk m c 3 t : Vec Ideal S4x128x128 .bf16) (ix3 g k q) = m ((c : Thread nD τ).loc main_arg3) (ix3 g k q) := by
  blk_ext [iblk, V, idxW t]

/-- The groups' scales. -/
theorem iblk4 (t : Fin cfg0.N) (j : Fin 512) :
    (iblk m c 4 t : Vec Ideal S1x512 .f32) (ix2 0 j) = m ((c : Thread nD τ).loc main_arg4) (ix1 j) := by
  have e : (win0_4.blk t).view.emb (ix2 0 j) = ix2 0 j := by blk_ext [idxW t]
  show V m c main_v1 ((win0_4.blk t).view.emb (ix2 0 j)) = _
  rw [e]
  simp only [V, hostOps0, List.flatten_cons, List.flatten_nil, List.append_nil, List.cons_append, List.nil_append]
  entry_read
  pointwise

/-- The output projection's weights. -/
theorem iblk5 (t : Fin cfg0.N) (k : Fin 1024) (j : Fin 1024) :
    (iblk m c 5 t : Vec Ideal S1024x1024 .bf16) (ix2 k j) = m ((c : Thread nD τ).loc main_arg5) (ix2 k j) := by
  blk_ext [iblk, V, idxW t]

/-- The attention's columns, read with the axes the specification names. -/
abbrev aA : PoolSpec.Arr 3 ![2, 16384, 512] := m ((c : Thread nD τ).loc main_arg0)
/-- The rows pooled. -/
abbrev aU : PoolSpec.Arr 3 ![2, 16384, 512] := m ((c : Thread nD τ).loc main_arg1)
/-- The activations. -/
abbrev aX : PoolSpec.Arr 3 ![2, 16384, 1024] := m ((c : Thread nD τ).loc main_arg2)
/-- The groups' projections. -/
abbrev aP : PoolSpec.Arr 3 ![4, 128, 128] := m ((c : Thread nD τ).loc main_arg3)
/-- The groups' scales. -/
abbrev aS : PoolSpec.Arr 1 ![512] := m ((c : Thread nD τ).loc main_arg4)
/-- The output projection's weights. -/
abbrev aO : PoolSpec.Arr 2 ![1024, 1024] := m ((c : Thread nD τ).loc main_arg5)

/-- The sequence a grid point works on. -/
abbrev seqOf (t : Fin cfg0.N) (ht : t.val < 64) : Fin 2 := ⟨t.val / 32, by omega⟩
/-- The row of the sequence that is row `r` of a grid point's block. -/
abbrev rowOf (t : Fin cfg0.N) (r : Fin 512) : Fin 16384 := ⟨512 * (t.val % 32) + r.val, by omega⟩

/-- The rows kept are the last sixteen of the block. -/
theorem kept_apply (x1 : Vec Ideal S1x512x512 .f32) (r : Fin 16) (j : Fin 512) :
    k0_pay10 (k0_pay3 x1) (ix2 r j) = x1 (ix3 0 ⟨496 + r.val, by omega⟩ j) := by
  unfold k0_pay10 k0_pay3
  pointwise

/-- The rows above a point's block: zero at the start of a sequence, and otherwise the rows the point before kept. -/
def above (t : Fin cfg0.N) : Vec Ideal S16x512 .f32 :=
  if t.val % 32 = 0 then noRows
  else (outsAt0 m c (t.val - 1) (Nat.lt_of_le_of_lt (Nat.sub_le _ _) t.isLt)).2

/-- The rows a point keeps. -/
theorem keep_at (t : Fin cfg0.N) : (outsAt0 m c t.val t.isLt).2 = k0_pay10 (k0_pay3 (iblk m c 1 t)) := by
  by_cases h : t.val % 32 = 0
  · rw [outsAt0_A m c t h]; dsimp only; exact keep_A ..
  · rw [outsAt0_B m c t h]; dsimp only; exact keep_B ..

/-- The rows above a later block are the last rows of the block before. -/
theorem above_at (t : Fin cfg0.N) (ht : t.val < 64) (h0 : ¬ t.val % 32 = 0) (r : Fin 16) (j : Fin 512) :
    above m c t (ix2 r j) = aU m c (ix3 (seqOf t ht) ⟨512 * (t.val % 32) + r.val - 16, by omega⟩ j) := by
  unfold above
  rw [if_neg h0, keep_at m c ⟨t.val - 1, Nat.lt_of_le_of_lt (Nat.sub_le _ _) t.isLt⟩, kept_apply,
    iblk1 m c _ (by show t.val - 1 < 64; omega)]
  congr 1
  funext a
  ext
  fin_cases a
  · show (t.val - 1) / 32 = t.val / 32; omega
  · show 512 * ((t.val - 1) % 32) + (496 + r.val) = 512 * (t.val % 32) + r.val - 16; omega
  · rfl

/-- The rows above and the block's own, read at an index. -/
theorem ext_apply (p : Vec Ideal S16x128 .f32) (v : FVec Ideal S512x128 .f32) (n : Fin 528) (k : Fin 128) :
    ext p v (ix2 n k) = if h : n.val < 16 then p (ix2 ⟨n.val, h⟩ k) else v (ix2 ⟨n.val - 16, by omega⟩ k) := by
  unfold ext
  pointwise

/-- Group `g`'s columns of a point's rows. -/
abbrev own (g : Fin 4) (t : Fin cfg0.N) : FVec Ideal S512x128 .f32 := fun y =>
  (iblk m c 1 t : Vec Ideal S1x512x512 .f32) (ix3 0 (y 0) (PoolSpec.col g (y 1)))

/-- The row `d` before a block's row is the sequence's row `d` before, zero before its start. -/
theorem past_at (t : Fin cfg0.N) (ht : t.val < 64) (g : Fin 4) (r : Fin 512) (k : Fin 128) (d : ℕ) (hd : d < 16) :
    (if h : 16 + r.val - d < 528 then ext (rowsAbove g (above m c t)) (own m c g t) (ix2 ⟨16 + r.val - d, h⟩ k) else (0 : EReal))
      = PoolSpec.past (aU m c) d (seqOf t ht) (rowOf t r) (PoolSpec.col g k) := by
  have hr := r.isLt
  rw [dif_pos (by omega), ext_apply]
  unfold PoolSpec.past
  by_cases h : 16 + r.val - d < 16
  · rw [dif_pos h]
    show above m c t (ix2 ⟨16 + r.val - d, h⟩ (PoolSpec.col g k)) = _
    by_cases h0 : t.val % 32 = 0
    · rw [if_pos (by show 512 * (t.val % 32) + r.val < d; omega)]
      unfold above
      rw [if_pos h0]
      rfl
    · rw [if_neg (by show ¬ 512 * (t.val % 32) + r.val < d; omega), above_at m c t ht h0]
      congr 1
      funext a
      ext
      fin_cases a
      · rfl
      · show 512 * (t.val % 32) + (16 + r.val - d) - 16 = 512 * (t.val % 32) + r.val - d; omega
      · rfl
  · rw [dif_neg h, if_neg (by show ¬ 512 * (t.val % 32) + r.val < d; omega)]
    show (iblk m c 1 t : Vec Ideal S1x512x512 .f32) (ix3 0 ⟨16 + r.val - d - 16, by omega⟩ (PoolSpec.col g k)) = _
    rw [iblk1 m c t ht]
    congr 1
    funext a
    ext
    fin_cases a
    · rfl
    · show 512 * (t.val % 32) + (16 + r.val - d - 16) = 512 * (t.val % 32) + r.val - d; omega
    · rfl

/-- Sums of rows above and in a block are the sequence's trailing sums. -/
theorem trailing_at (t : Fin cfg0.N) (ht : t.val < 64) (g : Fin 4) (w : ℕ) (hw : w ≤ 16) (v : FVec Ideal S528x128 .f32) (r : Fin 512)
    (k : Fin 128) (h : Sums w v (fun p => if h : p < 528 then ext (rowsAbove g (above m c t)) (own m c g t) (ix2 ⟨p, h⟩ k) else 0) k) :
    v (ix2 ⟨16 + r.val, by omega⟩ k) = PoolSpec.trailing (aU m c) w (seqOf t ht) (rowOf t r) (PoolSpec.col g k) := by
  refine (h ⟨16 + r.val, by omega⟩ (by simp only; omega)).trans ?_
  unfold PoolSpec.trailing
  exact Finset.sum_congr rfl fun d hd => past_at m c t ht g r k d (by have := Finset.mem_range.mp hd; omega)

/-- One group of a point's block is that group of the sequence's rows. -/
theorem part_at (t : Fin cfg0.N) (ht : t.val < 64) (g : Fin 4) (v : FVec Ideal S528x128 .f32) (z : FVec Ideal S512x128 .f32)
    (hz : z = own m c g t) (l : Ideal .f32) (hl : l = PoolSpec.most g) (hw : PoolSpec.rows g ≤ 16)
    (h : ∀ k, Sums (PoolSpec.rows g) v (fun p => if h : p < 528 then ext (rowsAbove g (above m c t)) (own m c g t) (ix2 ⟨p, h⟩ k) else 0) k)
    (r : Fin 512) (q : Fin 128) :
    scaleF (mixF v (k0_pay4 (grid0.coords t)) l z (weights g (iblk m c 3 t))) (scales g (iblk m c 4 t)) (ix2 r q)
      = PoolSpec.part (aU m c) (aP m c) (aS m c) (seqOf t ht) (rowOf t r) g q := by
  subst hz hl
  refine (group_apply _ _ _ _ _ _ r q).trans ?_
  unfold PoolSpec.part
  congr 1
  · funext k; exact trailing_at m c t ht g _ hw v r k (h k)
  · funext k; exact iblk1 m c t ht r _
  · rw [count_apply, coord_at t]
  · funext k; exact iblk3 m c t g k q
  · exact iblk4 m c t _

/-- The first group's step is the pooling of a window of two rows. -/
theorem pay6_eq (i : grid0.Coords) (x1 : Vec Ideal S1x512x512 .f32) (p : Vec Ideal S16x128 .f32) (w : Vec Ideal S1x128x128 .bf16)
    (c : Vec Ideal S1x128 .f32) (z : FVec Ideal S512x128 .f32)
    (hz : extractStridedSlice S512x128 ![0, 0] (k0_pay3 x1) slices_S512x512_o0_0_S512x128 = z) :
    k0_pay6 i x1 p w c = scaleF (mixF (dbl 1#32 (ext p z)) (k0_pay4 i) (Scalar.ofBits .f32 0x40000000#32) z w) c := by
  subst hz; rfl

/-- The second group's step is the pooling of a window of four rows. -/
theorem pay8_eq (n : FVec Ideal S512x1 .f32) (z : FVec Ideal S512x128 .f32) (p : Vec Ideal S16x128 .f32) (w : Vec Ideal S1x128x128 .bf16)
    (c : Vec Ideal S1x128 .f32) :
    k0_pay8 n z p w c = scaleF (mixF (dbl 2#32 (dbl 1#32 (ext p z))) n (Scalar.ofBits .f32 0x40800000#32) z w) c := rfl

/-- The third group's step is the pooling of a window of eight rows. -/
theorem pay9_eq (v : FVec Ideal S512x512 .f32) (n : FVec Ideal S512x1 .f32) (p : Vec Ideal S16x128 .f32) (w : Vec Ideal S1x128x128 .bf16)
    (z : FVec Ideal S512x128 .f32) (hz : extractStridedSlice S512x128 ![0, 256] v slices_S512x512_o0_256_S512x128 = z) :
    k0_pay9 v n p w = mixF (dbl 4#32 (dbl 2#32 (dbl 1#32 (ext p z)))) n (Scalar.ofBits .f32 0x41000000#32) z w := by
  subst hz; rfl

/-- The columns of the first group. -/
theorem own0 (t : Fin cfg0.N) :
    extractStridedSlice S512x128 ![0, 0] (k0_pay3 (iblk m c 1 t)) slices_S512x512_o0_0_S512x128 = own m c 0 t := by
  funext y
  obtain ⟨r, q, rfl⟩ : ∃ r q, y = ix2 r q := ⟨y 0, y 1, by funext a; fin_cases a <;> rfl⟩
  unfold own k0_pay3
  generalize (iblk m c 1 t : Vec Ideal S1x512x512 .f32) = x
  pointwise
  exact congrArg x (congrArg (ix3 0 r) (Fin.ext (by show q.val = 128 * 0 + q.val; omega)))

/-- The columns of the second group. -/
theorem own1 (t : Fin cfg0.N) : k0_pay7 (iblk m c 1 t) = own m c 1 t := by
  funext y
  obtain ⟨r, q, rfl⟩ : ∃ r q, y = ix2 r q := ⟨y 0, y 1, by funext a; fin_cases a <;> rfl⟩
  unfold own k0_pay7 k0_pay3
  generalize (iblk m c 1 t : Vec Ideal S1x512x512 .f32) = x
  pointwise
  exact congrArg x (congrArg (ix3 0 r) (Fin.ext (by show 128 + q.val = 128 * 1 + q.val; omega)))

/-- The columns of the third group. -/
theorem own2 (t : Fin cfg0.N) :
    extractStridedSlice S512x128 ![0, 256] (k0_pay3 (iblk m c 1 t)) slices_S512x512_o0_256_S512x128 = own m c 2 t := by
  funext y
  obtain ⟨r, q, rfl⟩ : ∃ r q, y = ix2 r q := ⟨y 0, y 1, by funext a; fin_cases a <;> rfl⟩
  unfold own k0_pay3
  generalize (iblk m c 1 t : Vec Ideal S1x512x512 .f32) = x
  pointwise
  exact congrArg x (congrArg (ix3 0 r) (Fin.ext (by show 256 + q.val = 128 * 2 + q.val; omega)))

/-- The columns of the fourth group. -/
theorem own3 (t : Fin cfg0.N) :
    extractStridedSlice S512x128 ![0, 384] (k0_pay3 (iblk m c 1 t)) slices_S512x512_o0_384_S512x128 = own m c 3 t := by
  funext y
  obtain ⟨r, q, rfl⟩ : ∃ r q, y = ix2 r q := ⟨y 0, y 1, by funext a; fin_cases a <;> rfl⟩
  unfold own k0_pay3
  generalize (iblk m c 1 t : Vec Ideal S1x512x512 .f32) = x
  pointwise
  exact congrArg x (congrArg (ix3 0 r) (Fin.ext (by show 384 + q.val = 128 * 3 + q.val; omega)))

/-- The row of the output projection a point computes is the sequence's. -/
theorem join_at (t : Fin cfg0.N) (ht : t.val < 64) (r : Fin 512) (k : Fin 1024) :
    joined (grid0.coords t) (iblk m c 0 t) (iblk m c 1 t) (iblk m c 3 t) (iblk m c 4 t) (above m c t) (ix2 r k)
      = PoolSpec.join (fun k => aA m c (ix3 (seqOf t ht) (rowOf t r) k))
          (PoolSpec.part (aU m c) (aP m c) (aS m c) (seqOf t ht) (rowOf t r)) k := by
  unfold joined
  rw [pay6_eq _ _ _ _ _ _ (own0 m c t), pay8_eq, own1 m c t, pay9_eq _ _ _ _ _ (own2 m c t)]
  refine (join_apply _ _ _ _ _ _ _ _ _ _ r k).trans ?_
  rw [own3 m c t]
  congr 1
  · funext k
    refine Eq.trans ?_ (iblk0 m c t ht r k)
    unfold k0_pay5
    generalize (iblk m c 0 t : Vec Ideal S1x512x512 .bf16) = x
    pointwise
  · funext g q
    have one : ∀ (g : Fin 4) (k : Fin 128), Sums 1 (ext (rowsAbove g (above m c t)) (own m c g t))
        (fun p => if h : p < 528 then ext (rowsAbove g (above m c t)) (own m c g t) (ix2 ⟨p, h⟩ k) else 0) k := fun g k => sums_one _ k
    fin_cases g
    · exact part_at m c t ht 0 _ _ rfl _ rfl (by decide) (fun k => sums_double 1 2 rfl (by decide) _ _ k (one 0 k)) r q
    · exact part_at m c t ht 1 _ _ rfl _ rfl (by decide)
        (fun k => sums_double 2 4 rfl (by decide) _ _ k (sums_double 1 2 rfl (by decide) _ _ k (one 1 k))) r q
    · exact part_at m c t ht 2 _ _ rfl _ rfl (by decide) (fun k => sums_double 4 8 rfl (by decide) _ _ k
        (sums_double 2 4 rfl (by decide) _ _ k (sums_double 1 2 rfl (by decide) _ _ k (one 2 k)))) r q
    · exact part_at m c t ht 3 _ _ rfl _ rfl (by decide) (fun k => sums_double 8 16 rfl (by decide) _ _ k
        (sums_double 4 8 rfl (by decide) _ _ k
          (sums_double 2 4 rfl (by decide) _ _ k (sums_double 1 2 rfl (by decide) _ _ k (one 3 k))))) r q

/-- What a point writes. -/
theorem outs_at (t : Fin cfg0.N) : (outsAt0 m c t.val t.isLt).1
    = k0_pay1 (joined (grid0.coords t) (iblk m c 0 t) (iblk m c 1 t) (iblk m c 3 t) (iblk m c 4 t) (above m c t))
        (k0_pay12 (iblk m c 2 t)) (iblk m c 5 t) := by
  unfold above
  by_cases h : t.val % 32 = 0
  · rw [outsAt0_A m c t h, if_pos h]; dsimp only; exact out_A ..
  · rw [outsAt0_B m c t h, if_neg h]; dsimp only; exact out_B ..

/-- What a point writes is the result's rows of its block. -/
theorem out_at (t : Fin cfg0.N) (ht : t.val < 64) (r : Fin 512) (j : Fin 1024) :
    (outsAt0 m c t.val t.isLt).1 (ix3 0 r j)
      = PoolSpec.out (aA m c) (aU m c) (aX m c) (aP m c) (aS m c) (aO m c) (seqOf t ht) (rowOf t r) j := by
  rw [outs_at]
  refine (result_apply _ _ _ r j).trans ?_
  unfold PoolSpec.out
  refine congrArg₂ (· + ·) (iblk2 m c t ht r j) (Finset.sum_congr rfl fun k _ => ?_)
  rw [join_at m c t ht, iblk5 m c t]

/-- The kernel's result is the pooling and the output projection of its arguments. -/
theorem kernel_out (b : Fin 2) (s : Fin 16384) (j : Fin 1024) :
    Cert.Kernel4Ideal.Value.G6 m c (ix3 b s j)
      = PoolSpec.out (aA m c) (aU m c) (aX m c) (aP m c) (aS m c) (aO m c) b s j := by
  have hb := b.isLt
  have hs := s.isLt
  have hj := j.isLt
  have hp : Cert.Kernel4Ideal.Value.pt6Of (ix3 b s j) = 32 * b.val + s.val / 512 := by
    show 32 * (b.val / 1 - 0) + 1 * (s.val / 512 - 0) + 1 * (j.val / 1024 - 0) = _
    omega
  have hN : cfg0.N = 64 := N_0
  have ht : Cert.Kernel4Ideal.Value.pt6Of (ix3 b s j) < cfg0.N := by omega
  unfold Cert.Kernel4Ideal.Value.G6
  rw [dif_pos ht, ← Cert.Kernel4Ideal.Value.outsAt0_sweep m c _ ht]
  have hl : Cert.Kernel4Ideal.Value.loc6Of (ix3 b s j) = ix3 0 ⟨s.val % 512, by omega⟩ j := by
    funext a; ext; fin_cases a
    · show b.val % 1 = 0; omega
    · rfl
    · show j.val % 1024 = j.val; omega
  rw [hl]
  refine (out_at m c ⟨_, ht⟩ (by show Cert.Kernel4Ideal.Value.pt6Of (ix3 b s j) < 64; omega) _ j).trans ?_
  congr 1
  · ext; show Cert.Kernel4Ideal.Value.pt6Of (ix3 b s j) / 32 = b.val; omega
  · ext; show 512 * (Cert.Kernel4Ideal.Value.pt6Of (ix3 b s j) % 32) + s.val % 512 = s.val; omega

end Cert.Kernel4Ideal.Pool

end
-- ==== Proof.Pool.Reference.lean ====
module

public import proofs.«01_k».proof.Proof.Gen.Reference4Ideal.Run
public import proofs.«01_k».proof.Proof.Pool.Spec

@[expose] public section
set_option maxRecDepth 16384
noncomputable section

namespace Cert.PoolSpec

open Idealize.ShloMosaic Idealize.ShloMosaic.TcCoe Idealize.SL.Sem Cert.Reference4Ideal Cert.Reference4Ideal.Gen

section
variable (V0 : Valuation τ sig (Elt Ideal))

/-- The attention's columns. -/
abbrev rA : Arr 3 ![2, 16384, 512] := V0 (Proc.devRef .tc main_arg0)
/-- The rows pooled. -/
abbrev rU : Arr 3 ![2, 16384, 512] := V0 (Proc.devRef .tc main_arg1)
/-- The activations. -/
abbrev rX : Arr 3 ![2, 16384, 1024] := V0 (Proc.devRef .tc main_arg2)
/-- The groups' projections. -/
abbrev rP : Arr 3 ![4, 128, 128] := V0 (Proc.devRef .tc main_arg3)
/-- The groups' scales. -/
abbrev rS : Arr 1 ![512] := V0 (Proc.devRef .tc main_arg4)
/-- The output projection's weights. -/
abbrev rO : Arr 2 ![1024, 1024] := V0 (Proc.devRef .tc main_arg5)

/-- An array `n` rows before row `s`, zero before its first row. -/
def before (u : FVec Ideal S2x16384x128 .f32) (n : ℕ) (b : Fin 2) (s : Fin 16384) (j : Fin 128) : EReal :=
  if s.val < n then 0 else u (ix3 b ⟨s.val - n, by omega⟩ j)

/-- The number a padded place holds. -/
abbrev padded : EReal := FloatOps.sitofp (F := Ideal) FTy.f32 0#32

/-- A row of the padded array is inside the array, not in its padding, when it is not among the first `n`. -/
theorem inside (n : ℕ) (b : Fin 2) (s : Fin 16384) (k : Fin 128) :
    (∀ a : Fin 3, (![0, n, 0] : Fin 3 → ℕ) a ≤ (ix3 b s k a).val
      ∧ ((ix3 b s k a).val - (![0, n, 0] : Fin 3 → ℕ) a) % ((![0, 0, 0] : Fin 3 → ℕ) a + 1) = 0
      ∧ ((ix3 b s k a).val - (![0, n, 0] : Fin 3 → ℕ) a) / ((![0, 0, 0] : Fin 3 → ℕ) a + 1) < S2x16384x128.size a) ↔ n ≤ s.val := by
  have hb := b.isLt
  have hs := s.isLt
  have hk := k.isLt
  constructor
  · intro h
    exact (h 1).1
  · intro h a
    fin_cases a
    · show 0 ≤ b.val ∧ (b.val - 0) % (0 + 1) = 0 ∧ (b.val - 0) / (0 + 1) < 2; omega
    · show n ≤ s.val ∧ (s.val - n) % (0 + 1) = 0 ∧ (s.val - n) / (0 + 1) < 16384; omega
    · show 0 ≤ k.val ∧ (k.val - 0) % (0 + 1) = 0 ∧ (k.val - 0) / (0 + 1) < 128; omega

/-- A row read out of the array padded above by `n` rows. -/
theorem before_read (u : FVec Ideal S2x16384x128 .f32) (n : ℕ) (b : Fin 2) (s : Fin 16384) (k : Fin 128) (p : Prop) [Decidable p]
    (hp : p ↔ n ≤ s.val) (v : p → EReal) (hv : ∀ h, v h = u (ix3 b ⟨s.val - n, by omega⟩ k)) :
    (if h : p then v h else padded) = before u n b s k := by
  unfold before
  by_cases hn : n ≤ s.val
  · rw [dif_pos (hp.mpr hn), if_neg (by omega), hv]
  · rw [dif_neg (fun h => hn (hp.mp h)), if_pos (by omega)]
    norm_num [padded, FloatOps.sitofp]

/-- The row itself is no row before. -/
theorem before_zero (u : FVec Ideal S2x16384x128 .f32) (b : Fin 2) (s : Fin 16384) (k : Fin 128) :
    u (ix3 b s k) = before u 0 b s k := by
  unfold before
  rw [if_neg (by omega)]
  rfl

/-- A group's rows before are the array's, in the group's columns. -/
theorem before_past (u : FVec Ideal S2x16384x128 .f32) (x : Arr 3 ![2, 16384, 512]) (g : Fin 4)
    (hu : ∀ b s q, u (ix3 b s q) = x (ix3 b s (col g q))) (n : ℕ) (b : Fin 2) (s : Fin 16384) (q : Fin 128) :
    before u n b s q = past x n b s (col g q) := by
  unfold before past
  rw [hu]

/-- The columns of the first group. -/
theorem slice0 (b : Fin 2) (s : Fin 16384) (q : Fin 128) :
    (Cert.Reference4Ideal.Value.res_main_v1 V0 (ix3 b s q) : EReal) = rU V0 (ix3 b s (col 0 q)) := by
  unfold Cert.Reference4Ideal.Value.res_main_v1
  pointwise
  exact congrArg (rU V0) (congrArg (ix3 b s) (Fin.ext (by show q.val = 128 * 0 + q.val; omega)))

/-- The columns of the second group. -/
theorem slice1 (b : Fin 2) (s : Fin 16384) (q : Fin 128) :
    (Cert.Reference4Ideal.Value.res_main_v23 V0 (ix3 b s q) : EReal) = rU V0 (ix3 b s (col 1 q)) := by
  unfold Cert.Reference4Ideal.Value.res_main_v23
  pointwise
  exact congrArg (rU V0) (congrArg (ix3 b s) (Fin.ext (by show 128 + q.val = 128 * 1 + q.val; omega)))

/-- The columns of the third group. -/
theorem slice2 (b : Fin 2) (s : Fin 16384) (q : Fin 128) :
    (Cert.Reference4Ideal.Value.res_main_v51 V0 (ix3 b s q) : EReal) = rU V0 (ix3 b s (col 2 q)) := by
  unfold Cert.Reference4Ideal.Value.res_main_v51
  pointwise
  exact congrArg (rU V0) (congrArg (ix3 b s) (Fin.ext (by show 256 + q.val = 128 * 2 + q.val; omega)))

/-- The columns of the fourth group. -/
theorem slice3 (b : Fin 2) (s : Fin 16384) (q : Fin 128) :
    (Cert.Reference4Ideal.Value.res_main_v91 V0 (ix3 b s q) : EReal) = rU V0 (ix3 b s (col 3 q)) := by
  unfold Cert.Reference4Ideal.Value.res_main_v91
  pointwise
  exact congrArg (rU V0) (congrArg (ix3 b s) (Fin.ext (by show 384 + q.val = 128 * 3 + q.val; omega)))

/-- The five pieces side by side, read at a column. -/
theorem join_read (y : FVec Ideal S2x16384x512 .f32) (y0 y1 y2 y3 : FVec Ideal S2x16384x128 .f32)
    (b : Fin 2) (s : Fin 16384) (k : Fin 1024) :
    (concatenate S2x16384x1024 2 [⟨S2x16384x512, y⟩, ⟨S2x16384x128, y0⟩, ⟨S2x16384x128, y1⟩, ⟨S2x16384x128, y2⟩, ⟨S2x16384x128, y3⟩]
      concatenates_S2x16384x512_S2x16384x128_S2x16384x128_S2x16384x128_S2x16384x128_S2x16384x1024_d2 (ix3 b s k) : EReal)
      = join (fun k => y (ix3 b s k)) ![fun q => y0 (ix3 b s q), fun q => y1 (ix3 b s q), fun q => y2 (ix3 b s q), fun q => y3 (ix3 b s q)] k := by
  unfold join
  pointwise

/-- The count of every row, at most `l`. -/
abbrev counts (l : BitVec 32) : FVec Ideal S2x16384x128 .f32 :=
  broadcastInDim S2x16384x128 ![0, 1, 2] bcast_S1x16384x1_S2x16384x128_0_1_2 (broadcastInDim S1x16384x1 ![1, 2] bcast_S16384x1_S1x16384x1_1_2
    (broadcastInDim S16384x1 ![0] bcast_S16384_S16384x1_0 (minimumf (sitofp .f32 (addi (broadcastInDim S16384 ![] bcast_S_S16384
      (constantI S_ 32 1#32)) (iotaInDim S16384 32 0))) (broadcastInDim S16384 ![] bcast_S_S16384 (constant S_ .f32 l)))))

/-- The count of a row. -/
theorem counts_read (l : BitVec 32) (b : Fin 2) (s : Fin 16384) (q : Fin 128) :
    (counts l (ix3 b s q) : EReal) = min (count s.val) (Ideal.ofBits .f32 l) := by
  unfold counts count
  pointwise
  refine congrArg₂ min (congrArg (FloatOps.sitofp (F := Ideal) .f32) (BitVec.eq_of_toNat_eq ?_)) rfl
  simp only [IntOp.addi, Scalar.addi, BitVec.toNat_add, BitVec.toNat_ofNat]
  omega

/-- A group projected and scaled. -/
abbrev groupOf (d v : FVec Ideal S2x16384x128 .f32) (w : FVec Ideal S128x128 .f32) (z : FVec Ideal S2x16384x128 .f32) :
    FVec Ideal S2x16384x128 .f32 :=
  mulf (Host.dotGeneral dot_S2x16384x128_S128x128_S2x16384x128_2_0_01_1_n_n none (subf d v) w) z

/-- A projected and scaled group, read at an index. -/
theorem group_read (d v : FVec Ideal S2x16384x128 .f32) (w : FVec Ideal S128x128 .f32) (z : FVec Ideal S2x16384x128 .f32)
    (b : Fin 2) (s : Fin 16384) (q : Fin 128) :
    (groupOf d v w z (ix3 b s q) : EReal)
      = (∑ k : Fin 128, ((d (ix3 b s k) : EReal) - v (ix3 b s k)) * w (ix2 k q)) * z (ix3 b s q) := by
  unfold groupOf
  pointwise

/-- A group of the specification, from what each of its arrays holds. -/
theorem part_read (x : Arr 3 ![2, 16384, 512]) (wp : Arr 3 ![4, 128, 128]) (ps : Arr 1 ![512]) (g : Fin 4)
    (d v : FVec Ideal S2x16384x128 .f32) (w : FVec Ideal S128x128 .f32) (z : FVec Ideal S2x16384x128 .f32) (b : Fin 2) (s : Fin 16384) (q : Fin 128)
    (hv : ∀ b s q, v (ix3 b s q) = x (ix3 b s (col g q)))
    (hd : ∀ k, (d (ix3 b s k) : EReal) = Ideal.div (∑ n ∈ Finset.range (rows g), before v n b s k) (min (count s.val) (most g)))
    (hw : ∀ k q, w (ix2 k q) = wp (ix3 g k q)) (hz : z (ix3 b s q) = ps (ix1 (col g q))) :
    (groupOf d v w z (ix3 b s q) : EReal) = part x wp ps b s g q := by
  refine (group_read d v w z b s q).trans ?_
  unfold part entry trailing
  rw [hz]
  refine congrArg₂ (· * ·) (Finset.sum_congr rfl fun k _ => ?_) rfl
  rw [hd, hw, hv]
  simp only [before_past v x g hv]

/-- The mean of the fourth group's window of sixteen rows. -/
theorem mean3 (u : FVec Ideal S2x16384x128 .f32) (hu : Cert.Reference4Ideal.Value.res_main_v91 V0 = u) (b : Fin 2) (s : Fin 16384) (k : Fin 128) :
    (Cert.Reference4Ideal.Value.res_main_v146 V0 (ix3 b s k) : EReal)
      = Ideal.div (∑ n ∈ Finset.range 16, before u n b s k) (min (count s.val) (most 3)) := by
  unfold Cert.Reference4Ideal.Value.res_main_v146
  rw [hu]
  simp only [Finset.sum_range_succ, Finset.sum_range_zero, zero_add]
  show Ideal.div _ (counts 0x41800000#32 (ix3 b s k)) = _
  rw [counts_read]
  refine congrArg₂ Ideal.div ?_ rfl
  pointwise
  iterate 15 refine congrArg₂ HAdd.hAdd ?_ ?_
  · exact before_zero u b s k
  all_goals
    refine before_read u _ b s k _ ⟨fun h => ?_, fun h => ?_⟩ _ fun _ => rfl
    · exact (h (1 : Fin 3)).1
    · have hi := (inside _ b s k).mpr h
      intro (a : Fin 3)
      fin_cases a
      · exact hi 0
      · exact hi 1
      · exact hi 2

/-- The row the output projection meets. -/
theorem joined_read (u0 u1 u2 u3 : FVec Ideal S2x16384x128 .f32) (h0 : Cert.Reference4Ideal.Value.res_main_v1 V0 = u0)
    (h1 : Cert.Reference4Ideal.Value.res_main_v23 V0 = u1) (h2 : Cert.Reference4Ideal.Value.res_main_v51 V0 = u2)
    (h3 : Cert.Reference4Ideal.Value.res_main_v91 V0 = u3) (b : Fin 2) (s : Fin 16384) (k : Fin 1024) :
    (Cert.Reference4Ideal.Value.res_main_v155 V0 (ix3 b s k) : EReal)
      = join (fun k => rA V0 (ix3 b s k)) (part (rU V0) (rP V0) (rS V0) b s) k := by
  unfold Cert.Reference4Ideal.Value.res_main_v155
  rw [h0, h1, h2, h3]
  refine (join_read _ _ _ _ _ b s k).trans ?_
  congr 1
  funext g q
  fin_cases g
  · refine part_read _ _ _ 0 _ _ _ _ b s q (by subst h0; exact slice0 V0) ?_ ?_ ?_
    · intro k
      show Ideal.div _ (counts 0x40000000#32 (ix3 b s k)) = Ideal.div (∑ n ∈ Finset.range 2, _) _
      rw [counts_read]
      simp only [Finset.sum_range_succ, Finset.sum_range_zero, zero_add]
      refine congrArg₂ Ideal.div ?_ rfl
      pointwise
      iterate 1 refine congrArg₂ HAdd.hAdd ?_ ?_
      · exact before_zero u0 b s k
      all_goals
        refine before_read u0 _ b s k _ ⟨fun h => ?_, fun h => ?_⟩ _ fun _ => rfl
        · exact (h (1 : Fin 3)).1
        · have hi := (inside _ b s k).mpr h
          intro (a : Fin 3)
          fin_cases a
          · exact hi 0
          · exact hi 1
          · exact hi 2
    · intro k q; pointwise
    · pointwise
      exact congrArg (rS V0) (congrArg ix1 (Fin.ext (by show q.val = 128 * 0 + q.val; omega)))
  · refine part_read _ _ _ 1 _ _ _ _ b s q (by subst h1; exact slice1 V0) ?_ ?_ ?_
    · intro k
      show Ideal.div _ (counts 0x40800000#32 (ix3 b s k)) = Ideal.div (∑ n ∈ Finset.range 4, _) _
      rw [counts_read]
      simp only [Finset.sum_range_succ, Finset.sum_range_zero, zero_add]
      refine congrArg₂ Ideal.div ?_ rfl
      pointwise
      iterate 3 refine congrArg₂ HAdd.hAdd ?_ ?_
      · exact before_zero u1 b s k
      all_goals
        refine before_read u1 _ b s k _ ⟨fun h => ?_, fun h => ?_⟩ _ fun _ => rfl
        · exact (h (1 : Fin 3)).1
        · have hi := (inside _ b s k).mpr h
          intro (a : Fin 3)
          fin_cases a
          · exact hi 0
          · exact hi 1
          · exact hi 2
    · intro k q; pointwise
    · pointwise
      exact congrArg (rS V0) (congrArg ix1 (Fin.ext (by show 128 + q.val = 128 * 1 + q.val; omega)))
  · refine part_read _ _ _ 2 _ _ _ _ b s q (by subst h2; exact slice2 V0) ?_ ?_ ?_
    · intro k
      show Ideal.div _ (counts 0x41000000#32 (ix3 b s k)) = Ideal.div (∑ n ∈ Finset.range 8, _) _
      rw [counts_read]
      simp only [Finset.sum_range_succ, Finset.sum_range_zero, zero_add]
      refine congrArg₂ Ideal.div ?_ rfl
      pointwise
      iterate 7 refine congrArg₂ HAdd.hAdd ?_ ?_
      · exact before_zero u2 b s k
      all_goals
        refine before_read u2 _ b s k _ ⟨fun h => ?_, fun h => ?_⟩ _ fun _ => rfl
        · exact (h (1 : Fin 3)).1
        · have hi := (inside _ b s k).mpr h
          intro (a : Fin 3)
          fin_cases a
          · exact hi 0
          · exact hi 1
          · exact hi 2
    · intro k q; pointwise
    · pointwise
      exact congrArg (rS V0) (congrArg ix1 (Fin.ext (by show 256 + q.val = 128 * 2 + q.val; omega)))
  · refine part_read _ _ _ 3 _ _ _ _ b s q (by subst h3; exact slice3 V0) (fun k => mean3 V0 u3 h3 b s k) ?_ ?_
    · intro k q; pointwise
    · pointwise
      exact congrArg (rS V0) (congrArg ix1 (Fin.ext (by show 384 + q.val = 128 * 3 + q.val; omega)))

/-- The reference's result, from the row `z` the output projection meets. -/
abbrev resultOf (x : FVec Ideal S2x16384x1024 .f32) (z : FVec Ideal S2x16384x1024 .f32) (w : FVec Ideal S1024x1024 .f32) :
    FVec Ideal S2x16384x1024 .f32 :=
  addf x (Host.dotGeneral dot_S2x16384x1024_S1024x1024_S2x16384x1024_2_0_01_1_n_n none z w)

/-- The last steps, read at an index. -/
theorem result_read (x : FVec Ideal S2x16384x1024 .f32) (z : FVec Ideal S2x16384x1024 .f32) (w : FVec Ideal S1024x1024 .f32)
    (b : Fin 2) (s : Fin 16384) (j : Fin 1024) :
    resultOf x z w (ix3 b s j) = (x (ix3 b s j) : EReal) + ∑ k : Fin 1024, (z (ix3 b s k) : EReal) * w (ix2 k j) := by
  unfold resultOf
  pointwise

/-- The reference's result, read at an index, is the pooling and the output projection of its arguments. -/
theorem reference_out (b : Fin 2) (s : Fin 16384) (j : Fin 1024) :
    resultOf (V0 (Proc.devRef .tc main_arg2)) (Cert.Reference4Ideal.Value.res_main_v155 V0) (V0 (Proc.devRef .tc main_arg5)) (ix3 b s j)
      = out (rA V0) (rU V0) (rX V0) (rP V0) (rS V0) (rO V0) b s j := by
  refine (result_read _ _ _ b s j).trans ?_
  unfold out
  refine congrArg₂ (· + ·) rfl (Finset.sum_congr rfl fun k _ => ?_)
  rw [joined_read V0 _ _ _ _ rfl rfl rfl rfl]

end

end Cert.PoolSpec

end
-- ==== Proof.Conf.Sum.lean ====
module

public import Idealize.ShloMosaic.Lib.Pointwise

@[expose] public section
noncomputable section

namespace Cert.ConfSpec

/-- Adding the 31 terms one by one to a number adds their sum. -/
theorem sum_taps (b : EReal) (f : Fin 31 → EReal) :
    b + f 0 + f 1 + f 2 + f 3 + f 4 + f 5 + f 6 + f 7 + f 8 + f 9 + f 10 + f 11 + f 12 + f 13 + f 14 + f 15 + f 16 + f 17
      + f 18 + f 19 + f 20 + f 21 + f 22 + f 23 + f 24 + f 25 + f 26 + f 27 + f 28 + f 29 + f 30 = b + ∑ t, f t := by
  simp only [Fin.sum_univ_ofNat, ← add_assoc]

/-- The same in the order that takes the terms by their place modulo eight, from the last back. -/
theorem sum_taps_by_eight (b : EReal) (f : Fin 31 → EReal) :
    b + f 30 + f 22 + f 14 + f 6 + f 29 + f 21 + f 13 + f 5 + f 28 + f 20 + f 12 + f 4 + f 27 + f 19 + f 11 + f 3
      + f 26 + f 18 + f 10 + f 2 + f 25 + f 17 + f 9 + f 1 + f 24 + f 16 + f 8 + f 0 + f 23 + f 15 + f 7 = b + ∑ t, f t := by
  rw [← sum_taps]
  ac_rfl

end Cert.ConfSpec

end
-- ==== Proof.Conf.Chunk.lean ====
module

public import proofs.«01_k».proof.Proof.Gen.Kernel3Ideal.Loops
public import proofs.«01_k».proof.Proof.Conf.Sum

@[expose] public section
set_option maxRecDepth 16384
noncomputable section

namespace Cert.Kernel3Ideal.Conf

open Cert.Kernel3Ideal Cert.Kernel3Ideal.Gen Idealize.ShloMosaic Idealize.ShloMosaic.TcCoe Idealize.SL.Sem

/-- One chunk of 128 columns of the convolution, as the kernel computes it from the chunk's columns of the gated rows,
    of the bias and of the taps. -/
def chunkF {F : FTy → Type} [FloatOps F] (e : Vec F S544x128 .f32) (b : Vec F S1x128 .f32)
    (w : Fin 31 → Vec F S1x128 .f32) : FVec F S512x128 .f32 :=
  k0_pay20 e (k0_pay13 e)
    (k0_pay14 e
      (k0_pay11 e
        (k0_pay6 e (k0_pay2 e) (k0_pay3 e b (w 30) (w 22) (w 14) (w 6) (w 29)) (k0_pay4 (w 21)) (k0_pay5 e)
          (w 13) (w 5) (w 28) (w 20) (w 12) (w 4))
        (k0_pay7 e) (k0_pay8 (w 27)) (k0_pay9 e) (w 19) (w 11) (w 3) (w 26) (w 18) (w 10))
      (k0_pay12 e (w 2)) (w 25) (w 17) (w 9) (w 1) (w 24) (w 16))
    (k0_pay15 e (w 8)) (w 0) (w 23) (w 15) (w 7)

/-- A chunk of the convolution is the bias plus the sum over the taps of tap times the gated row the tap reaches. -/
theorem chunk_apply (e : Vec Ideal S544x128 .f32) (b : Vec Ideal S1x128 .f32) (w : Fin 31 → Vec Ideal S1x128 .f32)
    (r : Fin 512) (j : Fin 128) :
    chunkF e b w (ix2 r j)
      = b (ix2 0 j) + ∑ t : Fin 31, w t (ix2 0 j) * e (ix2 ⟨r.val + t.val + 2, by omega⟩ j) := by
  refine Eq.trans ?_ (Cert.ConfSpec.sum_taps_by_eight _ _)
  unfold chunkF k0_pay20 k0_pay15 k0_pay14 k0_pay13 k0_pay12 k0_pay11 k0_pay10 k0_pay9 k0_pay8 k0_pay7 k0_pay6 k0_pay5 k0_pay4 k0_pay3 k0_pay2
  pointwise
  have row : ∀ (n n' : ℕ) (h : n < 544) (h' : n' < 544), n = n' → e (ix2 ⟨n, h⟩ j) = e (ix2 ⟨n', h'⟩ j) := by
    rintro n n' h h' rfl; rfl
  iterate 31 refine congrArg₂ HAdd.hAdd ?_ (congrArg (HMul.hMul _) (row _ _ _ _ (by first | omega | (dsimp; omega))))
  rfl

end Cert.Kernel3Ideal.Conf
-- ==== Proof.Conf.Trip.lean ====
module

public import proofs.«01_k».proof.Proof.Gen.Kernel3Ideal.Frame
public import Idealize.ShloMosaic.Lib.WholeRead
public import proofs.«01_k».proof.Proof.Conf.Chunk

@[expose] public section
set_option maxRecDepth 16384
noncomputable section

namespace Cert.Kernel3Ideal.Conf

open Cert.Kernel3Ideal Cert.Kernel3Ideal.Gen Idealize.ShloMosaic Idealize.ShloMosaic.TcCoe Idealize.SL.Sem

/-- Where the kernel loads the row of tap `t` from, for chunk `k`. -/
def tapOff (k : Fin k0_t1_loop.trips) : Fin 31 → Fin 2 → ℕ :=
  ![k0_off30 k, k0_off26 k, k0_off22 k, k0_off18 k, k0_off14 k, k0_off10 k, k0_off6 k, k0_off33 k,
    k0_off29 k, k0_off25 k, k0_off21 k, k0_off17 k, k0_off13 k, k0_off9 k, k0_off5 k, k0_off32 k,
    k0_off28 k, k0_off24 k, k0_off20 k, k0_off16 k, k0_off12 k, k0_off8 k, k0_off4 k, k0_off31 k,
    k0_off27 k, k0_off23 k, k0_off19 k, k0_off15 k, k0_off11 k, k0_off7 k, k0_off3 k]

/-- Tap `t`'s row is row `t` of the taps, and chunk `k` starts at column `128 * k`. -/
theorem tapOff_eq : ∀ (k : Fin k0_t1_loop.trips) (t : Fin 31), tapOff k t = ![t.val, 128 * k.val] := by decide +kernel

/-- The chunk's other offsets: the same columns, from the first row. -/
theorem off_eq : ∀ k : Fin k0_t1_loop.trips,
    k0_off1 k = ![0, 128 * k.val] ∧ k0_off2 k = ![0, 128 * k.val] ∧ k0_off34 k = ![0, 128 * k.val] := by decide +kernel

/-- The row of a tap lies in the taps. -/
theorem tapOff_inb (k : Fin k0_t1_loop.trips) (t : Fin 31) : ∀ a, tapOff k t a + S1x128.size a ≤ S32x1024.size a := by
  have hk : k.val < 8 := k.isLt
  rw [tapOff_eq]
  intro a
  fin_cases a
  · show t.val + 1 ≤ 32; omega
  · show 128 * k.val + 128 ≤ 1024; omega

/-- The convolution at row `r`, column `j` of a block, over the 32 rows above the block and the block's own rows. -/
def conv (e : Vec Ideal S544x1024 .f32) (cw : Vec Ideal S32x1024 .f32) (cb : Vec Ideal S1x1024 .f32) (r : Fin 512)
    (j : Fin 1024) : EReal :=
  cb (ix2 0 j) + ∑ t : Fin 31, cw (ix2 ⟨t.val, by omega⟩ j) * e (ix2 ⟨r.val + t.val + 2, by omega⟩ j)

/-- The block of the convolution. -/
def convBlock (e : Vec Ideal S544x1024 .f32) (cw : Vec Ideal S32x1024 .f32) (cb : Vec Ideal S1x1024 .f32) :
    Vec Ideal S512x1024 .f32 := fun x => conv e cw cb (x 0) (x 1)

section
variable (arg5 : Memref sig .tc .vmem S32x1024 .f32) (harg5 : arg5.IsWhole)
  (arg6 : Memref sig .tc .vmem S1x1024 .f32) (harg6 : arg6.IsWhole) (arg11 : Memref sig .tc .vmem S544x1024 .f32)
  (x3 : Vec Ideal S32x1024 .f32) (x4 : Vec Ideal S1x1024 .f32) (f11 : BufTy.Contents (Elt Ideal) arg11.view.ty)

/-- A chunk of the convolution, from what the kernel loads for it, is its columns of the block of the convolution. -/
theorem chunk_piece (k : Fin k0_t1_loop.trips) (r : Fin 512) (j : Fin 128) :
    chunkF (View.readAt (Elt Ideal) arg11.view (Rect.unit (s := S544x1024) (k0_off1 k) S544x128.size (k0_off1_inb k)).toLoadRect f11)
        (View.readAt (Elt Ideal) arg6.view (Rect.unit (s := S1x1024) (k0_off2 k) S1x128.size (k0_off2_inb k)).toLoadRect (harg6.unread x4))
        (fun t => View.readAt (Elt Ideal) arg5.view (Rect.unit (s := S32x1024) (tapOff k t) S1x128.size (tapOff_inb k t)).toLoadRect (harg5.unread x3))
        (ix2 r j)
      = convBlock (arg11.view.read (Elt Ideal) f11) x3 x4
          ((Rect.unit (s := S512x1024) (k0_off34 k) S512x128.size (k0_off34_inb k)).emb (ix2 r j)) := by
  have hk : k.val < 8 := k.isLt
  obtain ⟨h1, h2, h3⟩ := off_eq k
  have ey : (Rect.unit (s := S512x1024) (k0_off34 k) S512x128.size (k0_off34_inb k)).emb (ix2 r j)
      = ix2 r ⟨128 * k.val + j.val, by omega⟩ := by
    funext a; ext; fin_cases a <;> simp [h3]
  have e6 : (View.readAt (Elt Ideal) arg6.view (Rect.unit (s := S1x1024) (k0_off2 k) S1x128.size (k0_off2_inb k)).toLoadRect (harg6.unread x4)
      : Vec Ideal S1x128 .f32) (ix2 0 j) = x4 (ix2 0 ⟨128 * k.val + j.val, by omega⟩) := by
    rw [harg6.readAt_unread]
    congr 1; funext a; ext; fin_cases a <;> simp [LoadRect.idx, h2]
  have e5 : ∀ t : Fin 31, (View.readAt (Elt Ideal) arg5.view (Rect.unit (s := S32x1024) (tapOff k t) S1x128.size (tapOff_inb k t)).toLoadRect (harg5.unread x3)
      : Vec Ideal S1x128 .f32) (ix2 0 j) = x3 (ix2 ⟨t.val, by omega⟩ ⟨128 * k.val + j.val, by omega⟩) := by
    intro t
    rw [harg5.readAt_unread]
    congr 1; funext a; ext; fin_cases a <;> simp [LoadRect.idx, tapOff_eq]
  have e11 : ∀ n : Fin 544, (View.readAt (Elt Ideal) arg11.view (Rect.unit (s := S544x1024) (k0_off1 k) S544x128.size (k0_off1_inb k)).toLoadRect f11
      : Vec Ideal S544x128 .f32) (ix2 n j) = arg11.view.read (Elt Ideal) f11 (ix2 n ⟨128 * k.val + j.val, by omega⟩) := by
    intro n
    rw [View.readAt_apply]
    congr 1; funext a; ext; fin_cases a <;> simp [LoadRect.idx, h1]
  rw [chunk_apply, ey, e6]
  simp only [e5, e11]
  rfl

end

section
variable (c : Dev nD) (i : grid0.Coords) (arg2 : Memref sig .tc .vmem S1x512x1024 .f32) (harg2 : arg2.IsWhole)
  (arg3 : Memref sig .tc .vmem S1x1024 .f32) (harg3 : arg3.IsWhole) (arg4 : Memref sig .tc .vmem S1024x2048 .bf16)
  (harg4 : arg4.IsWhole) (arg5 : Memref sig .tc .vmem S32x1024 .f32) (harg5 : arg5.IsWhole)
  (arg6 : Memref sig .tc .vmem S1x1024 .f32) (harg6 : arg6.IsWhole) (arg7 : Memref sig .tc .vmem S1x1024 .f32)
  (harg7 : arg7.IsWhole) (arg8 : Memref sig .tc .vmem S1x1024 .f32) (harg8 : arg8.IsWhole)
  (arg9 : Memref sig .tc .vmem S1024x1024 .bf16) (harg9 : arg9.IsWhole) (arg10 : Memref sig .tc .vmem S1x512x1024 .f32)
  (harg10 : arg10.IsWhole) (arg11 : Memref sig .tc .vmem S544x1024 .f32) (harg11 : arg11.IsWhole)
  (arg12 : Memref sig .tc .vmem S512x1024 .f32) (harg12 : arg12.IsWhole)
  (x3 : Vec Ideal S32x1024 .f32) (x4 : Vec Ideal S1x1024 .f32) (f11 : BufTy.Contents (Elt Ideal) arg11.view.ty)

/-- What one chunk stores: the chunk of the convolution from what it loads. -/
theorem trip_store (f5 : BufTy.Contents (Elt Ideal) arg5.view.ty) (f6 : BufTy.Contents (Elt Ideal) arg6.view.ty)
    (k : Fin k0_t1_loop.trips) :
    tripL_k0_t1 Variants.none c none i arg2 harg2 arg3 harg3 arg4 harg4 arg5 harg5 arg6 harg6 arg7 harg7 arg8 harg8 arg9 harg9 arg10 harg10 arg11 harg11 arg12 harg12 f5 f6 f11 k
      = [⟨Rect.unit (s := S512x1024) (k0_off34 k) S512x128.size (k0_off34_inb k),
          chunkF (View.readAt (Elt Ideal) arg11.view (Rect.unit (s := S544x1024) (k0_off1 k) S544x128.size (k0_off1_inb k)).toLoadRect f11)
            (View.readAt (Elt Ideal) arg6.view (Rect.unit (s := S1x1024) (k0_off2 k) S1x128.size (k0_off2_inb k)).toLoadRect f6)
            (fun t => View.readAt (Elt Ideal) arg5.view (Rect.unit (s := S32x1024) (tapOff k t) S1x128.size (tapOff_inb k t)).toLoadRect f5)⟩] := by
  unfold tripL_k0_t1 trip_k0_t1
  rfl

/-- What one chunk stores is its columns of the block of the convolution. -/
theorem trip_piece (k : Fin k0_t1_loop.trips) :
    ∀ q ∈ tripL_k0_t1 Variants.none c none i arg2 harg2 arg3 harg3 arg4 harg4 arg5 harg5 arg6 harg6 arg7 harg7 arg8 harg8 arg9 harg9 arg10 harg10 arg11 harg11 arg12 harg12 (harg5.unread x3) (harg6.unread x4) f11 k,
      ∀ x : q.1.shape.Idx, q.2 x = convBlock (arg11.view.read (Elt Ideal) f11) x3 x4 (q.1.emb x) := by
  rw [trip_store]
  intro q hq
  obtain rfl := List.mem_singleton.mp hq
  intro x
  obtain ⟨r, j, rfl⟩ : ∃ (r : Fin 512) (j : Fin 128), x = ix2 r j := ⟨x 0, x 1, by funext a; fin_cases a <;> rfl⟩
  exact chunk_piece arg5 harg5 arg6 harg6 arg11 x3 x4 f11 k r j

/-- All the chunks' stores before chunk `n`. -/
theorem pieces (n : ℕ) :
    ∀ q ∈ pb_k0_t1 Variants.none c none i arg2 harg2 arg3 harg3 arg4 harg4 arg5 harg5 arg6 harg6 arg7 harg7 arg8 harg8 arg9 harg9 arg10 harg10 arg11 harg11 arg12 harg12 (harg5.unread x3) (harg6.unread x4) f11 n,
      ∀ x : q.1.shape.Idx, q.2 x = convBlock (arg11.view.read (Elt Ideal) f11) x3 x4 (q.1.emb x) := by
  induction n with
  | zero => intro q hq; exact absurd hq List.not_mem_nil
  | succ n ih =>
    intro q hq
    by_cases hn : n < k0_t1_loop.trips
    · rw [pb_k0_t1_succ _ _ _ _ _ _ _ _ _ _ _ _ _ _ _ _ _ _ _ _ _ _ _ _ _ _ _ _ _ ⟨n, hn⟩] at hq
      rcases List.mem_append.mp hq with hq | hq
      · exact trip_piece _ _ _ _ _ _ _ _ _ harg5 _ harg6 _ _ _ _ _ _ _ _ _ _ _ _ _ _ _ ⟨n, hn⟩ q hq
      · exact ih q hq
    · rw [pb_k0_t1.eq_2, pb_k0_t1Step, dif_neg hn] at hq
      exact ih q hq

/-- Chunk `k`'s store is among the stores. -/
theorem mem_pieces (f5 : BufTy.Contents (Elt Ideal) arg5.view.ty) (f6 : BufTy.Contents (Elt Ideal) arg6.view.ty) (n : ℕ) (hn : n ≤ k0_t1_loop.trips) (k : Fin k0_t1_loop.trips) (hk : k.val < n) :
    ∃ q ∈ pb_k0_t1 Variants.none c none i arg2 harg2 arg3 harg3 arg4 harg4 arg5 harg5 arg6 harg6 arg7 harg7 arg8 harg8 arg9 harg9 arg10 harg10 arg11 harg11 arg12 harg12 f5 f6 f11 n,
      q.1 = Rect.unit (s := S512x1024) (k0_off34 k) S512x128.size (k0_off34_inb k) := by
  induction n with
  | zero => omega
  | succ n ih =>
    rw [pb_k0_t1_succ _ _ _ _ _ _ _ _ _ _ _ _ _ _ _ _ _ _ _ _ _ _ _ _ _ _ _ _ _ ⟨n, hn⟩]
    by_cases h : k.val = n
    · obtain rfl : k = ⟨n, hn⟩ := Fin.ext h
      rw [trip_store]
      exact ⟨_, List.mem_append_left _ (List.mem_singleton_self _), rfl⟩
    · obtain ⟨q, hq, e⟩ := ih (by omega) (by omega)
      exact ⟨q, List.mem_append_right _ hq, e⟩

/-- The scratch the chunks fill, read back, is the block of the convolution. -/
theorem conv_scratch (ik) :
    (arg12.view.readCov (pb_k0_t1 Variants.none c none i arg2 harg2 arg3 harg3 arg4 harg4 arg5 harg5 arg6 harg6 arg7 harg7 arg8 harg8 arg9 harg9 arg10 harg10 arg11 harg11 arg12 harg12 (harg5.unread x3) (harg6.unread x4) f11 k0_t1_loop.trips)
        (Rect.unit (s := S512x1024) ![0, 0] S512x1024.size ik).toLoadRect : Vec Ideal S512x1024 .f32)
      = convBlock (arg11.view.read (Elt Ideal) f11) x3 x4 := by
  rw [View.readCov_eq_canon']
  funext y
  have hy : (y 1).val < 1024 := (y 1).isLt
  have hy0 : (y 0).val < 512 := (y 0).isLt
  have ei : (Rect.unit (s := S512x1024) ![0, 0] S512x1024.size ik).toLoadRect.idx y = y := by
    funext a; ext; fin_cases a <;> simp [LoadRect.idx]
  rw [ei]
  refine View.canon_apply_of_pieces _ _ (pieces c i arg2 harg2 arg3 harg3 arg4 harg4 arg5 harg5 arg6 harg6 arg7 harg7 arg8 harg8 arg9 harg9 arg10 harg10 arg11 harg11 arg12 harg12 x3 x4 f11 _) y ?_
  have hk : (y 1).val / 128 < k0_t1_loop.trips := by show _ < 8; omega
  obtain ⟨q, hq, e⟩ := mem_pieces c i arg2 harg2 arg3 harg3 arg4 harg4 arg5 harg5 arg6 harg6 arg7 harg7 arg8 harg8 arg9 harg9 arg10 harg10 arg11 harg11 arg12 harg12 f11 (harg5.unread x3) (harg6.unread x4) k0_t1_loop.trips le_rfl ⟨(y 1).val / 128, hk⟩ hk
  refine ⟨q, hq, ?_⟩
  rw [e]
  refine Rect.mem_set_unit.mpr fun a => ?_
  obtain ⟨_, _, h3⟩ := off_eq ⟨(y 1).val / 128, hk⟩
  rw [h3]
  fin_cases a
  · simpa using hy0
  · simp; omega

end

end Cert.Kernel3Ideal.Conf

end
-- ==== Proof.Conf.Spec.lean ====
module

public import Idealize.ShloMosaic.Lib.Pointwise

@[expose] public section
noncomputable section

/-! The conformer's convolution module over whole arrays, read at an index. -/

namespace Cert.ConfSpec

open Idealize.ShloMosaic Idealize.SL.Sem

/-- An array of extended reals of the given axes. -/
abbrev Arr (n : ℕ) (d : Fin n → ℕ) : Type := (⟨n, d⟩ : Shape).Idx → EReal

/-- The mean of 1024 numbers. -/
def mean (f : Fin 1024 → EReal) : EReal := Ideal.div (∑ q : Fin 1024, f q) (Ideal.ofBits .f32 0x44800000#32)

/-- The small number added to a mean square. -/
def small : EReal := Ideal.ofBits .f32 0x358637BD#32

/-- Layer normalisation of 1024 numbers with gains `lg` and biases `lb`, at column `k`. -/
def layer (f lg lb : Fin 1024 → EReal) (k : Fin 1024) : EReal :=
  (f k - mean f) * Ideal.rsqrt (mean (fun q => (f q - mean f) * (f q - mean f)) + small) * lg k + lb k

section
variable (x : Arr 3 ![2, 16384, 1024]) (g : Arr 1 ![1024]) (w1 : Arr 2 ![1024, 2048]) (cw : Arr 2 ![31, 1024])
  (cb : Arr 1 ![1024]) (lg : Arr 1 ![1024]) (lb : Arr 1 ![1024]) (w2 : Arr 2 ![1024, 1024])

/-- The root-mean-square normalised activations at sequence `b`, row `s`, column `k`. -/
def norm (b : Fin 2) (s : Fin 16384) (k : Fin 1024) : EReal :=
  x (ix3 b s k) * Ideal.rsqrt (mean (fun q => x (ix3 b s q) * x (ix3 b s q)) + small) * g (ix1 k)

/-- The first projection at row `s`, column `j`. -/
def proj (b : Fin 2) (s : Fin 16384) (j : Fin 2048) : EReal := ∑ k : Fin 1024, norm x g b s k * w1 (ix2 k j)

/-- The gated linear unit: the first half of the projection's columns times the logistic of the second half. -/
def glu (b : Fin 2) (s : Fin 16384) (j : Fin 1024) : EReal :=
  proj x g w1 b s ⟨j.val, by omega⟩ * Ideal.logistic (proj x g w1 b s ⟨1024 + j.val, by omega⟩)

/-- The gated rows `n` rows before row `s`, zero before the first row of a sequence. -/
def past (n : ℕ) (b : Fin 2) (s : Fin 16384) (j : Fin 1024) : EReal :=
  if s.val < n then 0 else glu x g w1 b ⟨s.val - n, by omega⟩ j

/-- The causal convolution of 31 taps, with its bias: tap `t` meets the row `30 - t` rows before. -/
def conv (b : Fin 2) (s : Fin 16384) (j : Fin 1024) : EReal :=
  cb (ix1 j) + ∑ t : Fin 31, cw (ix2 t j) * past x g w1 (30 - t.val) b s j

/-- The layer normalised convolution. -/
def normed (b : Fin 2) (s : Fin 16384) (k : Fin 1024) : EReal :=
  layer (fun q => conv x g w1 cw cb b s q) (fun q => lg (ix1 q)) (fun q => lb (ix1 q)) k

/-- The module's result: the activations plus the second projection of `z · logistic z`. -/
def out (b : Fin 2) (s : Fin 16384) (j : Fin 1024) : EReal :=
  x (ix3 b s j) + ∑ k : Fin 1024,
    normed x g w1 cw cb lg lb b s k * Ideal.logistic (normed x g w1 cw cb lg lb b s k) * w2 (ix2 k j)

end

end Cert.ConfSpec

end
-- ==== Proof.Conf.Case.lean ====
module

public import proofs.«01_k».proof.Proof.Conf.Trip
public import proofs.«01_k».proof.Proof.Conf.Spec

@[expose] public section
set_option maxRecDepth 16384
noncomputable section

namespace Cert.Kernel3Ideal.Conf

open Cert.Kernel3Ideal Cert.Kernel3Ideal.Gen Idealize.ShloMosaic Idealize.ShloMosaic.TcCoe Idealize.SL.Sem

/-- The normalised activations of a block. -/
def norm (x0 : Vec Ideal S1x512x1024 .f32) (x1 : Vec Ideal S1x1024 .f32) (r : Fin 512) (k : Fin 1024) : EReal :=
  x0 (ix3 0 r k) * Ideal.rsqrt (ConfSpec.mean (fun q => x0 (ix3 0 r q) * x0 (ix3 0 r q)) + ConfSpec.small) * x1 (ix2 0 k)

/-- The gated rows of a block, read at an index. -/
theorem glu_block (x0 : Vec Ideal S1x512x1024 .f32) (x1 : Vec Ideal S1x1024 .f32) (x2 : Vec Ideal S1024x2048 .bf16)
    (r : Fin 512) (j : Fin 1024) :
    k0_pay19 x0 x1 x2 (ix2 r j)
      = (∑ k : Fin 1024, norm x0 x1 r k * x2 (ix2 k ⟨j.val, by omega⟩))
        * Ideal.logistic (∑ k : Fin 1024, norm x0 x1 r k * x2 (ix2 k ⟨1024 + j.val, by omega⟩)) := by
  unfold k0_pay19 k0_pay18 norm ConfSpec.mean ConfSpec.small
  pointwise

/-- What the kernel writes from the convolution's block, read at an index. -/
theorem out_block (x0 : Vec Ideal S1x512x1024 .f32) (y : Vec Ideal S512x1024 .f32) (x5 x6 : Vec Ideal S1x1024 .f32)
    (x7 : Vec Ideal S1024x1024 .bf16) (r : Fin 512) (j : Fin 1024) :
    k0_pay1 (k0_pay18 x0) y x5 x6 x7 (ix3 0 r j)
      = x0 (ix3 0 r j) + ∑ k : Fin 1024,
          ConfSpec.layer (fun q => y (ix2 r q)) (fun q => x5 (ix2 0 q)) (fun q => x6 (ix2 0 q)) k
            * Ideal.logistic (ConfSpec.layer (fun q => y (ix2 r q)) (fun q => x5 (ix2 0 q)) (fun q => x6 (ix2 0 q)) k)
            * x7 (ix2 k j) := by
  unfold k0_pay1 k0_pay18 ConfSpec.layer ConfSpec.mean ConfSpec.small
  pointwise

/-- The gated rows the convolution reads: 32 rows above a block, then the block's own. -/
def extBlock (u : Vec Ideal S512x1024 .f32) (p : Vec Ideal S32x1024 .f32) : Vec Ideal S544x1024 .f32 := fun y =>
  if h : (y 0).val < 32 then p (ix2 ⟨(y 0).val, h⟩ (y 1))
  else u (ix2 ⟨(y 0).val - 32, by have : (y 0).val < 544 := (y 0).isLt; omega⟩ (y 1))

/-- The block's own rows. -/
theorem ext_own (u : Vec Ideal S512x1024 .f32) (p : Vec Ideal S32x1024 .f32) (r : Fin 512) (j : Fin 1024) :
    extBlock u p (ix2 ⟨32 + r.val, by omega⟩ j) = u (ix2 r j) := by
  refine (dif_neg (by show ¬ 32 + r.val < 32; omega)).trans ?_
  refine congrArg u (congrArg (fun n => ix2 n j) (Fin.ext ?_))
  show 32 + r.val - 32 = r.val
  omega

/-- The rows above the block. -/
theorem ext_above (u : Vec Ideal S512x1024 .f32) (p : Vec Ideal S32x1024 .f32) (r : Fin 32) (j : Fin 1024) :
    extBlock u p (ix2 ⟨r.val, by omega⟩ j) = p (ix2 r j) := dif_pos r.isLt

/-- The two stores into the scratch of gated rows are the two parts of its rows. -/
theorem ext_pieces (u : Vec Ideal S512x1024 .f32) (p : Vec Ideal S32x1024 .f32) (i1 i2) :
    ∀ q ∈ ([⟨Rect.unit (s := S544x1024) ![32, 0] S512x1024.size i1, u⟩,
      ⟨Rect.unit (s := S544x1024) ![0, 0] S32x1024.size i2, p⟩] : List (View.Piece (Elt Ideal) S544x1024 .f32)),
      ∀ x : q.1.shape.Idx, q.2 x = extBlock u p (q.1.emb x) := by
  intro q hq
  simp only [List.mem_cons, List.not_mem_nil, or_false] at hq
  rcases hq with rfl | rfl
  · intro x
    obtain ⟨r, j, rfl⟩ : ∃ (r : Fin 512) (j : Fin 1024), x = ix2 r j := ⟨x 0, x 1, by funext a; fin_cases a <;> rfl⟩
    have e : (Rect.unit (s := S544x1024) ![32, 0] S512x1024.size i1).emb (ix2 r j) = ix2 ⟨32 + r.val, by omega⟩ j := by
      funext a; ext; fin_cases a <;> simp
    exact (ext_own u p r j).symm.trans (congrArg (extBlock u p) e.symm)
  · intro x
    obtain ⟨r, j, rfl⟩ : ∃ (r : Fin 32) (j : Fin 1024), x = ix2 r j := ⟨x 0, x 1, by funext a; fin_cases a <;> rfl⟩
    have e : (Rect.unit (s := S544x1024) ![0, 0] S32x1024.size i2).emb (ix2 r j) = ix2 ⟨r.val, by omega⟩ j := by
      funext a; ext; fin_cases a <;> simp
    exact (ext_above u p r j).symm.trans (congrArg (extBlock u p) e.symm)

/-- The scratch of gated rows after its two stores. -/
theorem ext_canon (u : Vec Ideal S512x1024 .f32) (p : Vec Ideal S32x1024 .f32) (i1 i2) :
    View.canon ([⟨Rect.unit (s := S544x1024) ![32, 0] S512x1024.size i1, u⟩,
      ⟨Rect.unit (s := S544x1024) ![0, 0] S32x1024.size i2, p⟩] : List (View.Piece (Elt Ideal) S544x1024 .f32)) = extBlock u p := by
  funext y
  have hy : (y 0).val < 544 := (y 0).isLt
  have hy1 : (y 1).val < 1024 := (y 1).isLt
  refine View.canon_apply_of_pieces _ _ (ext_pieces u p i1 i2) y ?_
  by_cases h : (y 0).val < 32
  · refine ⟨⟨Rect.unit (s := S544x1024) ![0, 0] S32x1024.size i2, p⟩, List.mem_cons_of_mem _ (List.mem_singleton_self _), ?_⟩
    rw [Rect.mem_set_unit]
    intro a
    fin_cases a
    · simpa using h
    · simpa using hy1
  · refine ⟨⟨Rect.unit (s := S544x1024) ![32, 0] S512x1024.size i1, u⟩, List.mem_cons_self, ?_⟩
    rw [Rect.mem_set_unit]
    intro a
    fin_cases a
    · simp; omega
    · simpa using hy1

/-- The 32 rows above the first block of a sequence. -/
def noRows : Vec Ideal S32x1024 .f32 := fun _ => 0

/-- The 32 rows above a later block: the last 32 gated rows of the block before. -/
def lastRows (e : Vec Ideal S544x1024 .f32) : Vec Ideal S32x1024 .f32 := fun y =>
  e (ix2 ⟨512 + (y 0).val, by have : (y 0).val < 32 := (y 0).isLt; omega⟩ (y 1))

section
variable (c : Dev nD) (i : grid0.Coords) (arg2 : Memref sig .tc .vmem S1x512x1024 .f32) (harg2 : arg2.IsWhole)
  (arg3 : Memref sig .tc .vmem S1x1024 .f32) (harg3 : arg3.IsWhole) (arg4 : Memref sig .tc .vmem S1024x2048 .bf16)
  (harg4 : arg4.IsWhole) (arg5 : Memref sig .tc .vmem S32x1024 .f32) (harg5 : arg5.IsWhole)
  (arg6 : Memref sig .tc .vmem S1x1024 .f32) (harg6 : arg6.IsWhole) (arg7 : Memref sig .tc .vmem S1x1024 .f32)
  (harg7 : arg7.IsWhole) (arg8 : Memref sig .tc .vmem S1x1024 .f32) (harg8 : arg8.IsWhole)
  (arg9 : Memref sig .tc .vmem S1024x1024 .bf16) (harg9 : arg9.IsWhole) (arg10 : Memref sig .tc .vmem S1x512x1024 .f32)
  (harg10 : arg10.IsWhole) (arg11 : Memref sig .tc .vmem S544x1024 .f32) (harg11 : arg11.IsWhole)
  (arg12 : Memref sig .tc .vmem S512x1024 .f32) (harg12 : arg12.IsWhole)
  (x0 : Vec Ideal S1x512x1024 .f32) (x1 : Vec Ideal S1x1024 .f32) (x2 : Vec Ideal S1024x2048 .bf16)
  (x3 : Vec Ideal S32x1024 .f32) (x4 : Vec Ideal S1x1024 .f32) (x5 x6 : Vec Ideal S1x1024 .f32)
  (x7 : Vec Ideal S1024x1024 .bf16) (xs0 : Vec Ideal S544x1024 .f32)

/-- A load of the whole block of activations. -/
theorem read_x0 (ik) : (View.readAt (Elt Ideal) arg2.view (Rect.unit (s := S1x512x1024) ![0, 0, 0] S1x512x1024.size ik).toLoadRect
    (harg2.unread x0) : Vec Ideal S1x512x1024 .f32) = x0 := by
  funext x; rw [harg2.readAt_unread]; congr 1; funext a; ext; fin_cases a <;> simp [LoadRect.idx]

/-- A load of a whole row of 1024 numbers. -/
theorem read_row (ik) : (View.readAt (Elt Ideal) arg3.view (Rect.unit (s := S1x1024) ![0, 0] S1x1024.size ik).toLoadRect
    (harg3.unread x1) : Vec Ideal S1x1024 .f32) = x1 := by
  funext x; rw [harg3.readAt_unread]; congr 1; funext a; ext; fin_cases a <;> simp [LoadRect.idx]

/-- A load of the first projection's weights. -/
theorem read_x2 (ik) : (View.readAt (Elt Ideal) arg4.view (Rect.unit (s := S1024x2048) ![0, 0] S1024x2048.size ik).toLoadRect
    (harg4.unread x2) : Vec Ideal S1024x2048 .bf16) = x2 := by
  funext x; rw [harg4.readAt_unread]; congr 1; funext a; ext; fin_cases a <;> simp [LoadRect.idx]

/-- A load of the second projection's weights. -/
theorem read_x7 (ik) : (View.readAt (Elt Ideal) arg9.view (Rect.unit (s := S1024x1024) ![0, 0] S1024x1024.size ik).toLoadRect
    (harg9.unread x7) : Vec Ideal S1024x1024 .bf16) = x7 := by
  funext x; rw [harg9.readAt_unread]; congr 1; funext a; ext; fin_cases a <;> simp [LoadRect.idx]

/-- The rows stored above the first block of a sequence are zero. -/
theorem top_A : (k0_pay16 : FVec Ideal S32x1024 .f32) = noRows := by
  funext y
  obtain ⟨r, j, rfl⟩ : ∃ (r : Fin 32) (j : Fin 1024), y = ix2 r j := ⟨y 0, y 1, by funext a; fin_cases a <;> rfl⟩
  unfold k0_pay16
  pointwise
  rfl

/-- The rows stored above a later block are the last rows kept. -/
theorem top_B (ik) : (k0_pay17 (View.readAt (Elt Ideal) arg11.view
    (Rect.unit (s := S544x1024) ![512, 0] S32x1024.size ik).toLoadRect (harg11.unread xs0)) : Vec Ideal S32x1024 .f32) = lastRows xs0 := by
  funext y
  obtain ⟨r, j, rfl⟩ : ∃ (r : Fin 32) (j : Fin 1024), y = ix2 r j := ⟨y 0, y 1, by funext a; fin_cases a <;> rfl⟩
  have e : (View.readAt (Elt Ideal) arg11.view (Rect.unit (s := S544x1024) ![512, 0] S32x1024.size ik).toLoadRect (harg11.unread xs0)
      : Vec Ideal S32x1024 .f32) (ix2 r j) = lastRows xs0 (ix2 r j) := by
    rw [harg11.readAt_unread]; unfold lastRows; congr 1; funext a; ext; fin_cases a <;> simp [LoadRect.idx]
  rw [← e]
  unfold k0_pay17
  pointwise

/-- The gated rows a first point of a sequence stores. -/
theorem ext_A : View.canon (kernelRun0_A.sl.HS0_2 c arg2 harg2 arg3 harg3 arg4 harg4 x0 x1 x2)
    = extBlock (k0_pay19 x0 x1 x2) noRows := by
  unfold kernelRun0_A.sl.HS0_2
  rw [read_x0, read_row, read_x2, top_A]
  exact ext_canon _ _ _ _

/-- The gated rows a later point stores. -/
theorem ext_B : View.canon (kernelRun0_B.sl.HS0_2 c arg2 harg2 arg3 harg3 arg4 harg4 arg11 harg11 x0 x1 x2 xs0)
    = extBlock (k0_pay19 x0 x1 x2) (lastRows xs0) := by
  unfold kernelRun0_B.sl.HS0_2
  rw [read_x0, read_row, read_x2, top_B]
  exact ext_canon _ _ _ _

/-- What a first point of a sequence keeps. -/
theorem keep_A (hc0 hc1) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7
      = extBlock (k0_pay19 x0 x1 x2) noRows := by
  unfold sout0_A_0
  rw [View.read_writes_junk_eq_canon]
  exact ext_A ..

/-- What a later point keeps. -/
theorem keep_B (hc0 hc1) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0
      = extBlock (k0_pay19 x0 x1 x2) (lastRows xs0) := by
  unfold sout0_B_0
  rw [View.read_writes_junk_eq_canon]
  exact ext_B ..

/-- The convolution's block of a first point of a sequence. -/
theorem conv_A (ik) :
    (arg12.view.readCov (pb_k0_t1 Variants.none c none i arg2 harg2 arg3 harg3 arg4 harg4 arg5 harg5 arg6 harg6 arg7 harg7 arg8 harg8 arg9 harg9 arg10 harg10 arg11 harg11 arg12 harg12 (harg5.unread x3) (harg6.unread x4)
        (arg11.view.writes (Elt Ideal) arg11.view.junk (kernelRun0_A.sl.HS0_2 c arg2 harg2 arg3 harg3 arg4 harg4 x0 x1 x2)) k0_t1_loop.trips)
        (Rect.unit (s := S512x1024) ![0, 0] S512x1024.size ik).toLoadRect : Vec Ideal S512x1024 .f32)
      = convBlock (extBlock (k0_pay19 x0 x1 x2) noRows) x3 x4 := by
  rw [conv_scratch, View.read_writes_junk_eq_canon, ext_A]

/-- The convolution's block of a later point. -/
theorem conv_B (ik) :
    (arg12.view.readCov (pb_k0_t1 Variants.none c none i arg2 harg2 arg3 harg3 arg4 harg4 arg5 harg5 arg6 harg6 arg7 harg7 arg8 harg8 arg9 harg9 arg10 harg10 arg11 harg11 arg12 harg12 (harg5.unread x3) (harg6.unread x4)
        (arg11.view.writes (Elt Ideal) arg11.view.junk (kernelRun0_B.sl.HS0_2 c arg2 harg2 arg3 harg3 arg4 harg4 arg11 harg11 x0 x1 x2 xs0)) k0_t1_loop.trips)
        (Rect.unit (s := S512x1024) ![0, 0] S512x1024.size ik).toLoadRect : Vec Ideal S512x1024 .f32)
      = convBlock (extBlock (k0_pay19 x0 x1 x2) (lastRows xs0)) x3 x4 := by
  rw [conv_scratch, View.read_writes_junk_eq_canon, ext_B]

/-- What a first point of a sequence writes. -/
theorem out_A (hc0 hc1) :
    out0_A_8 c i arg2 harg2 arg3 harg3 arg4 harg4 arg5 harg5 arg6 harg6 arg7 harg7 arg8 harg8 arg9 harg9 arg10 harg10 arg11 harg11 arg12 harg12 hc0 hc1 x0 x1 x2 x3 x4 x5 x6 x7
      = k0_pay1 (k0_pay18 x0) (convBlock (extBlock (k0_pay19 x0 x1 x2) noRows) x3 x4) x5 x6 x7 := by
  unfold out0_A_8
  rw [View.read_writes_junk_eq_canon]
  unfold kernelRun0_A
  dsimp only
  rw [View.canon_unit_zero (by funext a; fin_cases a <;> rfl)]
  unfold kernelRun0_A.sl.r
  exact congr (congr (congr (congr (congrArg k0_pay1 (congrArg k0_pay18 (read_x0 ..))) (conv_A ..)) (read_row ..)) (read_row ..)) (read_x7 ..)

/-- What a later point writes. -/
theorem out_B (hc0 hc1) :
    out0_B_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0
      = k0_pay1 (k0_pay18 x0) (convBlock (extBlock (k0_pay19 x0 x1 x2) (lastRows xs0)) x3 x4) x5 x6 x7 := by
  unfold out0_B_8
  rw [View.read_writes_junk_eq_canon]
  unfold kernelRun0_B
  dsimp only
  rw [View.canon_unit_zero (by funext a; fin_cases a <;> rfl)]
  unfold kernelRun0_B.sl.r
  exact congr (congr (congr (congr (congrArg k0_pay1 (congrArg k0_pay18 (read_x0 ..))) (conv_B ..)) (read_row ..)) (read_row ..)) (read_x7 ..)

end

end Cert.Kernel3Ideal.Conf

end
-- ==== Proof.Conf.Grid.lean ====
module

public import proofs.«01_k».proof.Proof.Conf.Case
public import proofs.«01_k».proof.Proof.Gen.Kernel3Ideal.Value
public import Idealize.ShloMosaic.Lib.Pipeline.ValueKit

@[expose] public section
set_option maxRecDepth 16384
noncomputable section

namespace Cert.Kernel3Ideal.Conf

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-- Window 0 reads 512 rows of one sequence at point `t`. -/
theorem idx0 : ∀ t : Fin cfg0.N, win0_0.index t (0 : Fin 3) = t.val / 32 ∧ win0_0.index t (1 : Fin 3) = t.val % 32
    ∧ win0_0.index t (2 : Fin 3) = 0 := (by decide +kernel : ∀ t : Fin grid0.N, _)

/-- Every other input is read whole at every point. -/
theorem idxW : ∀ t : Fin cfg0.N, win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

/-- A block of activations. -/
theorem iblk0 (t : Fin cfg0.N) (ht : t.val < 64) (r : Fin 512) (j : Fin 1024) :
    (iblk m c 0 t : Vec Ideal S1x512x1024 .f32) (ix3 0 r j)
      = m ((c : Thread nD τ).loc main_arg0) (ix3 ⟨t.val / 32, by omega⟩ ⟨512 * (t.val % 32) + r.val, by omega⟩ j) := by
  blk_ext [iblk, V, idx0 t]

/-- The norm's gains. -/
theorem iblk1 (t : Fin cfg0.N) (j : Fin 1024) :
    (iblk m c 1 t : Vec Ideal S1x1024 .f32) (ix2 0 j) = m ((c : Thread nD τ).loc main_arg1) (ix1 j) := by
  have e : (win0_1.blk t).view.emb (ix2 0 j) = ix2 0 j := by blk_ext [idxW t]
  show V m c main_v0 ((win0_1.blk t).view.emb (ix2 0 j)) = _
  rw [e]
  simp only [V, hostOps0, hostOps0_1, List.flatten_cons, List.flatten_nil, List.append_nil, List.cons_append, List.nil_append]
  entry_read
  pointwise

/-- The first projection's weights. -/
theorem iblk2 (t : Fin cfg0.N) (k : Fin 1024) (j : Fin 2048) :
    (iblk m c 2 t : Vec Ideal S1024x2048 .bf16) (ix2 k j) = m ((c : Thread nD τ).loc main_arg2) (ix2 k j) := by
  blk_ext [iblk, V, idxW t]

/-- The convolution's taps. -/
theorem iblk3 (t : Fin cfg0.N) (k : Fin 31) (j : Fin 1024) :
    (iblk m c 3 t : Vec Ideal S32x1024 .f32) (ix2 ⟨k.val, by omega⟩ j) = m ((c : Thread nD τ).loc main_arg3) (ix2 k j) := by
  have e : (win0_3.blk t).view.emb (ix2 ⟨k.val, by omega⟩ j) = ix2 ⟨k.val, by omega⟩ j := by blk_ext [idxW t]
  show V m c main_v2 ((win0_3.blk t).view.emb (ix2 ⟨k.val, by omega⟩ j)) = _
  rw [e]
  simp only [V, hostOps0, hostOps0_1, List.flatten_cons, List.flatten_nil, List.append_nil, List.cons_append, List.nil_append]
  entry_read
  simp only [StableHlo.TRef.toBuf, StableHlo.TRef.ofBuf, cast_eq]
  pointwise

/-- The convolution's bias. -/
theorem iblk4 (t : Fin cfg0.N) (j : Fin 1024) :
    (iblk m c 4 t : Vec Ideal S1x1024 .f32) (ix2 0 j) = m ((c : Thread nD τ).loc main_arg4) (ix1 j) := by
  have e : (win0_4.blk t).view.emb (ix2 0 j) = ix2 0 j := by blk_ext [idxW t]
  show V m c main_v3 ((win0_4.blk t).view.emb (ix2 0 j)) = _
  rw [e]
  simp only [V, hostOps0, hostOps0_1, List.flatten_cons, List.flatten_nil, List.append_nil, List.cons_append, List.nil_append]
  entry_read
  pointwise

/-- The layer norm's gains. -/
theorem iblk5 (t : Fin cfg0.N) (j : Fin 1024) :
    (iblk m c 5 t : Vec Ideal S1x1024 .f32) (ix2 0 j) = m ((c : Thread nD τ).loc main_arg5) (ix1 j) := by
  have e : (win0_5.blk t).view.emb (ix2 0 j) = ix2 0 j := by blk_ext [idxW t]
  show V m c main_v4 ((win0_5.blk t).view.emb (ix2 0 j)) = _
  rw [e]
  simp only [V, hostOps0, hostOps0_1, List.flatten_cons, List.flatten_nil, List.append_nil, List.cons_append, List.nil_append]
  entry_read
  pointwise

/-- The layer norm's biases. -/
theorem iblk6 (t : Fin cfg0.N) (j : Fin 1024) :
    (iblk m c 6 t : Vec Ideal S1x1024 .f32) (ix2 0 j) = m ((c : Thread nD τ).loc main_arg6) (ix1 j) := by
  have e : (win0_6.blk t).view.emb (ix2 0 j) = ix2 0 j := by blk_ext [idxW t]
  show V m c main_v5 ((win0_6.blk t).view.emb (ix2 0 j)) = _
  rw [e]
  simp only [V, hostOps0, hostOps0_1, List.flatten_cons, List.flatten_nil, List.append_nil, List.cons_append, List.nil_append]
  entry_read
  pointwise

/-- The second projection's weights. -/
theorem iblk7 (t : Fin cfg0.N) (k : Fin 1024) (j : Fin 1024) :
    (iblk m c 7 t : Vec Ideal S1024x1024 .bf16) (ix2 k j) = m ((c : Thread nD τ).loc main_arg7) (ix2 k j) := by
  blk_ext [iblk, V, idxW t]

/-- The activations, read with the axes the specification names. -/
abbrev aX : ConfSpec.Arr 3 ![2, 16384, 1024] := m ((c : Thread nD τ).loc main_arg0)
/-- The gains. -/
abbrev aG : ConfSpec.Arr 1 ![1024] := m ((c : Thread nD τ).loc main_arg1)
/-- The first projection's weights. -/
abbrev aP : ConfSpec.Arr 2 ![1024, 2048] := m ((c : Thread nD τ).loc main_arg2)
/-- The convolution's taps. -/
abbrev aC : ConfSpec.Arr 2 ![31, 1024] := m ((c : Thread nD τ).loc main_arg3)
/-- The convolution's bias. -/
abbrev aB : ConfSpec.Arr 1 ![1024] := m ((c : Thread nD τ).loc main_arg4)
/-- The layer norm's gains. -/
abbrev aL : ConfSpec.Arr 1 ![1024] := m ((c : Thread nD τ).loc main_arg5)
/-- The layer norm's biases. -/
abbrev aN : ConfSpec.Arr 1 ![1024] := m ((c : Thread nD τ).loc main_arg6)
/-- The second projection's weights. -/
abbrev aQ : ConfSpec.Arr 2 ![1024, 1024] := m ((c : Thread nD τ).loc main_arg7)

/-- The sequence a grid point works on. -/
abbrev seqOf (t : Fin cfg0.N) (ht : t.val < 64) : Fin 2 := ⟨t.val / 32, by omega⟩
/-- The row of the sequence that is row `r` of a grid point's block. -/
abbrev rowOf (t : Fin cfg0.N) (r : Fin 512) : Fin 16384 := ⟨512 * (t.val % 32) + r.val, by omega⟩

/-- A block's normalised rows are the normalised rows of the sequence. -/
theorem norm_at (t : Fin cfg0.N) (ht : t.val < 64) (r : Fin 512) (k : Fin 1024) :
    norm (iblk m c 0 t) (iblk m c 1 t) r k = ConfSpec.norm (aX m c) (aG m c) (seqOf t ht) (rowOf t r) k := by
  unfold norm ConfSpec.norm
  rw [iblk0 m c t ht, iblk1 m c t]
  simp only [iblk0 m c t ht]

/-- A column of a block's first projection is that of the sequence's rows. -/
theorem proj_at (t : Fin cfg0.N) (ht : t.val < 64) (r : Fin 512) (j : Fin 2048) :
    ∑ k : Fin 1024, norm (iblk m c 0 t) (iblk m c 1 t) r k * (show EReal from (iblk m c 2 t : Vec Ideal S1024x2048 .bf16) (ix2 k j))
      = ConfSpec.proj (aX m c) (aG m c) (aP m c) (seqOf t ht) (rowOf t r) j := by
  unfold ConfSpec.proj
  refine Finset.sum_congr rfl fun k _ => ?_
  rw [norm_at m c t ht, iblk2 m c t]

/-- The gated rows of a point's block. -/
abbrev gated (t : Fin cfg0.N) : Vec Ideal S512x1024 .f32 := k0_pay19 (iblk m c 0 t) (iblk m c 1 t) (iblk m c 2 t)

/-- A block's gated rows are those of the sequence. -/
theorem glu_at (t : Fin cfg0.N) (ht : t.val < 64) (r : Fin 512) (j : Fin 1024) :
    gated m c t (ix2 r j) = ConfSpec.glu (aX m c) (aG m c) (aP m c) (seqOf t ht) (rowOf t r) j := by
  refine (glu_block _ _ _ r j).trans ?_
  unfold ConfSpec.glu
  exact congrArg₂ (fun a b => a * Ideal.logistic b) (proj_at m c t ht r _) (proj_at m c t ht r _)

/-- The rows above a point's block: zero at the start of a sequence, and otherwise the last rows the point before kept. -/
def above (t : Fin cfg0.N) : Vec Ideal S32x1024 .f32 :=
  if t.val % 32 = 0 then noRows
  else lastRows (outsAt0 m c (t.val - 1) (Nat.lt_of_le_of_lt (Nat.sub_le _ _) t.isLt)).2

/-- The gated rows a point keeps. -/
theorem keep_at (t : Fin cfg0.N) : (outsAt0 m c t.val t.isLt).2 = extBlock (gated m c t) (above m c t) := by
  unfold above
  by_cases h : t.val % 32 = 0
  · rw [outsAt0_A m c t h (by omega), if_pos h]; dsimp only; exact keep_A ..
  · rw [outsAt0_B m c t h (by omega), if_neg h]; dsimp only; exact keep_B ..

/-- The rows above a later block are the last gated rows of the block before. -/
theorem above_at (t : Fin cfg0.N) (ht : t.val < 64) (h0 : ¬ t.val % 32 = 0) (r : Fin 32) (j : Fin 1024) :
    above m c t (ix2 r j) = ConfSpec.glu (aX m c) (aG m c) (aP m c) (seqOf t ht)
      ⟨512 * (t.val % 32) + r.val - 32, by omega⟩ j := by
  unfold above
  rw [if_neg h0, keep_at m c ⟨t.val - 1, Nat.lt_of_le_of_lt (Nat.sub_le _ _) t.isLt⟩]
  have e : lastRows (extBlock (gated m c ⟨t.val - 1, Nat.lt_of_le_of_lt (Nat.sub_le _ _) t.isLt⟩)
      (above m c ⟨t.val - 1, Nat.lt_of_le_of_lt (Nat.sub_le _ _) t.isLt⟩)) (ix2 r j)
      = gated m c ⟨t.val - 1, Nat.lt_of_le_of_lt (Nat.sub_le _ _) t.isLt⟩ (ix2 ⟨480 + r.val, by omega⟩ j) := by
    refine Eq.trans ?_ (ext_own (gated m c ⟨t.val - 1, Nat.lt_of_le_of_lt (Nat.sub_le _ _) t.isLt⟩)
      (above m c ⟨t.val - 1, Nat.lt_of_le_of_lt (Nat.sub_le _ _) t.isLt⟩) ⟨480 + r.val, by omega⟩ j)
    refine congrArg (extBlock _ _) (congrArg (fun n => ix2 n j) (Fin.ext ?_))
    show 512 + r.val = 32 + (480 + r.val)
    omega
  rw [e, glu_at m c _ (by show t.val - 1 < 64; omega)]
  congr 1
  · ext; show (t.val - 1) / 32 = t.val / 32; omega
  · ext; show 512 * ((t.val - 1) % 32) + (480 + r.val) = 512 * (t.val % 32) + r.val - 32; omega

/-- The gated row that tap `q` meets is the sequence's row `30 - q` rows before, zero before its start. -/
theorem past_at (t : Fin cfg0.N) (ht : t.val < 64) (q : Fin 31) (r : Fin 512) (j : Fin 1024) :
    extBlock (gated m c t) (above m c t) (ix2 ⟨r.val + q.val + 2, by omega⟩ j)
      = ConfSpec.past (aX m c) (aG m c) (aP m c) (30 - q.val) (seqOf t ht) (rowOf t r) j := by
  have hr := r.isLt
  have hq := q.isLt
  unfold ConfSpec.past
  by_cases h : r.val + q.val + 2 < 32
  · refine (ext_above (gated m c t) (above m c t) ⟨r.val + q.val + 2, h⟩ j).trans ?_
    by_cases h0 : t.val % 32 = 0
    · rw [if_pos (by show 512 * (t.val % 32) + r.val < 30 - q.val; omega)]
      unfold above
      rw [if_pos h0]
      rfl
    · rw [if_neg (by show ¬ 512 * (t.val % 32) + r.val < 30 - q.val; omega), above_at m c t ht h0]
      congr 1
      ext; show 512 * (t.val % 32) + (r.val + q.val + 2) - 32 = 512 * (t.val % 32) + r.val - (30 - q.val); omega
  · rw [if_neg (by show ¬ 512 * (t.val % 32) + r.val < 30 - q.val; omega)]
    have e : (⟨r.val + q.val + 2, by omega⟩ : Fin 544) = ⟨32 + (r.val + q.val - 30), by omega⟩ := Fin.ext (by simp only; omega)
    rw [e]
    refine (ext_own (gated m c t) (above m c t) ⟨r.val + q.val - 30, by omega⟩ j).trans ?_
    rw [glu_at m c t ht]
    congr 1
    ext; show 512 * (t.val % 32) + (r.val + q.val - 30) = 512 * (t.val % 32) + r.val - (30 - q.val); omega

/-- A block's convolution is the convolution of the sequence. -/
theorem conv_at (t : Fin cfg0.N) (ht : t.val < 64) (r : Fin 512) (j : Fin 1024) :
    convBlock (extBlock (gated m c t) (above m c t)) (iblk m c 3 t) (iblk m c 4 t) (ix2 r j)
      = ConfSpec.conv (aX m c) (aG m c) (aP m c) (aC m c) (aB m c) (seqOf t ht) (rowOf t r) j := by
  show conv _ _ _ r j = _
  unfold conv ConfSpec.conv
  rw [iblk4 m c t]
  refine congrArg₂ (· + ·) rfl (Finset.sum_congr rfl fun q _ => ?_)
  rw [iblk3 m c t q, past_at m c t ht]

/-- What a point writes. -/
theorem outs_at (t : Fin cfg0.N) : (outsAt0 m c t.val t.isLt).1
    = k0_pay1 (k0_pay18 (iblk m c 0 t)) (convBlock (extBlock (gated m c t) (above m c t)) (iblk m c 3 t) (iblk m c 4 t))
        (iblk m c 5 t) (iblk m c 6 t) (iblk m c 7 t) := by
  unfold above
  by_cases h : t.val % 32 = 0
  · rw [outsAt0_A m c t h (by omega), if_pos h]; dsimp only; exact out_A ..
  · rw [outsAt0_B m c t h (by omega), if_neg h]; dsimp only; exact out_B ..

/-- What a point writes is the module's rows of its block. -/
theorem out_at (t : Fin cfg0.N) (ht : t.val < 64) (r : Fin 512) (j : Fin 1024) :
    (outsAt0 m c t.val t.isLt).1 (ix3 0 r j)
      = ConfSpec.out (aX m c) (aG m c) (aP m c) (aC m c) (aB m c) (aL m c) (aN m c) (aQ m c) (seqOf t ht) (rowOf t r) j := by
  have e : ∀ k : Fin 1024, ConfSpec.layer
      (fun q => convBlock (extBlock (gated m c t) (above m c t)) (iblk m c 3 t) (iblk m c 4 t) (ix2 r q))
      (fun q => (iblk m c 5 t : Vec Ideal S1x1024 .f32) (ix2 0 q)) (fun q => (iblk m c 6 t : Vec Ideal S1x1024 .f32) (ix2 0 q)) k
      = ConfSpec.normed (aX m c) (aG m c) (aP m c) (aC m c) (aB m c) (aL m c) (aN m c) (seqOf t ht) (rowOf t r) k := by
    intro k
    unfold ConfSpec.normed
    congr 1
    · funext q; exact conv_at m c t ht r q
    · funext q; exact iblk5 m c t q
    · funext q; exact iblk6 m c t q
  rw [outs_at]
  refine (out_block _ _ _ _ _ r j).trans ?_
  unfold ConfSpec.out
  refine congrArg₂ (· + ·) (iblk0 m c t ht r j) (Finset.sum_congr rfl fun k _ => ?_)
  rw [e k, iblk7 m c t]

/-- The kernel's result is the convolution module of its arguments. -/
theorem kernel_out (b : Fin 2) (s : Fin 16384) (j : Fin 1024) :
    Cert.Kernel3Ideal.Value.G8 m c (ix3 b s j)
      = ConfSpec.out (aX m c) (aG m c) (aP m c) (aC m c) (aB m c) (aL m c) (aN m c) (aQ m c) b s j := by
  have hb := b.isLt
  have hs := s.isLt
  have hj := j.isLt
  have hp : Cert.Kernel3Ideal.Value.pt8Of (ix3 b s j) = 32 * b.val + s.val / 512 := by
    show 32 * (b.val / 1 - 0) + 1 * (s.val / 512 - 0) + 1 * (j.val / 1024 - 0) = _
    omega
  have hN : cfg0.N = 64 := N_0
  have ht : Cert.Kernel3Ideal.Value.pt8Of (ix3 b s j) < cfg0.N := by omega
  unfold Cert.Kernel3Ideal.Value.G8
  rw [dif_pos ht, ← Cert.Kernel3Ideal.Value.outsAt0_sweep m c _ ht]
  have hl : Cert.Kernel3Ideal.Value.loc8Of (ix3 b s j) = ix3 0 ⟨s.val % 512, by omega⟩ j := by
    funext a; ext; fin_cases a
    · show b.val % 1 = 0; omega
    · rfl
    · show j.val % 1024 = j.val; omega
  rw [hl]
  refine (out_at m c ⟨_, ht⟩ (by show Cert.Kernel3Ideal.Value.pt8Of (ix3 b s j) < 64; omega) _ j).trans ?_
  congr 1
  · ext; show Cert.Kernel3Ideal.Value.pt8Of (ix3 b s j) / 32 = b.val; omega
  · ext; show 512 * (Cert.Kernel3Ideal.Value.pt8Of (ix3 b s j) % 32) + s.val % 512 = s.val; omega

end Cert.Kernel3Ideal.Conf

end
-- ==== Proof.Conf.Reference.lean ====
module

public import proofs.«01_k».proof.Proof.Gen.Reference3Ideal.Run
public import proofs.«01_k».proof.Proof.Conf.Spec
public import proofs.«01_k».proof.Proof.Conf.Sum

@[expose] public section
set_option maxRecDepth 16384
noncomputable section

namespace Cert.ConfSpec

open Idealize.ShloMosaic Idealize.ShloMosaic.TcCoe Idealize.SL.Sem Cert.Reference3Ideal Cert.Reference3Ideal.Gen

section
variable (V0 : Valuation τ sig (Elt Ideal))

/-- The activations. -/
abbrev rX : Arr 3 ![2, 16384, 1024] := V0 (Proc.devRef .tc main_arg0)
/-- The norm's gains. -/
abbrev rG : Arr 1 ![1024] := V0 (Proc.devRef .tc main_arg1)
/-- The first projection's weights. -/
abbrev rP : Arr 2 ![1024, 2048] := V0 (Proc.devRef .tc main_arg2)
/-- The convolution's taps. -/
abbrev rC : Arr 2 ![31, 1024] := V0 (Proc.devRef .tc main_arg3)
/-- The convolution's bias. -/
abbrev rB : Arr 1 ![1024] := V0 (Proc.devRef .tc main_arg4)
/-- The layer norm's gains. -/
abbrev rL : Arr 1 ![1024] := V0 (Proc.devRef .tc main_arg5)
/-- The layer norm's biases. -/
abbrev rN : Arr 1 ![1024] := V0 (Proc.devRef .tc main_arg6)
/-- The second projection's weights. -/
abbrev rQ : Arr 2 ![1024, 1024] := V0 (Proc.devRef .tc main_arg7)

/-- The first projection. -/
theorem proj_read (b : Fin 2) (s : Fin 16384) (j : Fin 2048) :
    Cert.Reference3Ideal.Value.res_main_v13 V0 (ix3 b s j) = proj (rX V0) (rG V0) (rP V0) b s j := by
  unfold Cert.Reference3Ideal.Value.res_main_v13 proj norm mean small
  pointwise

/-- The gated rows. -/
theorem glu_read (b : Fin 2) (s : Fin 16384) (j : Fin 1024) :
    Cert.Reference3Ideal.Value.res_main_v22 V0 (ix3 b s j) = glu (rX V0) (rG V0) (rP V0) b s j := by
  unfold Cert.Reference3Ideal.Value.res_main_v22 glu Ideal.logistic
  rw [← proj_read, ← proj_read]
  generalize Cert.Reference3Ideal.Value.res_main_v13 V0 = p
  pointwise

/-- An array `n` rows before row `s`, zero before its first row. -/
def before (u : FVec Ideal S2x16384x1024 .f32) (n : ℕ) (b : Fin 2) (s : Fin 16384) (j : Fin 1024) : EReal :=
  if s.val < n then 0 else u (ix3 b ⟨s.val - n, by omega⟩ j)

/-- The number a padded place holds. -/
abbrev padded : EReal := FloatOps.sitofp (F := Ideal) FTy.f32 0#32

/-- A row of the padded array is inside the array, not in its padding, when it is not among the first `n`. -/
theorem inside (n : ℕ) (b : Fin 2) (s : Fin 16384) (k : Fin 1024) :
    (∀ a : Fin 3, (![0, n, 0] : Fin 3 → ℕ) a ≤ (ix3 b s k a).val
      ∧ ((ix3 b s k a).val - (![0, n, 0] : Fin 3 → ℕ) a) % ((![0, 0, 0] : Fin 3 → ℕ) a + 1) = 0
      ∧ ((ix3 b s k a).val - (![0, n, 0] : Fin 3 → ℕ) a) / ((![0, 0, 0] : Fin 3 → ℕ) a + 1) < S2x16384x1024.size a) ↔ n ≤ s.val := by
  have hb := b.isLt
  have hs := s.isLt
  have hk := k.isLt
  constructor
  · intro h
    exact (h 1).1
  · intro h a
    fin_cases a
    · show 0 ≤ b.val ∧ (b.val - 0) % (0 + 1) = 0 ∧ (b.val - 0) / (0 + 1) < 2; omega
    · show n ≤ s.val ∧ (s.val - n) % (0 + 1) = 0 ∧ (s.val - n) / (0 + 1) < 16384; omega
    · show 0 ≤ k.val ∧ (k.val - 0) % (0 + 1) = 0 ∧ (k.val - 0) / (0 + 1) < 1024; omega

/-- A row read out of the array padded above by `n` rows. -/
theorem before_read (u : FVec Ideal S2x16384x1024 .f32) (n : ℕ) (b : Fin 2) (s : Fin 16384) (k : Fin 1024) (p : Prop) [Decidable p]
    (hp : p ↔ n ≤ s.val) (v : p → EReal) (hv : ∀ h, v h = u (ix3 b ⟨s.val - n, by omega⟩ k)) :
    (if h : p then v h else padded) = before u n b s k := by
  unfold before
  by_cases hn : n ≤ s.val
  · rw [dif_pos (hp.mpr hn), if_neg (by omega), hv]
  · rw [dif_neg (fun h => hn (hp.mp h)), if_pos (by omega)]
    norm_num [padded, FloatOps.sitofp]

/-- The bias and the first eight taps. -/
theorem taps0 (u : FVec Ideal S2x16384x1024 .f32) (hu : Cert.Reference3Ideal.Value.res_main_v22 V0 = u)
    (b : Fin 2) (s : Fin 16384) (j : Fin 1024) :
    Cert.Reference3Ideal.Value.res_main_v88 V0 (ix3 b s j) = rB V0 (ix1 j)
        + rC V0 (ix2 0 j) * before u 30 b s j
        + rC V0 (ix2 1 j) * before u 29 b s j
        + rC V0 (ix2 2 j) * before u 28 b s j
        + rC V0 (ix2 3 j) * before u 27 b s j
        + rC V0 (ix2 4 j) * before u 26 b s j
        + rC V0 (ix2 5 j) * before u 25 b s j
        + rC V0 (ix2 6 j) * before u 24 b s j
        + rC V0 (ix2 7 j) * before u 23 b s j := by
  unfold Cert.Reference3Ideal.Value.res_main_v88
  rw [hu]
  pointwise
  iterate 8 refine congrArg₂ HAdd.hAdd ?_ (congrArg (HMul.hMul _) ?_)
  · rfl
  all_goals
    refine before_read u _ b s j _ ⟨fun h => ?_, fun h => ?_⟩ _ fun _ => rfl
    · exact (h (1 : Fin 3)).1
    · have hi := (inside _ b s j).mpr h
      intro (a : Fin 3)
      fin_cases a
      · exact hi 0
      · exact hi 1
      · exact hi 2

/-- The next eight taps. -/
theorem taps1 (u : FVec Ideal S2x16384x1024 .f32) (hu : Cert.Reference3Ideal.Value.res_main_v22 V0 = u) (y : FVec Ideal S2x16384x1024 .f32) (hy : Cert.Reference3Ideal.Value.res_main_v88 V0 = y)
    (b : Fin 2) (s : Fin 16384) (j : Fin 1024) :
    Cert.Reference3Ideal.Value.res_main_v152 V0 (ix3 b s j) = (y (ix3 b s j) : EReal)
        + rC V0 (ix2 8 j) * before u 22 b s j
        + rC V0 (ix2 9 j) * before u 21 b s j
        + rC V0 (ix2 10 j) * before u 20 b s j
        + rC V0 (ix2 11 j) * before u 19 b s j
        + rC V0 (ix2 12 j) * before u 18 b s j
        + rC V0 (ix2 13 j) * before u 17 b s j
        + rC V0 (ix2 14 j) * before u 16 b s j
        + rC V0 (ix2 15 j) * before u 15 b s j := by
  unfold Cert.Reference3Ideal.Value.res_main_v152
  rw [hu, hy]
  pointwise
  iterate 8 refine congrArg₂ HAdd.hAdd ?_ (congrArg (HMul.hMul _) ?_)
  · rfl
  all_goals
    refine before_read u _ b s j _ ⟨fun h => ?_, fun h => ?_⟩ _ fun _ => rfl
    · exact (h (1 : Fin 3)).1
    · have hi := (inside _ b s j).mpr h
      intro (a : Fin 3)
      fin_cases a
      · exact hi 0
      · exact hi 1
      · exact hi 2

/-- The next eight taps. -/
theorem taps2 (u : FVec Ideal S2x16384x1024 .f32) (hu : Cert.Reference3Ideal.Value.res_main_v22 V0 = u) (y : FVec Ideal S2x16384x1024 .f32) (hy : Cert.Reference3Ideal.Value.res_main_v152 V0 = y)
    (b : Fin 2) (s : Fin 16384) (j : Fin 1024) :
    Cert.Reference3Ideal.Value.res_main_v216 V0 (ix3 b s j) = (y (ix3 b s j) : EReal)
        + rC V0 (ix2 16 j) * before u 14 b s j
        + rC V0 (ix2 17 j) * before u 13 b s j
        + rC V0 (ix2 18 j) * before u 12 b s j
        + rC V0 (ix2 19 j) * before u 11 b s j
        + rC V0 (ix2 20 j) * before u 10 b s j
        + rC V0 (ix2 21 j) * before u 9 b s j
        + rC V0 (ix2 22 j) * before u 8 b s j
        + rC V0 (ix2 23 j) * before u 7 b s j := by
  unfold Cert.Reference3Ideal.Value.res_main_v216
  rw [hu, hy]
  pointwise
  iterate 8 refine congrArg₂ HAdd.hAdd ?_ (congrArg (HMul.hMul _) ?_)
  · rfl
  all_goals
    refine before_read u _ b s j _ ⟨fun h => ?_, fun h => ?_⟩ _ fun _ => rfl
    · exact (h (1 : Fin 3)).1
    · have hi := (inside _ b s j).mpr h
      intro (a : Fin 3)
      fin_cases a
      · exact hi 0
      · exact hi 1
      · exact hi 2

/-- The last seven taps. -/
theorem taps3 (u : FVec Ideal S2x16384x1024 .f32) (hu : Cert.Reference3Ideal.Value.res_main_v22 V0 = u) (y : FVec Ideal S2x16384x1024 .f32) (hy : Cert.Reference3Ideal.Value.res_main_v216 V0 = y)
    (b : Fin 2) (s : Fin 16384) (j : Fin 1024) :
    Cert.Reference3Ideal.Value.res_main_v271 V0 (ix3 b s j) = (y (ix3 b s j) : EReal)
        + rC V0 (ix2 24 j) * before u 6 b s j
        + rC V0 (ix2 25 j) * before u 5 b s j
        + rC V0 (ix2 26 j) * before u 4 b s j
        + rC V0 (ix2 27 j) * before u 3 b s j
        + rC V0 (ix2 28 j) * before u 2 b s j
        + rC V0 (ix2 29 j) * before u 1 b s j
        + rC V0 (ix2 30 j) * before u 0 b s j := by
  unfold Cert.Reference3Ideal.Value.res_main_v271
  rw [hu, hy]
  pointwise
  iterate 7 refine congrArg₂ HAdd.hAdd ?_ (congrArg (HMul.hMul _) ?_)
  · rfl
  all_goals
    refine before_read u _ b s j _ ⟨fun h => ?_, fun h => ?_⟩ _ fun _ => rfl
    · exact (h (1 : Fin 3)).1
    · have hi := (inside _ b s j).mpr h
      intro (a : Fin 3)
      fin_cases a
      · exact hi 0
      · exact hi 1
      · exact hi 2

/-- The convolution less its mean. -/
theorem centred_read (y : FVec Ideal S2x16384x1024 .f32) (hy : Cert.Reference3Ideal.Value.res_main_v271 V0 = y)
    (b : Fin 2) (s : Fin 16384) (j : Fin 1024) :
    (Cert.Reference3Ideal.Value.res_main_v277 V0 (ix3 b s j) : EReal) = (y (ix3 b s j) : EReal) - mean (fun q => y (ix3 b s q)) := by
  unfold Cert.Reference3Ideal.Value.res_main_v277 mean
  rw [hy]
  pointwise

/-- The layer normalised convolution. -/
theorem layer_read (y : FVec Ideal S2x16384x1024 .f32) (hy : Cert.Reference3Ideal.Value.res_main_v271 V0 = y)
    (b : Fin 2) (s : Fin 16384) (k : Fin 1024) :
    Cert.Reference3Ideal.Value.res_main_v293 V0 (ix3 b s k)
      = layer (fun q => y (ix3 b s q)) (fun q => rL V0 (ix1 q)) (fun q => rN V0 (ix1 q)) k := by
  have e : ∀ q : Fin 1024, (y (ix3 b s q) : EReal) - mean (fun q => y (ix3 b s q))
      = Cert.Reference3Ideal.Value.res_main_v277 V0 (ix3 b s q) := fun q => (centred_read V0 y hy b s q).symm
  unfold layer
  simp only [e]
  unfold Cert.Reference3Ideal.Value.res_main_v293 mean small
  pointwise

/-- The gated rows `n` rows before row `s`. -/
theorem before_glu (u : FVec Ideal S2x16384x1024 .f32) (hu : Cert.Reference3Ideal.Value.res_main_v22 V0 = u)
    (n : ℕ) (b : Fin 2) (s : Fin 16384) (j : Fin 1024) : before u n b s j = past (rX V0) (rG V0) (rP V0) n b s j := by
  subst hu
  unfold before past
  rw [glu_read]

/-- The convolution. -/
theorem conv_read (b : Fin 2) (s : Fin 16384) (j : Fin 1024) :
    (Cert.Reference3Ideal.Value.res_main_v271 V0 (ix3 b s j) : EReal) = conv (rX V0) (rG V0) (rP V0) (rC V0) (rB V0) b s j := by
  have h0 := taps0 V0 _ rfl b s j
  have h1 := taps1 V0 _ rfl _ rfl b s j
  have h2 := taps2 V0 _ rfl _ rfl b s j
  have h3 := taps3 V0 _ rfl _ rfl b s j
  rw [h3, h2, h1, h0]
  simp only [before_glu V0 _ rfl]
  exact sum_taps (rB V0 (ix1 j)) (fun t => rC V0 (ix2 t j) * past (rX V0) (rG V0) (rP V0) (30 - t.val) b s j)

/-- The layer normalised convolution is the specification's. -/
theorem normed_read (b : Fin 2) (s : Fin 16384) (k : Fin 1024) :
    Cert.Reference3Ideal.Value.res_main_v293 V0 (ix3 b s k)
      = normed (rX V0) (rG V0) (rP V0) (rC V0) (rB V0) (rL V0) (rN V0) b s k := by
  refine (layer_read V0 _ rfl b s k).trans ?_
  unfold normed
  exact congrArg (fun f => layer f (fun q => rL V0 (ix1 q)) (fun q => rN V0 (ix1 q)) k) (funext fun q => conv_read V0 b s q)

/-- The reference's result, from the layer normalised convolution `z`. -/
abbrev resultOf (x : FVec Ideal S2x16384x1024 .f32) (z : FVec Ideal S2x16384x1024 .f32) (w : FVec Ideal S1024x1024 .f32) :
    FVec Ideal S2x16384x1024 .f32 :=
  addf x (Host.dotGeneral dot_S2x16384x1024_S1024x1024_S2x16384x1024_2_0_01_1_n_n none (mulf z (Host.divf
    (broadcastInDim S2x16384x1024 ![] bcast_S_S2x16384x1024 (constant S_ .f32 0x3F800000#32))
    (addf (broadcastInDim S2x16384x1024 ![] bcast_S_S2x16384x1024 (constant S_ .f32 0x3F800000#32)) (Host.exp (Host.negf z))))) w)

/-- The last steps, read at an index. -/
theorem result_read (x : FVec Ideal S2x16384x1024 .f32) (z : FVec Ideal S2x16384x1024 .f32) (w : FVec Ideal S1024x1024 .f32)
    (b : Fin 2) (s : Fin 16384) (j : Fin 1024) :
    resultOf x z w (ix3 b s j) = (x (ix3 b s j) : EReal) + ∑ k : Fin 1024, (z (ix3 b s k) : EReal) * Ideal.logistic (z (ix3 b s k)) * w (ix2 k j) := by
  unfold resultOf Ideal.logistic
  pointwise

/-- The reference's result, read at an index, is the convolution module of its arguments. -/
theorem reference_out (b : Fin 2) (s : Fin 16384) (j : Fin 1024) :
    resultOf (V0 (Proc.devRef .tc main_arg0)) (Cert.Reference3Ideal.Value.res_main_v293 V0) (V0 (Proc.devRef .tc main_arg7)) (ix3 b s j)
      = out (rX V0) (rG V0) (rP V0) (rC V0) (rB V0) (rL V0) (rN V0) (rQ V0) b s j := by
  refine (result_read _ _ _ b s j).trans ?_
  unfold out
  refine congrArg₂ (· + ·) rfl (Finset.sum_congr rfl fun k _ => ?_)
  rw [normed_read]

end

end Cert.ConfSpec

end
-- ==== Proof.Attn.Online.lean ====
module

public import Idealize.ShloMosaic.PureOps.Ideal

/-! The softmax taken a block at a time, over the extended reals: the largest score so far and the sum of the
    values weighted against it, rescaled whenever the largest grows. -/

@[expose] public section
noncomputable section

namespace Cert.AttnSpec

open Idealize.ShloMosaic

/-- The largest of the first `n` scores, `⊥` of none. -/
def top (s : ℕ → EReal) (n : ℕ) : EReal := (Finset.range n).sup s

/-- The first `n` values, each weighted by two to the power of its score less the largest of the first `n`. -/
def mass (s w : ℕ → EReal) (n : ℕ) : EReal := ∑ j ∈ Finset.range n, w j * Ideal.exp2 (s j - top s n)

/-- Each of the first `n` scores is at most their largest. -/
theorem le_top (s : ℕ → EReal) {j n : ℕ} (h : j < n) : s j ≤ top s n := Finset.le_sup (Finset.mem_range.2 h)

/-- Of more scores the largest is no smaller. -/
theorem top_le (s : ℕ → EReal) {n n' : ℕ} (h : n ≤ n') : top s n ≤ top s n' :=
  Finset.sup_mono (Finset.range_mono h)

/-- The largest of the first `n + b` scores is the larger of the largest of the first `n` and that of the block after. -/
theorem top_add (s : ℕ → EReal) (n b : ℕ) :
    max (top s n) (Finset.univ.sup fun j : Fin b => s (n + j.val)) = top s (n + b) := by
  apply le_antisymm
  · refine max_le (top_le s (by omega)) (Finset.sup_le fun j _ => le_top s (by omega))
  · refine Finset.sup_le fun j hj => ?_
    rw [Finset.mem_range] at hj
    by_cases h : j < n
    · exact le_trans (le_top s h) (le_max_left _ _)
    · refine le_trans ?_ (le_max_right _ _)
      have := Finset.le_sup (f := fun j : Fin b => s (n + j.val)) (Finset.mem_univ ⟨j - n, by omega⟩)
      simpa [show n + (j - n) = j by omega] using this

/-- A power of two is not negative. -/
theorem exp2_nonneg (x : EReal) : 0 ≤ Ideal.exp2 x := by
  induction x with
  | bot => simp
  | top => simp
  | coe r => simp only [Ideal.exp2_coe]; exact_mod_cast Real.rpow_nonneg (by norm_num) r

/-- The power of a score less a bound of it is finite. -/
theorem exp2_sub_ne_top {a m : EReal} (h : a ≤ m) : Ideal.exp2 (a - m) ≠ ⊤ := by
  induction m with
  | bot => rw [le_bot_iff.1 h]; simp
  | top => simp
  | coe m =>
    induction a with
    | bot => simp
    | top => simp at h
    | coe a => rw [← EReal.coe_sub, Ideal.exp2_coe]; exact EReal.coe_ne_top _

/-- Changing the bound `m` for a larger one `m'` multiplies a weight by the power of `m - m'`. -/
theorem rescale {a m m' : EReal} (h : a ≤ m) (h' : m ≤ m') :
    Ideal.exp2 (m - m') * Ideal.exp2 (a - m) = Ideal.exp2 (a - m') := by
  induction m' with
  | bot => rw [le_bot_iff.1 h', le_bot_iff.1 (h.trans h')]; simp
  | top => simp
  | coe m' =>
    induction m with
    | bot => rw [le_bot_iff.1 h]; simp
    | top => simp at h'
    | coe m =>
      induction a with
      | bot => simp
      | top => simp at h
      | coe a =>
        rw [← EReal.coe_sub, ← EReal.coe_sub, ← EReal.coe_sub]
        simp only [Ideal.exp2_coe]
        rw [← EReal.coe_mul]
        congr 1
        have := Real.rpow_add (show (0 : ℝ) < 2 by norm_num) (m - m') (a - m)
        rw [show m - m' + (a - m) = a - m' by ring] at this
        exact this.symm

/-- A finite factor that is not negative goes into a sum. -/
theorem mul_sum {ι : Type*} (t : Finset ι) (f : ι → EReal) {c : EReal} (h0 : 0 ≤ c) (h1 : c ≠ ⊤) :
    c * ∑ j ∈ t, f j = ∑ j ∈ t, c * f j := by
  classical
  induction t using Finset.induction_on with
  | empty => simp
  | insert a t ha ih =>
    rw [Finset.sum_insert ha, Finset.sum_insert ha, EReal.left_distrib_of_nonneg_of_ne_top h0 h1, ih]

/-- One block more: the weighted sum rescaled to the new largest score, plus the block's own. -/
theorem mass_add (s w : ℕ → EReal) (n b : ℕ) :
    Ideal.exp2 (top s n - top s (n + b)) * mass s w n
        + ∑ j : Fin b, w (n + j.val) * Ideal.exp2 (s (n + j.val) - top s (n + b))
      = mass s w (n + b) := by
  unfold mass
  rw [mul_sum _ _ (exp2_nonneg _) (exp2_sub_ne_top (top_le s (by omega))), Finset.sum_range_add, Finset.sum_range (n := b)]
  refine congrArg₂ (· + ·) (Finset.sum_congr rfl fun j hj => ?_) rfl
  rw [Finset.mem_range] at hj
  rw [mul_left_comm, rescale (le_top s hj) (top_le s (by omega))]

/-- Scores of `⊥` after the first `n` change neither the largest score … -/
theorem top_masked (s : ℕ → EReal) {n N : ℕ} (h : n ≤ N) (hs : ∀ j, n ≤ j → s j = ⊥) : top s N = top s n := by
  refine le_antisymm (Finset.sup_le fun j _ => ?_) (top_le s h)
  by_cases hj : j < n
  · exact le_top s hj
  · rw [hs j (by omega)]; exact bot_le

/-- … nor the weighted sum. -/
theorem mass_masked (s w : ℕ → EReal) {n N : ℕ} (h : n ≤ N) (hs : ∀ j, n ≤ j → s j = ⊥) : mass s w N = mass s w n := by
  unfold mass
  rw [top_masked s h hs]
  symm
  refine Finset.sum_subset (Finset.range_mono h) fun j _ hj => ?_
  rw [hs j (by simpa using hj)]
  simp

/-- Of no scores, the largest is `⊥`, -/
theorem top_zero (s : ℕ → EReal) : top s 0 = ⊥ := by simp [top]
/-- and the weighted sum is zero. -/
theorem mass_zero (s w : ℕ → EReal) : mass s w 0 = 0 := by simp [mass]

end Cert.AttnSpec

end
-- ==== Proof.Attn.Block.lean ====
module

public import proofs.«01_k».proof.Proof.Gen.Kernel2Ideal.Skeleton
public import proofs.«01_k».proof.Proof.Attn.Online
public import Idealize.ShloMosaic.Lib.Pointwise
public import Idealize.ShloMosaic.Lib.WordCmp

/-! One block of 512 keys, as the body of the attention's kernel treats it: the terms, and what they
    are at an index over the extended reals. -/

@[expose] public section

set_option maxRecDepth 16384

noncomputable section

namespace Cert.Kernel2Ideal.Attn

open Cert.Kernel2Ideal Cert.Kernel2Ideal.Gen Idealize.ShloMosaic Idealize.ShloMosaic.TcCoe

section Terms

variable {F : FTy → Type} [FloatOps F] [Named F]

/-- The scores of a block of 512 keys against the 1024 queries, keys along the rows. -/
def score (q : Vec F S1x1x1024x128 .bf16) (k : Vec F S1x1x512x128 .bf16) : FVec F S512x1024 .f32 :=
  matmul dot_S512x128_S1024x128_S512x1024_1_1_0_0_n_n none
    (shapeCast S512x128 k shapeCasts_S1x1x512x128_S512x128 : FVec F S512x128 .bf16)
    (shapeCast S1024x128 q shapeCasts_S1x1x1024x128_S1024x128 : FVec F S1024x128 .bf16)
    (constant S512x1024 .f32 0x00000000#32)

/-- The largest score of the block for each query. -/
def colMax (s : FVec F S512x1024 .f32) : FVec F S1x1024 .f32 :=
  shapeCast S1x1024 (multiReduction .maximumf [0] S1024 s 0xFF800000#32 reduces_S512x1024_S1024 (.inl rfl) rfl : FVec F S1024 .f32)
    shapeCasts_S1024_S1x1024

/-- The accumulator, rescaled from the old maximum to the new, plus the block's weighted values. -/
def accum (m mn : FVec F S1x1024 .f32) (acc : FVec F S80x1024 .f32) (s : FVec F S512x1024 .f32)
    (v : Vec F S1x80x512 .bf16) : FVec F S80x1024 .f32 :=
  addf (mulf (broadcastTo S80x1024 (exp2 (subf m mn)) broadcasts_S1x1024_S80x1024) acc)
    (matmul dot_S80x512_S512x1024_S80x1024_1_0_0_1_n_n none
      (shapeCast S80x512 v shapeCasts_S1x80x512_S80x512 : FVec F S80x512 .bf16)
      (truncf .bf16 (exp2 (subf s (broadcastTo S512x1024 mn broadcasts_S1x1024_S512x1024))) bitsLt_bf16_f32)
      (constant S80x1024 .f32 0x00000000#32))

/-- The running maximum and the accumulator after one more block of scores `s` with values `v`. -/
def step (st : FVec F S1x1024 .f32 × FVec F S80x1024 .f32) (s : FVec F S512x1024 .f32)
    (v : Vec F S1x80x512 .bf16) : FVec F S1x1024 .f32 × FVec F S80x1024 .f32 :=
  (maximumf st.1 (colMax s), accum st.1 (maximumf st.1 (colMax s)) st.2 s v)

/-- The first of the two blocks on the diagonal, masked: key `j` counts for query `r` where `j ≤ r`. -/
def keep0 (s : FVec F S512x1024 .f32) : FVec F S512x1024 .f32 :=
  select (cmpi .sle (iota .tc S512x1024 32 [0] iota_S512x1024_d0_w32) (iota .tc S512x1024 32 [1] iota_S512x1024_d1_w32)) s
    (broadcast S512x1024 (Named.named κ "mask" 0xF149F2CA#32 : F .f32))

/-- The second block on the diagonal, masked: key `j` counts for query `r` where `j + 512 ≤ r`. -/
def keep1 (s : FVec F S512x1024 .f32) : FVec F S512x1024 .f32 :=
  select (cmpi .sle (addi (iota .tc S512x1024 32 [0] iota_S512x1024_d0_w32) (broadcast S512x1024 512#32))
      (iota .tc S512x1024 32 [1] iota_S512x1024_d1_w32)) s
    (broadcast S512x1024 (Named.named κ "mask" 0xF149F2CA#32 : F .f32))

/-- The first 64 rows of the accumulator over its row 64. -/
def ratio (acc : FVec F S80x1024 .f32) : FVec F S64x1024 .f32 :=
  divf (extractStridedSlice S64x1024 ![0, 0] acc slices_S80x1024_o0_0_S64x1024)
    (broadcastTo S64x1024 (extractStridedSlice S1x1024 ![64, 0] acc slices_S80x1024_o64_0_S1x1024 : FVec F S1x1024 .f32)
      broadcasts_S1x1024_S64x1024)

/-- The two heads of a pair, one above the other, turned so that queries are along the rows. -/
def join (a b : FVec F S64x1024 .f32) : FVec F S1x1024x128 .bf16 :=
  shapeCast S1x1024x128 (truncf .bf16 (transpose S1024x128 [1, 0]
    (concatenate S128x1024 0 [⟨S64x1024, a⟩, ⟨S64x1024, b⟩] concatenates_S64x1024_S64x1024_S128x1024_d0 : FVec F S128x1024 .f32)
    transposes_S128x1024_p1_0_S1024x128 : FVec F S1024x128 .f32) bitsLt_bf16_f32 : FVec F S1024x128 .bf16) shapeCasts_S1024x128_S1x1024x128

end Terms

/-- A score is the sum over the 128 lanes of key times query. -/
theorem score_apply (q : Vec Ideal S1x1x1024x128 .bf16) (k : Vec Ideal S1x1x512x128 .bf16) (j : Fin 512) (r : Fin 1024) :
    score q k (ix2 j r) = ∑ d : Fin 128, k (ix4 0 0 j d) * q (ix4 0 0 r d) := by
  unfold score
  pointwise

/-- The block's largest score for a query is the supremum of its column. -/
theorem colMax_apply (s : FVec Ideal S512x1024 .f32) (r : Fin 1024) :
    colMax s (ix2 0 r) = Finset.univ.sup fun j : Fin 512 => s (ix2 j r) := by
  unfold colMax
  pointwise
  rw [show Ideal.ofBits .f32 4286578688#32 = ⊥ from by simp [Ideal.ofBits, Ideal.ieee]]
  rfl

/-- The accumulator's entry after a block. -/
theorem accum_apply (m mn : FVec Ideal S1x1024 .f32) (acc : FVec Ideal S80x1024 .f32) (s : FVec Ideal S512x1024 .f32)
    (v : Vec Ideal S1x80x512 .bf16) (a : Fin 80) (r : Fin 1024) :
    accum m mn acc s v (ix2 a r) = Ideal.exp2 (m (ix2 0 r) - mn (ix2 0 r)) * acc (ix2 a r)
      + ∑ j : Fin 512, v (ix3 0 a j) * Ideal.exp2 (s (ix2 j r) - mn (ix2 0 r)) := by
  unfold accum
  pointwise
  rfl

/-- The mask's constant is −∞ over the extended reals. -/
theorem mask_eq : (Named.named κ "mask" 0xF149F2CA#32 : Ideal .f32) = ⊥ :=
  IdealRules.named_const.ideal_named_scalar _ _ _ _ rfl

/-- The masked first block: the score where the key is not after the query, −∞ elsewhere. -/
theorem keep0_apply (s : FVec Ideal S512x1024 .f32) (j : Fin 512) (r : Fin 1024) :
    keep0 s (ix2 j r) = if j.val ≤ r.val then s (ix2 j r) else ⊥ := by
  unfold keep0
  pointwise
  rw [WordCmp.cmpi_sle_ofNat (by omega) (by omega), WordCmp.select_decide, mask_eq]

/-- The masked second block. -/
theorem keep1_apply (s : FVec Ideal S512x1024 .f32) (j : Fin 512) (r : Fin 1024) :
    keep1 s (ix2 j r) = if 512 + j.val ≤ r.val then s (ix2 j r) else ⊥ := by
  unfold keep1
  pointwise
  rw [show IntOp.addi (BitVec.ofNat 32 j.val) 512#32 = BitVec.ofNat 32 (512 + j.val) from by
      rw [Nat.add_comm, BitVec.ofNat_add]; rfl,
    WordCmp.cmpi_sle_ofNat (by omega) (by omega), WordCmp.select_decide, mask_eq]

/-- The quotient's entry. -/
theorem ratio_apply (acc : FVec Ideal S80x1024 .f32) (a : Fin 64) (r : Fin 1024) :
    ratio acc (ix2 a r) = Ideal.div (acc (ix2 (a.castLE (by decide)) r)) (acc (ix2 64 r)) := by
  unfold ratio
  pointwise
  rfl

/-- The joined block's entry: the first 64 lanes are the first head's, the others the second's. -/
theorem join_apply (a b : FVec Ideal S64x1024 .f32) (r : Fin 1024) (d : Fin 128) :
    join a b (ix3 0 r d) = if h : d.val < 64 then a (ix2 ⟨d.val, h⟩ r) else b (ix2 ⟨d.val - 64, by omega⟩ r) := by
  unfold join
  pointwise

end Cert.Kernel2Ideal.Attn
-- ==== Proof.Attn.Trip.lean ====
module

public import proofs.«01_k».proof.Proof.Gen.Kernel2Ideal.Loops
public import proofs.«01_k».proof.Proof.Attn.Block
public import Idealize.ShloMosaic.Lib.VecWindow

/-! A trip of the two loops over pairs of key blocks, as two steps. -/

@[expose] public section

set_option maxRecDepth 16384

noncomputable section

namespace Cert.Kernel2Ideal.Attn

open Cert.Kernel2Ideal Cert.Kernel2Ideal.Gen Idealize.ShloMosaic Idealize.ShloMosaic.TcCoe Idealize.SL.Sem

variable {F : FTy → Type} [FloatOps F] [Named F]
variable (c : Dev nD) (i : grid0.Coords)
  (arg3 : Memref sig .tc .vmem S1x2x1024x128 .bf16) (harg3 : arg3.IsWhole)
  (arg4 : Memref sig .tc .vmem S1x2x16384x128 .bf16) (harg4 : arg4.IsWhole)
  (arg5 : Memref sig .tc .vmem S1x160x16384 .bf16) (harg5 : arg5.IsWhole)
  (arg6 : Memref sig .tc .vmem S1x1024x128 .bf16) (harg6 : arg6.IsWhole)
  (arg7 : Memref sig .tc .vmem S512x1024 .f32) (harg7 : arg7.IsWhole)
  (arg8 : Memref sig .tc .vmem S512x1024 .f32) (harg8 : arg8.IsWhole)
  (q : Vec F S1x1x1024x128 .bf16)
  (X4 : BufTy.Contents (Elt F) arg4.view.ty) (X5 : BufTy.Contents (Elt F) arg5.view.ty)
  (f7 : BufTy.Contents (Elt F) arg7.view.ty) (f8 : BufTy.Contents (Elt F) arg8.view.ty)

/-- The block of scores held in the first scratch buffer. -/
abbrev held : FVec F S512x1024 .f32 :=
  View.readAt (Elt F) arg7.view (Rect.unit (s := S512x1024) ![0, 0] S512x1024.size inb_S512x1024_S512x1024_0_0).toLoadRect f7

/-- A trip of the first head's loop: given that the carried block maximum is the held block's, the
    held block and then the next one are accumulated; the block after that is left held. -/
theorem trip_t1 (k : Fin (k0_t1_loop i).trips) (acc : FVec F S1x1024 .f32 × FVec F S80x1024 .f32 × FVec F S1x1024 .f32)
    (h : acc.2.2 = colMax (held arg7 f7)) {kB kC : Vec F S1x1x512x128 .bf16} {vA vB : Vec F S1x80x512 .bf16}
    (hkB : View.readAt (Elt F) arg4.view (Rect.unit (s := S1x2x16384x128) (k0_off1 i k 1#32) S1x1x512x128.size (k0_off1_inb i k 0)).toLoadRect X4 = kB)
    (hkC : View.readAt (Elt F) arg4.view (Rect.unit (s := S1x2x16384x128) (k0_off1 i k 2#32) S1x1x512x128.size (k0_off1_inb i k 1)).toLoadRect X4 = kC)
    (hvA : View.readAt (Elt F) arg5.view (Rect.unit (s := S1x160x16384) (k0_off2 i k) S1x80x512.size (k0_off2_inb i k)).toLoadRect X5 = vA)
    (hvB : View.readAt (Elt F) arg5.view (Rect.unit (s := S1x160x16384) (k0_off3 i k) S1x80x512.size (k0_off3_inb i k)).toLoadRect X5 = vB) :
    let st := step (step (acc.1, acc.2.1) (held arg7 f7) vA) (score q kB) vB
    tripR_k0_t1 Variants.none c none i arg3 harg3 arg4 harg4 arg5 harg5 arg6 harg6 arg7 harg7 arg8 harg8 q X4 X5 k acc f7 f8
        = (st.1, st.2, colMax (score q kC))
      ∧ (tripL_k0_t1 Variants.none c none i arg3 harg3 arg4 harg4 arg5 harg5 arg6 harg6 arg7 harg7 arg8 harg8 q X4 X5 k acc f7 f8).1
        = [⟨Rect.unit (s := S512x1024) ![0, 0] S512x1024.size inb_S512x1024_S512x1024_0_0, score q kC⟩] := by
  obtain ⟨a, b, d⟩ := acc
  dsimp only at h
  subst h hkB hkC hvA hvB
  unfold tripR_k0_t1 tripL_k0_t1 trip_k0_t1
  dsimp only
  refine ⟨?_, ?_⟩
  · have e : trip_k0_t1.sl.v214 i arg4 arg8 q X4 k = score q (View.readAt (Elt F) arg4.view (Rect.unit (s := S1x2x16384x128) (k0_off1 i k 1#32) S1x1x512x128.size (k0_off1_inb i k 0)).toLoadRect X4) := by
      unfold trip_k0_t1.sl.v214 trip_k0_t1.sl.HW_arg8_1
      rw [View.readCov_full]
      exact shapeCast_id _ _
    have e182 : trip_k0_t1.sl.v182 i arg4 q X4 k = colMax (score q (View.readAt (Elt F) arg4.view (Rect.unit (s := S1x2x16384x128) (k0_off1 i k 1#32) S1x1x512x128.size (k0_off1_inb i k 0)).toLoadRect X4)) := rfl
    have e185 : trip_k0_t1.sl.v185 (a, b, colMax (held arg7 f7)) = maximumf a (colMax (held arg7 f7)) := by
      unfold trip_k0_t1.sl.v185; dsimp only
    have e200 : trip_k0_t1.sl.v200 i arg5 arg7 X5 k (a, b, colMax (held arg7 f7)) f7 = accum a (maximumf a (colMax (held arg7 f7))) b (held arg7 f7) (View.readAt (Elt F) arg5.view (Rect.unit (s := S1x160x16384) (k0_off2 i k) S1x80x512.size (k0_off2_inb i k)).toLoadRect X5) := by
      unfold trip_k0_t1.sl.v200 trip_k0_t1.sl.v199 trip_k0_t1.sl.v198 trip_k0_t1.sl.v197 trip_k0_t1.sl.v196 trip_k0_t1.sl.v195 trip_k0_t1.sl.v189 trip_k0_t1.sl.v188 trip_k0_t1.sl.v187 trip_k0_t1.sl.v186
      rw [e185]
      rfl
    rw [e, e182, e185, e200]
    unfold step
    dsimp only
    refine congrArg₂ Prod.mk ?_ (congrArg₂ Prod.mk ?_ ?_)
    · rfl
    · rfl
    · rfl
  · exact congrArg (fun w => [(⟨Rect.unit (s := S512x1024) ![0, 0] S512x1024.size inb_S512x1024_S512x1024_0_0, w⟩ : View.Piece (Elt F) S512x1024 .f32)])
      (shapeCast_id (score q _) _)

/-- A trip of the second head's loop, likewise. -/
theorem trip_t3 (arg2 : BitVec 32) (v0 v1 : IVec S512x1024 32) (v45 : FVec F S80x1024 .f32) (v67 : FVec F S512x1024 .bf16)
    (v72 : FVec F S80x512 .bf16) (v73 : FVec F S1x1024 .f32) (k : Fin (k0_t3_loop i).trips) (acc : FVec F S1x1024 .f32 × FVec F S80x1024 .f32 × FVec F S1x1024 .f32)
    (h : acc.2.2 = colMax (held arg7 f7)) {kB kC : Vec F S1x1x512x128 .bf16} {vA vB : Vec F S1x80x512 .bf16}
    (hkB : View.readAt (Elt F) arg4.view (Rect.unit (s := S1x2x16384x128) (k0_off10 i k 1#32) S1x1x512x128.size (k0_off10_inb i k 0)).toLoadRect X4 = kB)
    (hkC : View.readAt (Elt F) arg4.view (Rect.unit (s := S1x2x16384x128) (k0_off10 i k 2#32) S1x1x512x128.size (k0_off10_inb i k 1)).toLoadRect X4 = kC)
    (hvA : View.readAt (Elt F) arg5.view (Rect.unit (s := S1x160x16384) (k0_off11 i k) S1x80x512.size (k0_off11_inb i k)).toLoadRect X5 = vA)
    (hvB : View.readAt (Elt F) arg5.view (Rect.unit (s := S1x160x16384) (k0_off12 i k) S1x80x512.size (k0_off12_inb i k)).toLoadRect X5 = vB) :
    let st := step (step (acc.1, acc.2.1) (held arg7 f7) vA) (score q kB) vB
    tripR_k0_t3 Variants.none c none i arg3 harg3 arg4 harg4 arg5 harg5 arg6 harg6 arg7 harg7 arg8 harg8 arg2 v0 v1 v45 v67 v72 v73 q X4 X5 k acc f7 f8
        = (st.1, st.2, colMax (score q kC))
      ∧ (tripL_k0_t3 Variants.none c none i arg3 harg3 arg4 harg4 arg5 harg5 arg6 harg6 arg7 harg7 arg8 harg8 arg2 v0 v1 v45 v67 v72 v73 q X4 X5 k acc f7 f8).1
        = [⟨Rect.unit (s := S512x1024) ![0, 0] S512x1024.size inb_S512x1024_S512x1024_0_0, score q kC⟩] := by
  obtain ⟨a, b, d⟩ := acc
  dsimp only at h
  subst h hkB hkC hvA hvB
  unfold tripR_k0_t3 tripL_k0_t3 trip_k0_t3
  dsimp only
  refine ⟨?_, ?_⟩
  · have e : trip_k0_t3.sl.v214 i arg4 arg8 q X4 k = score q (View.readAt (Elt F) arg4.view (Rect.unit (s := S1x2x16384x128) (k0_off10 i k 1#32) S1x1x512x128.size (k0_off10_inb i k 0)).toLoadRect X4) := by
      unfold trip_k0_t3.sl.v214 trip_k0_t3.sl.HW_arg8_1
      rw [View.readCov_full]
      exact shapeCast_id _ _
    have e182 : trip_k0_t3.sl.v182 i arg4 q X4 k = colMax (score q (View.readAt (Elt F) arg4.view (Rect.unit (s := S1x2x16384x128) (k0_off10 i k 1#32) S1x1x512x128.size (k0_off10_inb i k 0)).toLoadRect X4)) := rfl
    have e185 : trip_k0_t3.sl.v185 (a, b, colMax (held arg7 f7)) = maximumf a (colMax (held arg7 f7)) := by
      unfold trip_k0_t3.sl.v185; dsimp only
    have e200 : trip_k0_t3.sl.v200 i arg5 arg7 X5 k (a, b, colMax (held arg7 f7)) f7 = accum a (maximumf a (colMax (held arg7 f7))) b (held arg7 f7) (View.readAt (Elt F) arg5.view (Rect.unit (s := S1x160x16384) (k0_off11 i k) S1x80x512.size (k0_off11_inb i k)).toLoadRect X5) := by
      unfold trip_k0_t3.sl.v200 trip_k0_t3.sl.v199 trip_k0_t3.sl.v198 trip_k0_t3.sl.v197 trip_k0_t3.sl.v196 trip_k0_t3.sl.v195 trip_k0_t3.sl.v189 trip_k0_t3.sl.v188 trip_k0_t3.sl.v187 trip_k0_t3.sl.v186
      rw [e185]
      rfl
    rw [e, e182, e185, e200]
    unfold step
    dsimp only
    refine congrArg₂ Prod.mk ?_ (congrArg₂ Prod.mk ?_ ?_)
    · rfl
    · rfl
    · rfl
  · exact congrArg (fun w => [(⟨Rect.unit (s := S512x1024) ![0, 0] S512x1024.size inb_S512x1024_S512x1024_0_0, w⟩ : View.Piece (Elt F) S512x1024 .f32)])
      (shapeCast_id (score q _) _)

end Cert.Kernel2Ideal.Attn
-- ==== Proof.Attn.Model.lean ====
module

public import proofs.«01_k».proof.Proof.Attn.Trip
public import Idealize.ShloMosaic.Lib.WholeRead

/-! What a grid point of the attention's kernel writes, as a term in its blocks: the scores and values are
    taken 512 keys at a time, two blocks to a trip, and the two blocks on the diagonal are masked. -/

@[expose] public section

set_option maxRecDepth 16384

noncomputable section

namespace Cert.Kernel2Ideal.Attn

open Cert.Kernel2Ideal Cert.Kernel2Ideal.Gen Idealize.ShloMosaic Idealize.ShloMosaic.TcCoe Idealize.SL.Sem

variable {F : FTy → Type} [FloatOps F] [Named F]

section Terms
variable (x0 : Vec F S1x2x1024x128 .bf16) (x1 : Vec F S1x2x16384x128 .bf16) (x2 : Vec F S1x160x16384 .bf16)

/-- The queries of head `h` of the pair. -/
def queries (h : Fin 2) : Vec F S1x1x1024x128 .bf16 := fun p => x0 (ix4 0 h (p 2) (p 3))

/-- Block `m` of 512 keys of head `h` of the pair. -/
def keys (h : Fin 2) (m : ℕ) : Vec F S1x1x512x128 .bf16 :=
  fun p => x1 (ix4 0 h ⟨(512 * m + (p 2).val) % 16384, Nat.mod_lt _ (by norm_num)⟩ (p 3))

/-- Block `m` of the 80 value rows of head `h` of the pair. -/
def vals (h : Fin 2) (m : ℕ) : Vec F S1x80x512 .bf16 :=
  fun p => x2 (ix3 0 ⟨80 * h.val + (p 1).val, by have : (p 1).val < 80 := (p 1).isLt; omega⟩
    ⟨(512 * m + (p 2).val) % 16384, Nat.mod_lt _ (by norm_num)⟩)

/-- Block `m`'s scores. -/
def scores (h : Fin 2) (m : ℕ) : FVec F S512x1024 .f32 := score (queries x0 h) (keys x1 h m)

/-- The running maximum and the accumulator before trip `n`. -/
def before (h : Fin 2) : ℕ → FVec F S1x1024 .f32 × FVec F S80x1024 .f32
  | 0 => (k0_pay25, k0_pay26)
  | n + 1 => step (step (before h n) (scores x0 x1 h (2 * n)) (vals x2 h (2 * n))) (scores x0 x1 h (2 * n + 1)) (vals x2 h (2 * n + 1))

/-- After the two masked blocks that follow `n` trips. -/
def after (h : Fin 2) (n : ℕ) : FVec F S1x1024 .f32 × FVec F S80x1024 .f32 :=
  step (step (before x0 x1 x2 h n) (keep0 (scores x0 x1 h (2 * n))) (vals x2 h (2 * n)))
    (keep1 (scores x0 x1 h (2 * n + 1))) (vals x2 h (2 * n + 1))

/-- The block of the result that query block `n` writes. -/
def point (n : ℕ) : FVec F S1x1024x128 .bf16 := join (ratio (after x0 x1 x2 0 n).2) (ratio (after x0 x1 x2 1 n).2)

end Terms

section Loads

variable {arg3 : Memref sig .tc .vmem S1x2x1024x128 .bf16} (harg3 : arg3.IsWhole)
  {arg4 : Memref sig .tc .vmem S1x2x16384x128 .bf16} (harg4 : arg4.IsWhole)
  {arg5 : Memref sig .tc .vmem S1x160x16384 .bf16} (harg5 : arg5.IsWhole)
  (x0 : Vec F S1x2x1024x128 .bf16) (x1 : Vec F S1x2x16384x128 .bf16) (x2 : Vec F S1x160x16384 .bf16)

/-- The queries of head `h` of the pair, as loaded. -/
theorem load_q (h : Fin 2) {off : Fin 4 → ℕ} (e : off = ![0, h.val, 0, 0]) (inb) :
    (View.readAt (Elt F) arg3.view (Rect.unit (s := S1x2x1024x128) off S1x1x1024x128.size inb).toLoadRect (harg3.unread x0)
      : Vec F S1x1x1024x128 .bf16) = queries x0 h := by
  subst e
  funext p
  rw [harg3.readAt_unread]; unfold queries; congr 1; funext a; ext
  have h0 : (p 0).val < 1 := (p 0).isLt
  have h1 : (p 1).val < 1 := (p 1).isLt
  fin_cases a <;> simp [LoadRect.idx] <;> omega

/-- Block `m` of the keys, as loaded. -/
theorem load_k (h : Fin 2) {m : ℕ} (hm : m < 32) {off : Fin 4 → ℕ} (e : off = ![0, h.val, 512 * m, 0]) (inb) :
    (View.readAt (Elt F) arg4.view (Rect.unit (s := S1x2x16384x128) off S1x1x512x128.size inb).toLoadRect (harg4.unread x1)
      : Vec F S1x1x512x128 .bf16) = keys x1 h m := by
  subst e
  funext p
  rw [harg4.readAt_unread]; unfold keys; congr 1; funext a; ext
  have h0 : (p 0).val < 1 := (p 0).isLt
  have h1 : (p 1).val < 1 := (p 1).isLt
  have h2 : (p 2).val < 512 := (p 2).isLt
  have e2 : (512 * m + (p 2).val) % 16384 = 512 * m + (p 2).val := Nat.mod_eq_of_lt (by omega)
  fin_cases a <;> simp [LoadRect.idx, e2] <;> omega

/-- Block `m` of the value rows, as loaded. -/
theorem load_v (h : Fin 2) {m : ℕ} (hm : m < 32) {off : Fin 3 → ℕ} (e : off = ![0, 80 * h.val, 512 * m]) (inb) :
    (View.readAt (Elt F) arg5.view (Rect.unit (s := S1x160x16384) off S1x80x512.size inb).toLoadRect (harg5.unread x2)
      : Vec F S1x80x512 .bf16) = vals x2 h m := by
  subst e
  funext p
  rw [harg5.readAt_unread]; unfold vals; congr 1; funext a; ext
  have h0 : (p 0).val < 1 := (p 0).isLt
  have h2 : (p 2).val < 512 := (p 2).isLt
  have e2 : (512 * m + (p 2).val) % 16384 = 512 * m + (p 2).val := Nat.mod_eq_of_lt (by omega)
  fin_cases a <;> simp [LoadRect.idx, e2] <;> omega

end Loads

/-- What is held after a block is stored. -/
theorem held_writes (arg7 : Memref sig .tc .vmem S512x1024 .f32) (f : BufTy.Contents (Elt F) arg7.view.ty) (w : FVec F S512x1024 .f32)
    (L : List (View.Piece (Elt F) S512x1024 .f32)) :
    held arg7 (arg7.view.writes (Elt F) f (⟨Rect.unit (s := S512x1024) ![0, 0] S512x1024.size inb_S512x1024_S512x1024_0_0, w⟩ :: L)) = w :=
  View.readAt_writes_full _ _ _ _ _ _

/-- A loop makes as many trips as there are blocks of 1024 keys before the queries' own; the loop after it none. -/
theorem trips_t1 : ∀ i : grid0.Coords, (k0_t1_loop i).trips = (i 2).val := by decide +kernel
/-- The remainder loop of the first head makes no trip. -/
theorem trips_t2 : ∀ i : grid0.Coords, (k0_t2_loop i).trips = 0 := by decide +kernel
/-- The second head's loop. -/
theorem trips_t3 : ∀ i : grid0.Coords, (k0_t3_loop i).trips = (i 2).val := by decide +kernel
/-- The remainder loop of the second head makes no trip. -/
theorem trips_t4 : ∀ i : grid0.Coords, (k0_t4_loop i).trips = 0 := by decide +kernel

section Loops

variable (c : Dev nD) (i : grid0.Coords)
  (arg3 : Memref sig .tc .vmem S1x2x1024x128 .bf16) (harg3 : arg3.IsWhole)
  (arg4 : Memref sig .tc .vmem S1x2x16384x128 .bf16) (harg4 : arg4.IsWhole)
  (arg5 : Memref sig .tc .vmem S1x160x16384 .bf16) (harg5 : arg5.IsWhole)
  (arg6 : Memref sig .tc .vmem S1x1024x128 .bf16) (harg6 : arg6.IsWhole)
  (arg7 : Memref sig .tc .vmem S512x1024 .f32) (harg7 : arg7.IsWhole)
  (arg8 : Memref sig .tc .vmem S512x1024 .f32) (harg8 : arg8.IsWhole)
  (x0 : Vec F S1x2x1024x128 .bf16) (x1 : Vec F S1x2x16384x128 .bf16) (x2 : Vec F S1x160x16384 .bf16)
  (G7 : BufTy.Contents (Elt F) arg7.view.ty) (G8 : BufTy.Contents (Elt F) arg8.view.ty)

/-- The first head's loop before trip `n`: what is carried, and the block that is held. -/
theorem loop_t1 (h0 : held arg7 G7 = scores x0 x1 0 0) (n : ℕ) (hn : n ≤ (k0_t1_loop i).trips) :
    let P := st_k0_t1 Variants.none c none i arg3 harg3 arg4 harg4 arg5 harg5 arg6 harg6 arg7 harg7 arg8 harg8 (queries x0 0) (harg4.unread x1) (harg5.unread x2) G7 G8
      (k0_pay25, k0_pay26, colMax (scores x0 x1 0 0)) n
    P.1 = ((before x0 x1 x2 0 n).1, (before x0 x1 x2 0 n).2, colMax (scores x0 x1 0 (2 * n)))
      ∧ held arg7 (arg7.view.writes (Elt F) G7 P.2.1) = scores x0 x1 0 (2 * n) := by
  induction n with
  | zero => exact ⟨by dsimp only [st_k0_t1, before], h0⟩
  | succ n ih =>
    obtain ⟨hP, hH⟩ := ih (by omega)
    have ht : n < (k0_t1_loop i).trips := by omega
    have hb : n < (i 2).val := by rw [← trips_t1]; exact ht
    have hi : (i 2).val < 16 := (i 2).isLt
    dsimp only at hP hH ⊢
    rw [st_k0_t1_succ Variants.none c none i arg3 harg3 arg4 harg4 arg5 harg5 arg6 harg6 arg7 harg7 arg8 harg8 (queries x0 0) (harg4.unread x1) (harg5.unread x2) G7 G8 _ ⟨n, ht⟩]
    obtain ⟨eR, eL⟩ := trip_t1 c i arg3 harg3 arg4 harg4 arg5 harg5 arg6 harg6 arg7 harg7 arg8 harg8 (queries x0 0) (harg4.unread x1) (harg5.unread x2)
      (arg7.view.writes (Elt F) G7 (st_k0_t1 Variants.none c none i arg3 harg3 arg4 harg4 arg5 harg5 arg6 harg6 arg7 harg7 arg8 harg8 (queries x0 0) (harg4.unread x1) (harg5.unread x2) G7 G8 (k0_pay25, k0_pay26, colMax (scores x0 x1 0 0)) n).2.1)
      (arg8.view.writes (Elt F) G8 (st_k0_t1 Variants.none c none i arg3 harg3 arg4 harg4 arg5 harg5 arg6 harg6 arg7 harg7 arg8 harg8 (queries x0 0) (harg4.unread x1) (harg5.unread x2) G7 G8 (k0_pay25, k0_pay26, colMax (scores x0 x1 0 0)) n).2.2)
      ⟨n, ht⟩ (st_k0_t1 Variants.none c none i arg3 harg3 arg4 harg4 arg5 harg5 arg6 harg6 arg7 harg7 arg8 harg8 (queries x0 0) (harg4.unread x1) (harg5.unread x2) G7 G8 (k0_pay25, k0_pay26, colMax (scores x0 x1 0 0)) n).1
      (by rw [hP, hH])
      (load_k harg4 x1 0 (m := 2 * n + 1) (by omega) ((k0_off1_eq i ⟨n, ht⟩ 0).trans (by simp; omega)) _)
      (load_k harg4 x1 0 (m := 2 * (n + 1)) (by omega) ((k0_off1_eq i ⟨n, ht⟩ 1).trans (by simp; omega)) _)
      (load_v harg5 x2 0 (m := 2 * n) (by omega) ((k0_off2_eq i ⟨n, ht⟩).trans (by simp; omega)) _)
      (load_v harg5 x2 0 (m := 2 * n + 1) (by omega) ((k0_off3_eq i ⟨n, ht⟩).trans (by simp; omega)) _)
    dsimp only at eR eL ⊢
    refine ⟨eR.trans ?_, ?_⟩
    · rw [hH, hP]; rfl
    · rw [eL, List.singleton_append]
      exact held_writes arg7 G7 _ _

/-- The second head's loop, likewise. -/
theorem loop_t3 (arg2 : BitVec 32) (v0 v1 : IVec S512x1024 32) (v45 : FVec F S80x1024 .f32) (v67 : FVec F S512x1024 .bf16)
    (v72 : FVec F S80x512 .bf16) (v73 : FVec F S1x1024 .f32)
    (h0 : held arg7 G7 = scores x0 x1 1 0) (n : ℕ) (hn : n ≤ (k0_t3_loop i).trips) :
    let P := st_k0_t3 Variants.none c none i arg3 harg3 arg4 harg4 arg5 harg5 arg6 harg6 arg7 harg7 arg8 harg8 arg2 v0 v1 v45 v67 v72 v73 (queries x0 1) (harg4.unread x1) (harg5.unread x2) G7 G8
      (k0_pay25, k0_pay26, colMax (scores x0 x1 1 0)) n
    P.1 = ((before x0 x1 x2 1 n).1, (before x0 x1 x2 1 n).2, colMax (scores x0 x1 1 (2 * n)))
      ∧ held arg7 (arg7.view.writes (Elt F) G7 P.2.1) = scores x0 x1 1 (2 * n) := by
  induction n with
  | zero => exact ⟨by dsimp only [st_k0_t3, before], h0⟩
  | succ n ih =>
    obtain ⟨hP, hH⟩ := ih (by omega)
    have ht : n < (k0_t3_loop i).trips := by omega
    have hb : n < (i 2).val := by rw [← trips_t3]; exact ht
    have hi : (i 2).val < 16 := (i 2).isLt
    dsimp only at hP hH ⊢
    rw [st_k0_t3_succ Variants.none c none i arg3 harg3 arg4 harg4 arg5 harg5 arg6 harg6 arg7 harg7 arg8 harg8 arg2 v0 v1 v45 v67 v72 v73 (queries x0 1) (harg4.unread x1) (harg5.unread x2) G7 G8 _ ⟨n, ht⟩]
    obtain ⟨eR, eL⟩ := trip_t3 c i arg3 harg3 arg4 harg4 arg5 harg5 arg6 harg6 arg7 harg7 arg8 harg8 (queries x0 1) (harg4.unread x1) (harg5.unread x2)
      (arg7.view.writes (Elt F) G7 (st_k0_t3 Variants.none c none i arg3 harg3 arg4 harg4 arg5 harg5 arg6 harg6 arg7 harg7 arg8 harg8 arg2 v0 v1 v45 v67 v72 v73 (queries x0 1) (harg4.unread x1) (harg5.unread x2) G7 G8 (k0_pay25, k0_pay26, colMax (scores x0 x1 1 0)) n).2.1)
      (arg8.view.writes (Elt F) G8 (st_k0_t3 Variants.none c none i arg3 harg3 arg4 harg4 arg5 harg5 arg6 harg6 arg7 harg7 arg8 harg8 arg2 v0 v1 v45 v67 v72 v73 (queries x0 1) (harg4.unread x1) (harg5.unread x2) G7 G8 (k0_pay25, k0_pay26, colMax (scores x0 x1 1 0)) n).2.2)
      arg2 v0 v1 v45 v67 v72 v73 ⟨n, ht⟩ (st_k0_t3 Variants.none c none i arg3 harg3 arg4 harg4 arg5 harg5 arg6 harg6 arg7 harg7 arg8 harg8 arg2 v0 v1 v45 v67 v72 v73 (queries x0 1) (harg4.unread x1) (harg5.unread x2) G7 G8 (k0_pay25, k0_pay26, colMax (scores x0 x1 1 0)) n).1
      (by rw [hP, hH])
      (load_k harg4 x1 1 (m := 2 * n + 1) (by omega) ((k0_off10_eq i ⟨n, ht⟩ 0).trans (by simp; omega)) _)
      (load_k harg4 x1 1 (m := 2 * (n + 1)) (by omega) ((k0_off10_eq i ⟨n, ht⟩ 1).trans (by simp; omega)) _)
      (load_v harg5 x2 1 (m := 2 * n) (by omega) ((k0_off11_eq i ⟨n, ht⟩).trans (by simp; omega)) _)
      (load_v harg5 x2 1 (m := 2 * n + 1) (by omega) ((k0_off12_eq i ⟨n, ht⟩).trans (by simp; omega)) _)
    dsimp only at eR eL ⊢
    refine ⟨eR.trans ?_, ?_⟩
    · rw [hH, hP]; rfl
    · rw [eL, List.singleton_append]
      exact held_writes arg7 G7 _ _

end Loops

end Cert.Kernel2Ideal.Attn

end
-- ==== Proof.Attn.Run.lean ====
module

public import proofs.«01_k».proof.Proof.Gen.Kernel2Ideal.Frame.Runs
public import proofs.«01_k».proof.Proof.Attn.Model

/-! The body of the attention's kernel, run part by part: each part yields terms of the model. -/

@[expose] public section

set_option maxRecDepth 16384

noncomputable section

namespace Cert.Kernel2Ideal.Attn

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords)
  (arg3 : Memref sig .tc .vmem S1x2x1024x128 .bf16) (harg3 : arg3.IsWhole)
  (arg4 : Memref sig .tc .vmem S1x2x16384x128 .bf16) (harg4 : arg4.IsWhole)
  (arg5 : Memref sig .tc .vmem S1x160x16384 .bf16) (harg5 : arg5.IsWhole)
  (arg6 : Memref sig .tc .vmem S1x1024x128 .bf16) (harg6 : arg6.IsWhole)
  (arg7 : Memref sig .tc .vmem S512x1024 .f32) (harg7 : arg7.IsWhole)
  (arg8 : Memref sig .tc .vmem S512x1024 .f32) (harg8 : arg8.IsWhole)
  (x0 : Vec F S1x2x1024x128 .bf16) (x1 : Vec F S1x2x16384x128 .bf16) (x2 : Vec F S1x160x16384 .bf16)

/-- The blocks the body reads at their contents, and the two scratch buffers at some. -/
abbrev Bufs : sProp 𝕄 :=
  iprop((arg3.view.loc (c : Thread nD τ) ↦[arg3.view.set]{fullShare} harg3.unread x0)
    ∗ (arg4.view.loc (c : Thread nD τ) ↦[arg4.view.set]{fullShare} harg4.unread x1)
    ∗ (arg5.view.loc (c : Thread nD τ) ↦[arg5.view.set]{fullShare} harg5.unread x2)
    ∗ (∃ f, arg7.view.loc (c : Thread nD τ) ↦[arg7.view.set]{fullShare} f)
    ∗ (∃ f, arg8.view.loc (c : Thread nD τ) ↦[arg8.view.set]{fullShare} f))

/-- The row numbers of a block. -/
abbrev rows : IVec S512x1024 32 := iota .tc S512x1024 32 [0] iota_S512x1024_d0_w32
/-- The column numbers of a block. -/
abbrev cols : IVec S512x1024 32 := iota .tc S512x1024 32 [1] iota_S512x1024_d1_w32

/-- Two lists of stores, one after the other, read back as one. -/
theorem readCov_append (A B : List (View.Piece (Elt F) S512x1024 .f32)) :
    arg7.view.readCov (A ++ B) (Rect.unit (s := S512x1024) ![0, 0] S512x1024.size inb_S512x1024_S512x1024_0_0).toLoadRect
      = held arg7 (arg7.view.writes (Elt F) (arg7.view.writes (Elt F) arg7.view.junk B) A) := by
  unfold View.readCov held
  rw [View.writes_append]

/-- The first part: the first head's loops, and the maximum over its first masked block. -/
theorem run_part5 (E : Set ℕ) :
    Bufs (F := F) c arg3 harg3 arg4 harg4 arg5 harg5 arg7 arg8 x0 x1 x2
      ⊢ wp frame (wpE (defs₀ (F := F)) Variants.none c none) E (k0_part5 i arg3 harg3 arg4 harg4 arg5 harg5 arg6 harg6 arg7 harg7 arg8 harg8)
        (fun y => iprop(⌜y = ⟨BitVec.ofNat 32 (i 2).val, rows, cols, k0_pay22 (queries x0 0), (before x0 x1 x2 0 (i 2).val).1, (before x0 x1 x2 0 (i 2).val).2,
            Scalar.muli 2#32 (BitVec.ofNat 32 (i 2).val), k0_pay39 (before x0 x1 x2 0 (i 2).val).1 (scores x0 x1 0 (2 * (i 2).val)),
            k0_pay40 (before x0 x1 x2 0 (i 2).val).1 (scores x0 x1 0 (2 * (i 2).val))⟩⌝
          ∗ Bufs (F := F) c arg3 harg3 arg4 harg4 arg5 harg5 arg7 arg8 x0 x1 x2)) := by
  rw [k0_part5_eq_skeleton]; unfold k0_part5_skel
  iintro ⟨H3, H4, H5, ⟨%f7, H7⟩, ⟨%f8, H8⟩⟩
  sl_exec
  sl_step
  isplitr
  · ipureintro
    unfold run_part5.sl.v24
    have hq := load_q harg3 x0 0 (off := ![0, 0, 0, 0]) rfl inb_S1x2x1024x128_S1x1x1024x128_0_0_0_0
    have hk := load_k harg4 x1 0 (m := 0) (by omega) (off := ![0, 0, 0, 0]) rfl inb_S1x2x16384x128_S1x1x512x128_0_0_0_0
    have h0 : held arg7 (arg7.view.writes (Elt F) arg7.view.junk (run_part5.sl.H7_1 arg3 harg3 arg4 harg4 x0 x1)) = scores x0 x1 0 0 := by
      unfold run_part5.sl.H7_1
      rw [held_writes, hq, hk]
      exact shapeCast_id _ _
    obtain ⟨eP, eH⟩ := loop_t1 c i arg3 harg3 arg4 harg4 arg5 harg5 arg6 harg6 arg7 harg7 arg8 harg8 x0 x1 x2 _ f8 h0 (i 2).val (trips_t1 i).ge
    simp only [hq, hk, show Scf.trips (k0_t1_loop i).lb (k0_t1_loop i).ub (k0_t1_loop i).st = (i 2).val from trips_t1 i,
      show Scf.trips (k0_t2_loop i).lb (k0_t2_loop i).ub (k0_t2_loop i).st = 0 from trips_t2 i,
      show k0_pay27 (queries x0 0) (keys x1 0 0) = colMax (scores x0 x1 0 0) from rfl]
    dsimp only [st_k0_t2]
    simp only [eP, List.nil_append]
    refine congrArg (fun w => (⟨BitVec.ofNat 32 (i 2).val, rows, cols, k0_pay22 (queries x0 0), (before x0 x1 x2 0 (i 2).val).1, (before x0 x1 x2 0 (i 2).val).2,
      Scalar.muli 2#32 (BitVec.ofNat 32 (i 2).val), k0_pay39 (before x0 x1 x2 0 (i 2).val).1 w, k0_pay40 (before x0 x1 x2 0 (i 2).val).1 w⟩ :
        Σ' (arg2 : BitVec 32) (v0 : IVec S512x1024 32) (v1 : IVec S512x1024 32) (v3 : FVec F S1024x128 .bf16) (v22_0 : FVec F S1x1024 .f32) (v22_1 : FVec F S80x1024 .f32) (v29 : BitVec 32) (v30 : FVec F S1x1024 .f32), FVec F S512x1024 .f32)) ?_
    exact (readCov_append arg7 _ _).trans eH
  isplitl [H3]; · iexact H3
  isplitl [H4]; · iexact H4
  isplitl [H5]; · iexact H5
  isplitl [H7]; · iexists _; iexact H7
  iexists _; iexact H8

/-- The second part: the first masked block is accumulated, and the second one weighted. -/
theorem run_part6 (arg2 : BitVec 32) (v0 v1 : IVec S512x1024 32) (v3 : FVec F S1024x128 .bf16) (v22_0 : FVec F S1x1024 .f32) (v22_1 : FVec F S80x1024 .f32)
    (v29 : BitVec 32) (v30 : FVec F S1x1024 .f32) (v32 : FVec F S512x1024 .f32) (E : Set ℕ) :
    Bufs (F := F) c arg3 harg3 arg4 harg4 arg5 harg5 arg7 arg8 x0 x1 x2
      ⊢ wp frame (wpE (defs₀ (F := F)) Variants.none c none) E (k0_part6 i arg3 harg3 arg4 harg4 arg5 harg5 arg6 harg6 arg7 harg7 arg8 harg8 arg2 v0 v1 v3 v22_0 v22_1 v29 v30 v32)
        (fun y => iprop(⌜y = ⟨k0_pay41 v22_0 v22_1 v30 v32 (vals x2 0 (2 * (i 2).val)), k0_pay44 v0 v1 v3 v30 (keys x1 0 (2 * (i 2).val + 1)),
            k0_pay45 (vals x2 0 (2 * (i 2).val + 1)), k0_pay46 v0 v1 v3 v30 (keys x1 0 (2 * (i 2).val + 1))⟩⌝
          ∗ Bufs (F := F) c arg3 harg3 arg4 harg4 arg5 harg5 arg7 arg8 x0 x1 x2)) := by
  have hi : (i 2).val < 16 := (i 2).isLt
  rw [k0_part6_eq_skeleton]; unfold k0_part6_skel
  iintro ⟨H3, H4, H5, ⟨%f7, H7⟩, ⟨%f8, H8⟩⟩
  sl_exec
  sl_step
  isplitr
  · ipureintro
    rw [← load_v harg5 x2 0 (m := 2 * (i 2).val) (by omega) ((k0_off7_eq i).trans (by simp; omega)) (k0_off7_inb i),
      ← load_k harg4 x1 0 (m := 2 * (i 2).val + 1) (by omega) ((k0_off8_eq i).trans (by simp; omega)) (k0_off8_inb i),
      ← load_v harg5 x2 0 (m := 2 * (i 2).val + 1) (by omega) ((k0_off9_eq i).trans (by simp; omega)) (k0_off9_inb i)]
  isplitl [H3]; · iexact H3
  isplitl [H4]; · iexact H4
  isplitl [H5]; · iexact H5
  isplitl [H7]; · iexists _; iexact H7
  iexists _; iexact H8

/-- The third part: the second head's loops, and the maximum over its first masked block. -/
theorem run_part7 (arg2 : BitVec 32) (v0 v1 : IVec S512x1024 32) (v45 : FVec F S80x1024 .f32) (v67 : FVec F S512x1024 .bf16)
    (v72 : FVec F S80x512 .bf16) (v73 : FVec F S1x1024 .f32) (E : Set ℕ) :
    Bufs (F := F) c arg3 harg3 arg4 harg4 arg5 harg5 arg7 arg8 x0 x1 x2
      ⊢ wp frame (wpE (defs₀ (F := F)) Variants.none c none) E (k0_part7 i arg3 harg3 arg4 harg4 arg5 harg5 arg6 harg6 arg7 harg7 arg8 harg8 arg2 v0 v1 v45 v67 v72 v73)
        (fun y => iprop(⌜y = ⟨k0_pay47 v45 v67 v72 v73, k0_pay48 (queries x0 1), (before x0 x1 x2 1 (i 2).val).1, (before x0 x1 x2 1 (i 2).val).2,
            k0_pay64 v0 v1 (scores x0 x1 1 (2 * (i 2).val)), k0_pay65 v0 v1 (scores x0 x1 1 (2 * (i 2).val))⟩⌝
          ∗ Bufs (F := F) c arg3 harg3 arg4 harg4 arg5 harg5 arg7 arg8 x0 x1 x2)) := by
  rw [k0_part7_eq_skeleton]; unfold k0_part7_skel
  iintro ⟨H3, H4, H5, ⟨%f7, H7⟩, ⟨%f8, H8⟩⟩
  sl_exec
  sl_step
  isplitr
  · ipureintro
    unfold run_part7.sl.v105
    have hq := load_q harg3 x0 1 (off := ![0, 1, 0, 0]) rfl inb_S1x2x1024x128_S1x1x1024x128_0_1_0_0
    have hk := load_k harg4 x1 1 (m := 0) (by omega) (off := ![0, 1, 0, 0]) rfl inb_S1x2x16384x128_S1x1x512x128_0_1_0_0
    have h0 : held arg7 (arg7.view.writes (Elt F) arg7.view.junk (run_part7.sl.H7_1 arg3 harg3 arg4 harg4 x0 x1)) = scores x0 x1 1 0 := by
      unfold run_part7.sl.H7_1
      rw [held_writes, hq, hk]
      exact shapeCast_id _ _
    obtain ⟨eP, eH⟩ := loop_t3 c i arg3 harg3 arg4 harg4 arg5 harg5 arg6 harg6 arg7 harg7 arg8 harg8 x0 x1 x2 _ f8 arg2 v0 v1 v45 v67 v72 v73 h0 (i 2).val (trips_t3 i).ge
    simp only [hq, hk, show Scf.trips (k0_t3_loop i).lb (k0_t3_loop i).ub (k0_t3_loop i).st = (i 2).val from trips_t3 i,
      show Scf.trips (k0_t4_loop i).lb (k0_t4_loop i).ub (k0_t4_loop i).st = 0 from trips_t4 i,
      show (k0_pay51 : FVec F S1x1024 .f32) = k0_pay25 from rfl, show (k0_pay52 : FVec F S80x1024 .f32) = k0_pay26 from rfl,
      show k0_pay53 (queries x0 1) (keys x1 1 0) = colMax (scores x0 x1 1 0) from rfl]
    dsimp only [st_k0_t4]
    simp only [eP, List.nil_append]
    refine congrArg (fun w => (⟨k0_pay47 v45 v67 v72 v73, k0_pay48 (queries x0 1), (before x0 x1 x2 1 (i 2).val).1, (before x0 x1 x2 1 (i 2).val).2,
      k0_pay64 v0 v1 w, k0_pay65 v0 v1 w⟩ :
        Σ' (v82 : FVec F S64x1024 .f32) (v84 : FVec F S1024x128 .bf16) (v103_0 : FVec F S1x1024 .f32) (v103_1 : FVec F S80x1024 .f32) (v107 : Vec F S512x1024 .f32), FVec F S1x1024 .f32)) ?_
    exact (readCov_append arg7 _ _).trans eH
  isplitl [H3]; · iexact H3
  isplitl [H4]; · iexact H4
  isplitl [H5]; · iexact H5
  isplitl [H7]; · iexists _; iexact H7
  iexists _; iexact H8

/-- The fourth part: the second head's first masked block is accumulated, and the second one weighted. -/
theorem run_part8 (arg2 : BitVec 32) (v0 v1 : IVec S512x1024 32) (v84 : FVec F S1024x128 .bf16) (v103_0 : FVec F S1x1024 .f32) (v103_1 : FVec F S80x1024 .f32)
    (v107 : Vec F S512x1024 .f32) (v109 : FVec F S1x1024 .f32) (E : Set ℕ) :
    Bufs (F := F) c arg3 harg3 arg4 harg4 arg5 harg5 arg7 arg8 x0 x1 x2
      ⊢ wp frame (wpE (defs₀ (F := F)) Variants.none c none) E (k0_part8 i arg3 harg3 arg4 harg4 arg5 harg5 arg6 harg6 arg7 harg7 arg8 harg8 arg2 v0 v1 v84 v103_0 v103_1 v107 v109)
        (fun y => iprop(⌜∃ w : BitVec 32, y = ⟨k0_pay66 v103_0 v109, k0_pay67 v103_0 v103_1 v107 v109 (vals x2 1 (2 * (i 2).val)),
            k0_pay69 v0 v1 v84 v103_0 v109 (keys x1 1 (2 * (i 2).val + 1)), k0_pay70 v0 v1 v84 v103_0 v109 (keys x1 1 (2 * (i 2).val + 1)), w⟩⌝
          ∗ Bufs (F := F) c arg3 harg3 arg4 harg4 arg5 harg5 arg7 arg8 x0 x1 x2)) := by
  have hi : (i 2).val < 16 := (i 2).isLt
  rw [k0_part8_eq_skeleton]; unfold k0_part8_skel
  iintro ⟨H3, H4, H5, ⟨%f7, H7⟩, ⟨%f8, H8⟩⟩
  sl_exec
  sl_step
  isplitr
  · ipureintro
    rw [← load_v harg5 x2 1 (m := 2 * (i 2).val) (by omega) ((k0_off16_eq i).trans (by simp; omega)) (k0_off16_inb i),
      ← load_k harg4 x1 1 (m := 2 * (i 2).val + 1) (by omega) ((k0_off17_eq i).trans (by simp; omega)) (k0_off17_inb i)]
    exact ⟨_, rfl⟩
  isplitl [H3]; · iexact H3
  isplitl [H4]; · iexact H4
  isplitl [H5]; · iexact H5
  isplitl [H7]; · iexists _; iexact H7
  iexists _; iexact H8

/-- The pieces the parts yield make up the point's block. -/
theorem point_eq (n : ℕ) :
    k0_pay1
        (k0_pay47 (k0_pay41 (before x0 x1 x2 0 n).1 (before x0 x1 x2 0 n).2 (k0_pay39 (before x0 x1 x2 0 n).1 (scores x0 x1 0 (2 * n))) (k0_pay40 (before x0 x1 x2 0 n).1 (scores x0 x1 0 (2 * n))) (vals x2 0 (2 * n)))
          (k0_pay44 rows cols (k0_pay22 (queries x0 0)) (k0_pay39 (before x0 x1 x2 0 n).1 (scores x0 x1 0 (2 * n))) (keys x1 0 (2 * n + 1))) (k0_pay45 (vals x2 0 (2 * n + 1)))
          (k0_pay46 rows cols (k0_pay22 (queries x0 0)) (k0_pay39 (before x0 x1 x2 0 n).1 (scores x0 x1 0 (2 * n))) (keys x1 0 (2 * n + 1))))
        (k0_pay66 (before x0 x1 x2 1 n).1 (k0_pay65 rows cols (scores x0 x1 1 (2 * n))))
        (k0_pay67 (before x0 x1 x2 1 n).1 (before x0 x1 x2 1 n).2 (k0_pay64 rows cols (scores x0 x1 1 (2 * n))) (k0_pay65 rows cols (scores x0 x1 1 (2 * n))) (vals x2 1 (2 * n)))
        (k0_pay69 rows cols (k0_pay48 (queries x0 1)) (before x0 x1 x2 1 n).1 (k0_pay65 rows cols (scores x0 x1 1 (2 * n))) (keys x1 1 (2 * n + 1)))
        (k0_pay70 rows cols (k0_pay48 (queries x0 1)) (before x0 x1 x2 1 n).1 (k0_pay65 rows cols (scores x0 x1 1 (2 * n))) (keys x1 1 (2 * n + 1)))
        (vals x2 1 (2 * n + 1))
      = point x0 x1 x2 n := by
  rfl

/-- The body, on whole memrefs: the blocks it reads stay, and the result's block holds the point's. -/
theorem run_body (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (point x0 x1 x2 (i 2).val) ∗ (∃ d, owns (c : Thread nD τ) arg7 fullShare d) ∗ (∃ d, owns (c : Thread nD τ) arg8 fullShare d)) -∗ K ⟨⟩))
      ⊢ wp frame (wpE (defs₀ (F := F)) Variants.none c none) E (cc0_fox_attention i arg3 harg3 arg4 harg4 arg5 harg5 arg6 harg6 arg7 harg7 arg8 harg8) K := by
  have hi : (i 2).val < 16 := (i 2).isLt
  rw [cc0_fox_attention_eq_skeleton]; unfold cc0_fox_attention_skel
  unfold owns
  iintro ⟨⟨%f3, %h3, H3⟩, ⟨%f4, %h4, H4⟩, ⟨%f5, %h5, H5⟩, ⟨%d6, %f6, -, H6⟩, ⟨%d7, %f7, -, H7⟩, ⟨%d8, %f8, -, H8⟩, Hk⟩
  obtain rfl := harg3.eq_unread h3; obtain rfl := harg4.eq_unread h4; obtain rfl := harg5.eq_unread h5
  rw [wp_bind]
  iapply (wp_wand_r Idealize.ShloMosaic.frame (wpE (defs₀ (F := F)) Variants.none (c : Thread nD τ) none) E)
  isplitl [H3 H4 H5 H7 H8]
  · iapply (run_part5 c i arg3 harg3 arg4 harg4 arg5 harg5 arg6 harg6 arg7 harg7 arg8 harg8 x0 x1 x2 E)
    isplitl [H3]; · iexact H3
    isplitl [H4]; · iexact H4
    isplitl [H5]; · iexact H5
    isplitl [H7]; · iexists _; iexact H7
    iexists _; iexact H8
  iintro %y ⟨%hy, HB⟩
  subst hy
  dsimp only
  rw [wp_bind]
  iapply (wp_wand_r Idealize.ShloMosaic.frame (wpE (defs₀ (F := F)) Variants.none (c : Thread nD τ) none) E)
  isplitl [HB]
  · iapply (run_part6 c i arg3 harg3 arg4 harg4 arg5 harg5 arg6 harg6 arg7 harg7 arg8 harg8 x0 x1 x2 _ _ _ _ _ _ _ _ _ E)
    iexact HB
  iintro %y ⟨%hy, HB⟩
  subst hy
  dsimp only
  rw [wp_bind]
  iapply (wp_wand_r Idealize.ShloMosaic.frame (wpE (defs₀ (F := F)) Variants.none (c : Thread nD τ) none) E)
  isplitl [HB]
  · iapply (run_part7 c i arg3 harg3 arg4 harg4 arg5 harg5 arg6 harg6 arg7 harg7 arg8 harg8 x0 x1 x2 _ _ _ _ _ _ _ E)
    iexact HB
  iintro %y ⟨%hy, HB⟩
  subst hy
  dsimp only
  rw [wp_bind]
  iapply (wp_wand_r Idealize.ShloMosaic.frame (wpE (defs₀ (F := F)) Variants.none (c : Thread nD τ) none) E)
  isplitl [HB]
  · iapply (run_part8 c i arg3 harg3 arg4 harg4 arg5 harg5 arg6 harg6 arg7 harg7 arg8 harg8 x0 x1 x2 _ _ _ _ _ _ _ _ E)
    iexact HB
  iintro %y ⟨%hy, ⟨H3, H4, H5, ⟨%g7, H7⟩, ⟨%g8, H8⟩⟩⟩
  obtain ⟨w, rfl⟩ := hy
  dsimp only
  sl_exec
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    rw [load_v harg5 x2 1 (m := 2 * (i 2).val + 1) (by omega) ((k0_off18_eq i).trans (by simp; omega)) (k0_off18_inb i), point_eq]
    exact View.read_writes_full _ _ _ _ _
  isplitl [H7]
  · iexists _, _; isplitr; swap; · iexact H7
    ipureintro; rfl
  iexists _, _; isplitr; swap; · iexact H8
  ipureintro; rfl

end Cert.Kernel2Ideal.Attn

end
-- ==== Proof.Attn.Frame.lean ====
module

public import proofs.«01_k».proof.Proof.Attn.Run
public import Idealize.ShloMosaic.Lib.Claim
public import Idealize.ShloMosaic.Lib.Pipeline.ValueKit

/-! The attention's kernel as launched: after each grid point the result's block is the model's point. -/

@[expose] public section

set_option maxRecDepth 16384

noncomputable section

namespace Cert.Kernel2Ideal.Attn

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The block a grid point writes. -/
def wrote (c : Dev nD) (t : Fin cfg0.N) : Vec F S1x1024x128 .bf16 :=
  point (iblk m c 0 t) (iblk m c 1 t) (iblk m c 2 t) (grid0.coords t 2).val

/-- The run's data: the arrays as the region finds them, and what each window holds after a point. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => wrote m c t
  Φ _ := Pipeline.ΦA spec0 c
  q _ := fullShare
  owed _ := 0

/-- The arrays are the contents at the region's entry. -/
theorem data_arr (c : Dev nD) (w : Fin cfg0.W) : (data m 0 c).A w = V m c (Pipeline.arrRef spec0 w) := by
  dsimp only [data]

/-- The queries' window keeps its block. -/
theorem data_after0 (c : Dev nD) (t : Fin cfg0.N) : (data m 0 c).after 0 t = iblk m c 0 t := by dsimp only [data]
/-- The keys' window keeps its block. -/
theorem data_after1 (c : Dev nD) (t : Fin cfg0.N) : (data m 0 c).after 1 t = iblk m c 1 t := by dsimp only [data]
/-- The values' window keeps its block. -/
theorem data_after2 (c : Dev nD) (t : Fin cfg0.N) : (data m 0 c).after 2 t = iblk m c 2 t := by dsimp only [data]
/-- The result's window holds what the point wrote. -/
theorem data_after3 (c : Dev nD) (t : Fin cfg0.N) : (data m 0 c).after 3 t = wrote m c t := by dsimp only [data]

/-- Before a point the queries' window holds its block. -/
theorem data_before0 (c : Dev nD) (t : Fin cfg0.N) (d) : (data m 0 c).before 0 t d = iblk m c 0 t :=
  before0_0_of m (data m 0 c) (data_arr m c 0) (data_after0 m c) t d
/-- Before a point the keys' window holds its block. -/
theorem data_before1 (c : Dev nD) (t : Fin cfg0.N) (d) : (data m 0 c).before 1 t d = iblk m c 1 t :=
  before0_1_of m (data m 0 c) (data_arr m c 1) (data_after1 m c) t d
/-- Before a point the values' window holds its block. -/
theorem data_before2 (c : Dev nD) (t : Fin cfg0.N) (d) : (data m 0 c).before 2 t d = iblk m c 2 t :=
  before0_2_of m (data m 0 c) (data_arr m c 2) (data_after2 m c) t d

/-- What the body is given at a point. -/
def given (c : Dev nD) (t : Fin cfg0.N) : sProp 𝕄 :=
  iprop((data m 0 c).Φ t.castSucc ∗ (data m 0 c).owesAt () t.castSucc
    ∗ (∃ d, owns (c : Thread nD τ) (ms0_0 t) fullShare ((data m 0 c).before 0 t d))
    ∗ (∃ d, owns (c : Thread nD τ) (ms0_1 t) fullShare ((data m 0 c).before 1 t d))
    ∗ (∃ d, owns (c : Thread nD τ) (ms0_2 t) fullShare ((data m 0 c).before 2 t d))
    ∗ (∃ d, owns (c : Thread nD τ) (ms0_3 t) fullShare ((data m 0 c).before 3 t d)))

/-- What the body gives back. -/
def returned (c : Dev nD) (t : Fin cfg0.N) : sProp 𝕄 :=
  iprop((data m 0 c).Φ t.succ ∗ (data m 0 c).owesAt () t.succ
    ∗ owns (c : Thread nD τ) (ms0_0 t) fullShare ((data m 0 c).after 0 t)
    ∗ owns (c : Thread nD τ) (ms0_1 t) fullShare ((data m 0 c).after 1 t)
    ∗ owns (c : Thread nD τ) (ms0_2 t) fullShare ((data m 0 c).after 2 t)
    ∗ owns (c : Thread nD τ) (ms0_3 t) fullShare ((data m 0 c).after 3 t))

/-- The body at a point takes the one to the other. -/
theorem point_sound (c : Dev nD) (t : Fin cfg0.N) :
    given m c t ⊢ wp frame (wpE (defs₀ (F := F)) Variants.none c none) Set.univ (bodyAt0 t) (fun _ => returned m c t) := by
  unfold given returned bodyAt0
  simp only [data_before0, data_before1, data_before2]
  rw [show (data m 0 c).Φ t.succ = Pipeline.ΦA spec0 c from rfl, show (data m 0 c).Φ t.castSucc = Pipeline.ΦA spec0 c from rfl,
    show (data m 0 c).owesAt () t.succ = (data m 0 c).owesAt () t.castSucc from rfl,
    data_after0, data_after1, data_after2, data_after3, PhiA0_eq]
  unfold wrote
  iintro ⟨⟨⟨HS0, HS1⟩, Hg⟩, Ho, ⟨%d0, H0⟩, ⟨%d1, H1⟩, ⟨%d2, H2⟩, ⟨%d3, H3⟩⟩
  iapply (run_body c (grid0.coords t) _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  iexact H3

/-- The table's body at a point. -/
theorem table_body (t : Fin cfg0.N) : defs₀ (F := F) .tc cfg0.body (cfg0.bodyArgs t (cfg0.slots t)) = bodyAt0 t := by
  unfold defs₀; rw [Defs.onTc_tc]

/-- So the run's condition on the body holds at every point. -/
theorem body_ok (c : Dev nD) : BodyObligation (data (F := F) m 0 c) (defs₀ (F := F)) Variants.none () Set.univ := fun t => by
  rw [bigSep_W0, bigSep_W0, table_body]
  exact triple_restated (point_sound m c t) rfl .rfl fun _ => .rfl

set_option backward.isDefEq.respectTransparency.types false in
/-- The launch terminates with every array as the run's data say, and with every counter at zero. -/
theorem launched : θ_run defs (onTc (τ := τ) (main (F := F))) (s₀ m ρ) (fun r => (Pipeline.FramePost cfgs (data m) 0 (V m)) r ∧ r.2.sem = fun _ => 0) :=
  Pipeline.θ_run_frame (Q' := _) cfgs (data m) (0 : Fin 1) launch0 defs₀ Variants.none m ρ main
    (hbody := fun c => (body_ok m c).loose) (hshare := fun c => (data m 0 c).share_full fun _ => rfl)
    (howed := fun _ _ => rfl) (V := V m) (hmain := hmain m Variants.none) (hA := data_arr m) (hΦ := fun _ _ => rfl)

/-- The arguments end unchanged, and every counter at zero. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (data m) (data_arr m) ((θ_run defs _ _).mono (fun _ h => h.1) (launched m ρ)))
    ((θ_run defs _ _).mono (fun _ h => h.2) (launched m ρ))

end Cert.Kernel2Ideal.Attn

end
-- ==== Proof.Attn.Float.lean ====
module

public import proofs.«01_k».proof.Proof.Attn.Frame
public import proofs.«01_k».proof.Proof.Gen.Kernel2
public import proofs.«01_k».proof.Defs

/-! The attention's kernel over the machine's floats: the run over any floats, read there. -/

@[expose] public section

set_option maxRecDepth 16384

namespace Cert.Kernel2Ideal.Attn

open Idealize.ShloMosaic Idealize.SL.Sem

/-- Over the machine's floats a named constant is the word the program writes. -/
@[reducible] def words : Named Bits where
  named _ _ {_} b := Scalar.ofBits _ b

attribute [local instance] words

/-- The two programs' kernels are then the same. -/
theorem kernel_same : Cert.Kernel2.defs₀ (F := Bits) = Cert.Kernel2Ideal.defs₀ (F := Bits) := by
  unfold Cert.Kernel2.defs₀ Cert.Kernel2Ideal.defs₀
  refine congrArg _ ?_
  funext l a
  match l, a with
  | 0, a => rfl

/-- So are their tables. -/
theorem table_same : Cert.Kernel2.defs (F := Bits) = Cert.Kernel2Ideal.defs (F := Bits) :=
  congrArg (Pipeline.defs (Cert.Kernel2Ideal.pcfgs (F := Bits))) kernel_same

/-- The printed program runs, keeps its arguments and leaves every counter at zero: it is the ideal
    program over the machine's floats, and the run is over any floats. -/
theorem float_frame : Cert.quiescent_Kernel2 := fun m ρ _ => by
  rw [table_same]
  exact kept (F := Bits) m ρ

/-- The ideal program runs, keeps its arguments and leaves every counter at zero. -/
theorem ideal_frame : Cert.quiescent_Kernel2Ideal := fun m ρ _ => kept (F := Ideal) m ρ

end Cert.Kernel2Ideal.Attn
-- ==== Proof.Attn.Point.lean ====
module

public import proofs.«01_k».proof.Proof.Attn.Model

/-! The model's point over the extended reals: before trip `k` the carried values are the largest score
    and the weighted sums of the first `1024 k` keys; the two masked blocks bring them to the point's last key. -/

@[expose] public section

set_option maxRecDepth 16384

noncomputable section

namespace Cert.Kernel2Ideal.Attn

open Cert.Kernel2Ideal Cert.Kernel2Ideal.Gen Idealize.ShloMosaic Idealize.ShloMosaic.TcCoe Idealize.SL.Sem
open Cert.AttnSpec (top mass top_add mass_add top_zero mass_zero)

/-- The score of key `n` for query `r` of the block, head `h` of the pair (zero past the last key). -/
def sc (x0 : Vec Ideal S1x2x1024x128 .bf16) (x1 : Vec Ideal S1x2x16384x128 .bf16) (h : Fin 2) (r : Fin 1024) (n : ℕ) : EReal :=
  if hn : n < 16384 then ∑ d : Fin 128, x1 (ix4 0 h ⟨n, hn⟩ d) * x0 (ix4 0 h r d) else 0

/-- The score where key `n` is not after query `b + r`, −∞ elsewhere. -/
def seen (x0 : Vec Ideal S1x2x1024x128 .bf16) (x1 : Vec Ideal S1x2x16384x128 .bf16) (h : Fin 2) (b : ℕ) (r : Fin 1024) (n : ℕ) : EReal :=
  if n ≤ b + r.val then sc x0 x1 h r n else ⊥

/-- The value row `a` of head `h` of the pair at key `n` (zero past the last key). -/
def val (x2 : Vec Ideal S1x160x16384 .bf16) (h : Fin 2) (a : Fin 80) (n : ℕ) : EReal :=
  if hn : n < 16384 then x2 (ix3 0 ⟨80 * h.val + a.val, by omega⟩ ⟨n, hn⟩) else 0

/-- A running maximum and an accumulator hold the first `n` keys. -/
def Holds (S : Fin 1024 → ℕ → EReal) (W : Fin 80 → ℕ → EReal) (n : ℕ) (st : FVec Ideal S1x1024 .f32 × FVec Ideal S80x1024 .f32) : Prop :=
  ∀ r : Fin 1024, st.1 (ix2 0 r) = top (S r) n ∧ ∀ a : Fin 80, st.2 (ix2 a r) = mass (S r) (W a) n

/-- One step adds the block of the next 512 keys. -/
theorem step_holds {S : Fin 1024 → ℕ → EReal} {W : Fin 80 → ℕ → EReal} {n n' : ℕ} (hn : n + 512 = n')
    {st : FVec Ideal S1x1024 .f32 × FVec Ideal S80x1024 .f32} (h : Holds S W n st) {s : FVec Ideal S512x1024 .f32} {v : Vec Ideal S1x80x512 .bf16}
    (hs : ∀ (j : Fin 512) (r : Fin 1024), s (ix2 j r) = S r (n + j.val))
    (hv : ∀ (a : Fin 80) (j : Fin 512), v (ix3 0 a j) = W a (n + j.val)) :
    Holds S W n' (step st s v) := by
  subst hn
  intro r
  have hm : (step st s v).1 (ix2 0 r) = top (S r) (n + 512) := by
    unfold step
    dsimp only
    rw [show maximumf st.1 (colMax s) (ix2 0 r) = max (st.1 (ix2 0 r)) (colMax s (ix2 0 r)) from rfl, colMax_apply, (h r).1]
    simp only [hs]
    exact top_add (S r) n 512
  refine ⟨hm, fun a => ?_⟩
  have e : (step st s v).2 = accum st.1 (step st s v).1 st.2 s v := rfl
  rw [e, accum_apply, hm, (h r).1, (h r).2 a]
  simp only [hs, hv]
  exact mass_add (S r) (W a) n 512

/-- Nothing held: the initial maximum is −∞ and the accumulator zero. -/
theorem init_holds (S : Fin 1024 → ℕ → EReal) (W : Fin 80 → ℕ → EReal) :
    Holds S W 0 ((k0_pay25 : FVec Ideal S1x1024 .f32), (k0_pay26 : FVec Ideal S80x1024 .f32)) := by
  intro r
  refine ⟨?_, fun a => ?_⟩
  · rw [top_zero]; exact mask_eq
  · rw [mass_zero]
    show Ideal.ofBits .f32 0x00000000#32 = (0 : EReal)
    simp [Ideal.ofBits, Ideal.ieee]

section Point

variable (x0 : Vec Ideal S1x2x1024x128 .bf16) (x1 : Vec Ideal S1x2x16384x128 .bf16) (x2 : Vec Ideal S1x160x16384 .bf16) (h : Fin 2)

/-- A block's scores are those of its keys. -/
theorem scores_apply {m n : ℕ} (hm : m < 32) (hn : n = 512 * m) (j : Fin 512) (r : Fin 1024) :
    scores x0 x1 h m (ix2 j r) = sc x0 x1 h r (n + j.val) := by
  subst hn
  unfold scores
  rw [score_apply]
  unfold sc keys queries
  rw [dif_pos (by omega)]
  refine Finset.sum_congr rfl fun d _ => ?_
  have e : (512 * m + j.val) % 16384 = 512 * m + j.val := Nat.mod_eq_of_lt (by omega)
  show x1 (ix4 0 h ⟨(512 * m + j.val) % 16384, _⟩ d) * x0 (ix4 0 h r d) = _
  congr 3
  exact Fin.ext e

/-- A block's value rows are those of its keys. -/
theorem vals_apply {m n : ℕ} (hm : m < 32) (hn : n = 512 * m) (a : Fin 80) (j : Fin 512) :
    vals x2 h m (ix3 0 a j) = val x2 h a (n + j.val) := by
  subst hn
  unfold vals val
  rw [dif_pos (by omega)]
  have e : (512 * m + j.val) % 16384 = 512 * m + j.val := Nat.mod_eq_of_lt (by omega)
  show x2 (ix3 0 ⟨80 * h.val + a.val, _⟩ ⟨(512 * m + j.val) % 16384, _⟩) = _
  congr 2
  exact Fin.ext e

/-- Before trip `k` the first `1024 k` keys are held: all come before every query of the block. -/
theorem before_holds {n : ℕ} (hn : n < 16) (k : ℕ) (hk : k ≤ n) :
    Holds (seen x0 x1 h (1024 * n)) (val x2 h) (1024 * k) (before x0 x1 x2 h k) := by
  induction k with
  | zero => exact init_holds _ _
  | succ k ih =>
    refine step_holds (n := 1024 * k + 512) (by omega) (step_holds (n := 1024 * k) rfl (ih (by omega)) (fun j r => ?_)
      (vals_apply x2 h (by omega) (by omega))) (fun j r => ?_) (vals_apply x2 h (by omega) (by omega))
    · rw [scores_apply x0 x1 h (n := 1024 * k) (by omega) (by omega), seen, if_pos (by omega)]
    · rw [scores_apply x0 x1 h (n := 1024 * k + 512) (by omega) (by omega), seen, if_pos (by omega)]

/-- After the masked blocks all keys up to the point's last query are held. -/
theorem after_holds {n : ℕ} (hn : n < 16) :
    Holds (seen x0 x1 h (1024 * n)) (val x2 h) (1024 * n + 1024) (after x0 x1 x2 h n) := by
  refine step_holds (n := 1024 * n + 512) (by omega) (step_holds (n := 1024 * n) rfl (before_holds x0 x1 x2 h hn n le_rfl) (fun j r => ?_)
    (vals_apply x2 h (by omega) (by omega))) (fun j r => ?_) (vals_apply x2 h (by omega) (by omega))
  · rw [keep0_apply, scores_apply x0 x1 h (n := 1024 * n) (by omega) (by omega), seen]
    exact if_congr (by omega) rfl rfl
  · rw [keep1_apply, scores_apply x0 x1 h (n := 1024 * n + 512) (by omega) (by omega), seen]
    exact if_congr (by omega) rfl rfl

/-- A head's quotient: its weighted values over its weights, which are the value row of ones. -/
theorem head_apply {n : ℕ} (hn : n < 16) (a : Fin 64) (r : Fin 1024) :
    ratio (after x0 x1 x2 h n).2 (ix2 a r)
      = Ideal.div (mass (seen x0 x1 h (1024 * n) r) (val x2 h (a.castLE (by decide))) (1024 * n + 1024))
        (mass (seen x0 x1 h (1024 * n) r) (val x2 h 64) (1024 * n + 1024)) := by
  rw [ratio_apply, (after_holds x0 x1 x2 h hn r).2, (after_holds x0 x1 x2 h hn r).2]

/-- The point's block at an index: lane `d` is value lane `d % 64` of head `d / 64` of the pair. -/
theorem point_apply {n : ℕ} (hn : n < 16) (r : Fin 1024) (h : Fin 2) (a : Fin 64) (d : Fin 128) (hd : d.val = 64 * h.val + a.val) :
    point x0 x1 x2 n (ix3 0 r d)
      = Ideal.div (mass (seen x0 x1 h (1024 * n) r) (val x2 h (a.castLE (by decide))) (1024 * n + 1024))
        (mass (seen x0 x1 h (1024 * n) r) (val x2 h 64) (1024 * n + 1024)) := by
  unfold point
  rw [join_apply, ← head_apply x0 x1 x2 h hn]
  have ha := a.isLt
  fin_cases h
  · rw [dif_pos (by simp at hd; omega)]
    congr 2
    exact Fin.ext (by simpa using hd)
  · rw [dif_neg (by simp at hd; omega)]
    congr 2
    exact Fin.ext (by simp at hd ⊢; omega)

end Point

end Cert.Kernel2Ideal.Attn

end
-- ==== Proof.Attn.Spec.lean ====
module

public import proofs.«01_k».proof.Proof.Attn.Online
public import Idealize.ShloMosaic.Lib.Pointwise

/-! What the attention computes, over the extended reals. -/

@[expose] public section

noncomputable section

namespace Cert.AttnSpec

open Idealize.ShloMosaic

/-- An array of extended reals. -/
abbrev Arr (n : ℕ) (d : Fin n → ℕ) : Type := (⟨n, d⟩ : Shape).Idx → EReal

variable (q k : Arr 4 ![2, 8, 16384, 128]) (v : Arr 4 ![2, 8, 64, 16384])

/-- The score of key `n` for query `s` of a head (zero past the last key). -/
def score (b : Fin 2) (h : Fin 8) (s : Fin 16384) (n : ℕ) : EReal :=
  if hn : n < 16384 then ∑ d : Fin 128, k (ix4 b h ⟨n, hn⟩ d) * q (ix4 b h s d) else 0

/-- The score where the key is not after the query, −∞ elsewhere. -/
def masked (b : Fin 2) (h : Fin 8) (s : Fin 16384) (n : ℕ) : EReal :=
  if n ≤ s.val then score q k b h s n else ⊥

/-- Lane `d` of the value of key `n` (zero past the last key). -/
def value (b : Fin 2) (h : Fin 8) (d : Fin 64) (n : ℕ) : EReal :=
  if hn : n < 16384 then v (ix4 b h d ⟨n, hn⟩) else 0

/-- The mean of the values under the weights `2 ^ (score − largest score)`. -/
def out (b : Fin 2) (h : Fin 8) (s : Fin 16384) (d : Fin 64) : EReal :=
  Ideal.div (mass (masked q k b h s) (value v b h d) 16384) (mass (masked q k b h s) (fun _ => 1) 16384)

/-- The weighted sum of all keys, as a sum over their indices. -/
theorem mass_univ (s w : ℕ → EReal) :
    mass s w 16384 = ∑ n : Fin 16384, w n.val * Ideal.exp2 (s n.val - top s 16384) := Finset.sum_range _

/-- The attention as the quotient of two sums over all keys. -/
theorem out_sums (b : Fin 2) (h : Fin 8) (s : Fin 16384) (d : Fin 64) :
    out q k v b h s d = Ideal.div
      (∑ n : Fin 16384, Ideal.exp2 (masked q k b h s n.val - top (masked q k b h s) 16384) * v (ix4 b h d n))
      (∑ n : Fin 16384, Ideal.exp2 (masked q k b h s n.val - top (masked q k b h s) 16384)) := by
  unfold out
  refine congrArg₂ Ideal.div ((mass_univ _ _).trans (Finset.sum_congr rfl fun n _ => ?_))
    ((mass_univ _ _).trans (Finset.sum_congr rfl fun n _ => one_mul _))
  rw [mul_comm]
  unfold value
  rw [dif_pos n.isLt]

end Cert.AttnSpec

end
-- ==== Proof.Attn.Grid.lean ====
module

public import proofs.«01_k».proof.Proof.Attn.Frame
public import proofs.«01_k».proof.Proof.Attn.Point
public import proofs.«01_k».proof.Proof.Attn.Spec
public import Idealize.ShloMosaic.Lib.ValueLayout

/-! The attention's kernel over its grid: each point's block of the result is the attention of the arguments. -/

@[expose] public section

set_option maxRecDepth 16384

noncomputable section

namespace Cert.Kernel2Ideal.Attn

open Cert.Kernel2Ideal Cert.Kernel2Ideal.Gen Idealize.ShloMosaic Idealize.ShloMosaic.TcCoe Idealize.SL.Sem
open Cert.AttnSpec (top mass top_masked mass_masked)

variable (m : (ℓ : Loc nD τ sig) → Buf (Elt Ideal) ℓ) (ρ : Dev nD → PrngReg) (c : Dev nD)

/-- The queries of a point: one batch, one pair of heads, 1024 queries. -/
theorem idx0 : ∀ t : Fin cfg0.N, win0_0.index t (0 : Fin 4) = t.val / 64 ∧ win0_0.index t (1 : Fin 4) = t.val / 16 % 4
    ∧ win0_0.index t (2 : Fin 4) = t.val % 16 ∧ win0_0.index t (3 : Fin 4) = 0 := (by decide +kernel : ∀ t : Fin grid0.N, _)

/-- The keys of a point: all of the pair's. -/
theorem idx1 : ∀ t : Fin cfg0.N, win0_1.index t (0 : Fin 4) = t.val / 64 ∧ win0_1.index t (1 : Fin 4) = t.val / 16 % 4
    ∧ win0_1.index t (2 : Fin 4) = 0 ∧ win0_1.index t (3 : Fin 4) = 0 := (by decide +kernel : ∀ t : Fin grid0.N, _)

/-- The value rows of a point: all of the pair's. -/
theorem idx2 : ∀ t : Fin cfg0.N, win0_2.index t (0 : Fin 3) = t.val / 64 ∧ win0_2.index t (1 : Fin 3) = t.val / 16 % 4
    ∧ win0_2.index t (2 : Fin 3) = 0 := (by decide +kernel : ∀ t : Fin grid0.N, _)

/-- The result's block of a point: its queries, and the pair's 128 lanes. -/
theorem idx3 : ∀ t : Fin cfg0.N, win0_3.index t (0 : Fin 3) = t.val / 64 ∧ win0_3.index t (1 : Fin 3) = t.val % 16
    ∧ win0_3.index t (2 : Fin 3) = t.val / 16 % 4 := (by decide +kernel : ∀ t : Fin grid0.N, _)

/-- A point's query block. -/
theorem coord2 : ∀ t : Fin cfg0.N, (grid0.coords t 2).val = t.val % 16 := (by decide +kernel : ∀ t : Fin grid0.N, _)

/-- The batch of a point. -/
abbrev bOf (t : Fin cfg0.N) (ht : t.val < 128) : Fin 2 := ⟨t.val / 64, by omega⟩
/-- Head `h` of the pair of a point. -/
abbrev hOf (t : Fin cfg0.N) (h : Fin 2) : Fin 8 := ⟨2 * (t.val / 16 % 4) + h.val, by omega⟩
/-- Query `r` of the block of a point. -/
abbrev sOf (t : Fin cfg0.N) (r : Fin 1024) : Fin 16384 := ⟨1024 * (t.val % 16) + r.val, by omega⟩

/-- The queries. -/
abbrev aQ : AttnSpec.Arr 4 ![2, 8, 16384, 128] := m ((c : Thread nD τ).loc main_arg0)
/-- The keys. -/
abbrev aK : AttnSpec.Arr 4 ![2, 8, 16384, 128] := m ((c : Thread nD τ).loc main_arg1)
/-- The values. -/
abbrev aV : AttnSpec.Arr 4 ![2, 8, 64, 16384] := m ((c : Thread nD τ).loc main_arg2)

/-- The queries' block. -/
theorem iblk0 (t : Fin cfg0.N) (ht : t.val < 128) (h : Fin 2) (r : Fin 1024) (d : Fin 128) :
    (iblk m c 0 t : Vec Ideal S1x2x1024x128 .bf16) (ix4 0 h r d) = aQ m c (ix4 (bOf t ht) (hOf t h) (sOf t r) d) := by
  blk_ext [iblk, V, idx0 t]

/-- The keys' block. -/
theorem iblk1 (t : Fin cfg0.N) (ht : t.val < 128) (h : Fin 2) (n : Fin 16384) (d : Fin 128) :
    (iblk m c 1 t : Vec Ideal S1x2x16384x128 .bf16) (ix4 0 h n d) = aK m c (ix4 (bOf t ht) (hOf t h) n d) := by
  blk_ext [iblk, V, idx1 t]

/-- Where a point's value rows lie among all 640. -/
theorem emb2 (t : Fin cfg0.N) (ht : t.val < 128) (h : Fin 2) (a : Fin 80) (n : Fin 16384) :
    (win0_2.blk t).view.emb (ix3 0 ⟨80 * h.val + a.val, by omega⟩ n)
      = ix3 (bOf t ht) ⟨80 * (hOf t h).val + a.val, by omega⟩ n := by
  blk_ext [idx2 t]

/-- Merging two axes: row `j C + k` is entry `(j, k)`. -/
theorem merge_apply {α : Type} {A B C D E : ℕ} (x : (⟨4, ![A, B, C, D]⟩ : Shape).Idx → α)
    (hc : (⟨4, ![A, B, C, D]⟩ : Shape).ShapeCasts ⟨3, ![A, E, D]⟩) (hE : E = B * C)
    (i : Fin A) (j : Fin B) (k : Fin C) (l : Fin D) (r : Fin E) (hr : r.val = C * j.val + k.val) :
    shapeCast ⟨3, ![A, E, D]⟩ x hc (ix3 i r l) = x (ix4 i j k l) :=
  shapeCast_apply x hc _ _ (by
    rw [Shape.rowMajor_val_four, Shape.rowMajor_val_three]
    show ((i.val * B + j.val) * C + k.val) * D + l.val = (i.val * E + r.val) * D + l.val
    subst hE
    rw [hr]
    ring)

/-- The value rows: each head's 64 lanes, then 16 rows of ones. -/
def rowsOf (v : FVec Ideal S2x8x64x16384 .bf16) : FVec Ideal S2x8x80x16384 .bf16 :=
  concatenate S2x8x80x16384 2 [⟨S2x8x64x16384, v⟩,
    ⟨S2x8x16x16384, broadcastInDim S2x8x16x16384 ![] bcast_S_S2x8x16x16384 (constant S_ .bf16 16256#16)⟩]
    concatenates_S2x8x64x16384_S2x8x16x16384_S2x8x80x16384_d2

/-- Their entries. -/
theorem rowsOf_apply (v : FVec Ideal S2x8x64x16384 .bf16) (b : Fin 2) (h : Fin 8) (a : Fin 80) (n : Fin 16384) :
    rowsOf v (ix4 b h a n) = if ha : a.val < 64 then v (ix4 b h ⟨a.val, ha⟩ n) else 1 := by
  unfold rowsOf
  pointwise

/-- What the kernel's region finds in the value rows' array. -/
theorem rows_entry : V m c main_v2 = shapeCast S2x640x16384 (rowsOf (m ((c : Thread nD τ).loc main_arg2))) shapeCasts_S2x8x80x16384_S2x640x16384 := by
  simp only [V, hostOps0, List.flatten_cons, List.flatten_nil, List.append_nil, List.cons_append, List.nil_append]
  entry_read
  rfl

/-- The array of value rows, entered, at an index. -/
theorem rows_at (b : Fin 2) (h : Fin 8) (a : Fin 80) (n : Fin 16384) (r : Fin 640) (hr : r.val = 80 * h.val + a.val) :
    (V m c main_v2 : FVec Ideal S2x640x16384 .bf16) (ix3 b r n) = if ha : a.val < 64 then aV m c (ix4 b h ⟨a.val, ha⟩ n) else 1 := by
  rw [rows_entry]
  exact (merge_apply _ _ (by norm_num) b h a n r hr).trans (rowsOf_apply _ _ _ _ _)

/-- A block of the value rows' array, read at an index. -/
theorem block2 (X : FVec Ideal S2x640x16384 .bf16) (t : Fin cfg0.N) (p : S1x160x16384.Idx) :
    (((cfg0.win 2).blk t).view.read (Elt Ideal) X : FVec Ideal S1x160x16384 .bf16) p = X ((win0_2.blk t).view.emb p) := rfl

/-- The value rows' block: a head's 64 lanes, then ones. -/
theorem iblk2 (t : Fin cfg0.N) (ht : t.val < 128) (h : Fin 2) (a : Fin 80) (n : Fin 16384) :
    (iblk m c 2 t : Vec Ideal S1x160x16384 .bf16) (ix3 0 ⟨80 * h.val + a.val, by omega⟩ n)
      = if ha : a.val < 64 then aV m c (ix4 (bOf t ht) (hOf t h) ⟨a.val, ha⟩ n) else 1 := by
  unfold iblk
  refine (block2 _ t _).trans ?_
  rw [emb2 t ht]
  exact rows_at m c (bOf t ht) (hOf t h) a n _ rfl

/-- A point's masked scores are the attention's. -/
theorem seen_at (t : Fin cfg0.N) (ht : t.val < 128) (h : Fin 2) (r : Fin 1024) :
    seen (iblk m c 0 t) (iblk m c 1 t) h (1024 * (t.val % 16)) r
      = AttnSpec.masked (aQ m c) (aK m c) (bOf t ht) (hOf t h) (sOf t r) := by
  funext n
  unfold seen AttnSpec.masked
  refine if_congr Iff.rfl ?_ rfl
  unfold sc AttnSpec.score
  split
  · exact Finset.sum_congr rfl fun d _ => by rw [iblk0 m c t ht, iblk1 m c t ht]
  · rfl

/-- A point's values are the attention's. -/
theorem val_at (t : Fin cfg0.N) (ht : t.val < 128) (h : Fin 2) (a : Fin 64) :
    val (iblk m c 2 t) h (a.castLE (by decide)) = AttnSpec.value (aV m c) (bOf t ht) (hOf t h) a := by
  funext n
  unfold val AttnSpec.value
  split
  · exact (iblk2 m c t ht h _ _).trans (dif_pos a.isLt)
  · rfl

/-- Row 64 is ones. -/
theorem one_at (t : Fin cfg0.N) (ht : t.val < 128) (h : Fin 2) {n : ℕ} (hn : n < 16384) : val (iblk m c 2 t) h 64 n = 1 := by
  unfold val
  rw [dif_pos hn]
  exact (iblk2 m c t ht h 64 ⟨n, hn⟩).trans (dif_neg (by decide))

/-- A weighted sum depends only on the weights it takes. -/
theorem mass_congr (s : ℕ → EReal) {w w' : ℕ → EReal} {n : ℕ} (h : ∀ j < n, w j = w' j) : mass s w n = mass s w' n :=
  Finset.sum_congr rfl fun j hj => by rw [h j (Finset.mem_range.1 hj)]

/-- What a point writes is the attention of its queries: lane `d` is value lane `d % 64` of head `d / 64` of the pair. -/
theorem wrote_at (t : Fin cfg0.N) (ht : t.val < 128) (r : Fin 1024) (h : Fin 2) (a : Fin 64) (d : Fin 128) (hd : d.val = 64 * h.val + a.val) :
    wrote m c t (ix3 0 r d) = AttnSpec.out (aQ m c) (aK m c) (aV m c) (bOf t ht) (hOf t h) (sOf t r) a := by
  have hm : ∀ j, 1024 * (t.val % 16) + 1024 ≤ j → AttnSpec.masked (aQ m c) (aK m c) (bOf t ht) (hOf t h) (sOf t r) j = ⊥ := by
    intro j hj
    unfold AttnSpec.masked
    exact if_neg (by simp only [sOf]; omega)
  unfold wrote AttnSpec.out
  rw [coord2 t, point_apply _ _ _ (Nat.mod_lt _ (by norm_num)) r h a d hd, seen_at m c t ht, val_at m c t ht,
    mass_congr _ (w := val (iblk m c 2 t) h 64) (w' := fun _ => 1) (fun j hj => one_at m c t ht h (by omega)),
    mass_masked _ _ (N := 16384) (by omega) hm, mass_masked _ (fun _ => 1) (N := 16384) (by omega) hm]

/-- Distinct points write distinct blocks. -/
theorem block_inj : ∀ t t' : Fin cfg0.N, win0_3.index t = win0_3.index t' → t = t' :=
  (by decide +kernel : ∀ t t' : Fin grid0.N, win0_3.index t = win0_3.index t' → t = t')

/-- Every point writes its block back. -/
theorem block_flush : ∀ t : Fin cfg0.N, (cfg0.win 3).flush t = true := (by decide +kernel : ∀ t : Fin grid0.N, _)

/-- The result's array after the run. -/
def result : FVec Ideal S2x16384x512 .bf16 := (data m 0 c).arrAt 3 cfg0.N

/-- Its block of a point is what the point wrote. -/
theorem result_block (t : Fin cfg0.N) :
    ((cfg0.win 3).blk t).view.read (Elt Ideal) (result m c) = (cfg0.win 3).cut (grid0.coords t) (wrote m c t) := by
  refine ((data m 0 c).read_blk_arrAt_eq_flushed 3 (fun t t' _ _ hne => (cfg0.win 3).disjoint_blk fun h => hne (block_inj t t' h))
    cfg0.N t t.isLt (block_flush t)).trans ?_
  show (cfg0.win 3).cut (grid0.coords t) ((data m 0 c).after 3 t) = _
  rw [data_after3]

/-- A block of the result's array, read at an index. -/
theorem block3 (X : FVec Ideal S2x16384x512 .bf16) (t : Fin cfg0.N) (p : S1x1024x128.Idx) :
    (((cfg0.win 3).blk t).view.read (Elt Ideal) X : FVec Ideal S1x1024x128 .bf16) p = X ((win0_3.blk t).view.emb p) := rfl

/-- Where a point's block lies in the result. -/
theorem emb3 (t : Fin cfg0.N) (ht : t.val < 128) (r : Fin 1024) (d : Fin 128) :
    (win0_3.blk t).view.emb (ix3 0 r d) = ix3 (bOf t ht) (sOf t r) ⟨128 * (t.val / 16 % 4) + d.val, by omega⟩ := by
  blk_ext [idx3 t]

/-- The kernel's result is the attention of its arguments. -/
theorem kernel_out (b : Fin 2) (s : Fin 16384) (j : Fin 512) :
    result m c (ix3 b s j) = AttnSpec.out (aQ m c) (aK m c) (aV m c) b ⟨j.val / 64, by omega⟩ s ⟨j.val % 64, by omega⟩ := by
  have hN : cfg0.N = 128 := N_0
  have hb := b.isLt
  have hs := s.isLt
  have hj := j.isLt
  have hlt : 64 * b.val + 16 * (j.val / 128) + s.val / 1024 < 128 := by omega
  let t : Fin cfg0.N := ⟨64 * b.val + 16 * (j.val / 128) + s.val / 1024, by omega⟩
  have tv : t.val = 64 * b.val + 16 * (j.val / 128) + s.val / 1024 := rfl
  have ht : t.val < 128 := hlt
  have e : ix3 b s j = (win0_3.blk t).view.emb (ix3 0 ⟨s.val % 1024, by omega⟩ ⟨j.val % 128, by omega⟩) := by
    rw [emb3 t ht]
    congr 1
    · ext; simp only [bOf, tv]; omega
    · ext; simp only [sOf, tv]; omega
    · ext; simp only [tv]; omega
  rw [e]
  refine (block3 (result m c) t _).symm.trans ((congrFun (result_block m c t) _).trans ?_)
  refine (wrote_at m c t ht ⟨s.val % 1024, by omega⟩ ⟨j.val / 64 % 2, by omega⟩ ⟨j.val % 64, by omega⟩ ⟨j.val % 128, by omega⟩
    (by show j.val % 128 = 64 * (j.val / 64 % 2) + j.val % 64; omega)).trans ?_
  congr 1
  · ext; simp only [bOf, tv]; omega
  · ext; simp only [hOf, tv]; omega
  · ext; simp only [sOf, tv]; omega

/-- The launch ends with that result and the arguments unchanged. -/
theorem ran : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 3,
      ((h.1 c).1 0).trans (((data m 0 c).arrAt_in 0 rfl _).trans ((data_arr m c 0).trans (V_main_arg0 m c))),
      ((h.1 c).1 1).trans (((data m 0 c).arrAt_in 1 rfl _).trans ((data_arr m c 1).trans (V_main_arg1 m c))),
      ((h.1 c).2 main_arg2 (Pipeline.mem_restRefs_of main_arg2 (by decide) (by decide))).trans (V_main_arg2 m c)⟩)
    (launched m ρ)

end Cert.Kernel2Ideal.Attn

end
-- ==== Proof.Attn.Reference.lean ====
module

public import proofs.«01_k».proof.Proof.Gen.Reference2Ideal.Run
public import proofs.«01_k».proof.Proof.Attn.Spec

public import Idealize.ShloMosaic.Lib.WordCmp

/-! The reference's result at an index. -/

@[expose] public section
set_option maxRecDepth 16384
noncomputable section

namespace Cert.AttnSpec

open Idealize.ShloMosaic Idealize.ShloMosaic.TcCoe Idealize.SL.Sem Cert.Reference2Ideal

/-- The word of two is two. -/
theorem ofBits_two : Ideal.ofBits .f32 1073741824#32 = ((2 : ℝ) : EReal) := by
  simp [Ideal.ofBits, Ideal.ieee]
  norm_num
  rw [← EReal.coe_mul]
  norm_num

/-- The word of −∞ is −∞. -/
theorem ofBits_bot : Ideal.ofBits .f32 4286578688#32 = ⊥ := by simp [Ideal.ofBits, Ideal.ieee]

/-- Two to a power, by the general power and by the power of two. -/
theorem pow_two (y : EReal) : Ideal.pow ((2 : ℝ) : EReal) y = Ideal.exp2 y := by
  induction y with
  | bot =>
    show (if (2 : ℝ) < 0 then ⊥ else if (1 : ℝ) < 2 then 0 else if (2 : ℝ) = 1 then 1 else ⊤ : EReal) = 0
    norm_num
  | top =>
    show (if (2 : ℝ) < 0 then ⊥ else if (1 : ℝ) < 2 then ⊤ else if (2 : ℝ) = 1 then 1 else 0 : EReal) = ⊤
    norm_num
  | coe r => rfl

section
variable (q k : Arr 4 ![2, 8, 16384, 128]) (v : Arr 4 ![2, 8, 64, 16384])

/-- A masked score as the reference writes it. -/
theorem select_masked (b : Fin 2) (h : Fin 8) (s n : Fin 16384) :
    (Scalar.select (IntOp.cmpi CmpIPredicate.sle (BitVec.ofNat 32 n.val) (BitVec.ofNat 32 s.val))
      (∑ d : Fin 128, q (ix4 b h s d) * k (ix4 b h n d)) ⊥ : EReal) = masked q k b h s n.val := by
  rw [WordCmp.cmpi_sle_ofNat (by omega) (by omega), WordCmp.select_decide]
  unfold masked score
  rw [dif_pos n.isLt]
  exact if_congr Iff.rfl (Finset.sum_congr rfl fun d _ => mul_comm _ _) rfl

/-- The largest masked score, as a fold over all keys. -/
theorem fold_masked (f : ℕ → EReal) : Finset.fold max ⊥ (fun n : Fin 16384 => f n.val) Finset.univ = top f 16384 := by
  have := top_add f 0 16384
  rw [top_zero, max_eq_right bot_le] at this
  simp only [Nat.zero_add] at this
  exact this

end

set_option maxHeartbeats 1000000 in
/-- The reference's result, read at an index, is the attention of its arguments. -/
theorem reference_out (m : (ℓ : Loc nD τ sig) → Buf (Elt Ideal) ℓ) (c : Dev nD) (b : Fin 2) (s : Fin 16384) (j : Fin 512) :
    Cert.Reference2Ideal.Value.res_main_v25 m c (ix3 b s j)
      = out (m ((c.tc : Thread nD τ).loc main_arg0)) (m ((c.tc : Thread nD τ).loc main_arg1)) (m ((c.tc : Thread nD τ).loc main_arg2))
        b ⟨j.val / 64, by omega⟩ s ⟨j.val % 64, by omega⟩ := by
  unfold Cert.Reference2Ideal.Value.res_main_v25
  pointwise
  simp only [show ∀ i, id (constant (F := Ideal) S_ FTy.f32 4286578688#32) i = Ideal.ofBits .f32 4286578688#32 from
    fun _ => rfl, ofBits_bot, ofBits_two, pow_two]
  simp only [select_masked, fold_masked]
  exact (out_sums _ _ _ _ _ _ _).symm

end Cert.AttnSpec

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Ffn.Grid
public import proofs.«01_k».proof.Proof.Ffn.Reference
public import proofs.«01_k».proof.Proof.Gen.Kernel2
public import proofs.«01_k».proof.Proof.Gen.Kernel2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Pool.Grid
public import proofs.«01_k».proof.Proof.Pool.Reference
public import proofs.«01_k».proof.Proof.Conf.Grid
public import proofs.«01_k».proof.Proof.Conf.Reference
public import proofs.«01_k».proof.Proof.Attn.Float
public import proofs.«01_k».proof.Proof.Attn.Grid
public import proofs.«01_k».proof.Proof.Attn.Reference
public import proofs.«01_k».proof.Proof.Gen.Reference2Ideal
public import proofs.«01_k».proof.Proof.Gen.Reference2Ideal.Run
public import Idealize.ShloMosaic.Adequacy
public import Idealize.ShloMosaic.Init
public import Idealize.ShloMosaic.Lib.Quiescent
public import Idealize.ShloMosaic.Lib.Tactic.ValueTie

/-! The claims: of the feed-forward, the attention, the conformer, and the pooling with the output projection. -/

@[expose] public section

noncomputable section

namespace Cert.Proof

open Idealize.ShloMosaic Idealize.SL.Sem

/-- The reference terminates, leaves its arguments and waits for nothing. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both programs' results are the feed-forward of the arguments. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨h0, h1, h2, h3, h4, h5⟩ := hagree c
  funext i
  obtain ⟨b, s, j, rfl⟩ : ∃ (b : Fin 2) (s : Fin 16384) (j : Fin 1024), i = ix3 b s j :=
    ⟨i 0, i 1, i 2, by funext a; fin_cases a <;> rfl⟩
  refine (Cert.FfnSpec.reference_out m' c b s j).trans ?_
  refine Eq.trans ?_ (Cert.KernelIdeal.Ffn.kernel_out m c b s j).symm
  rw [h0, h1, h2, h3, h4, h5]

/-- The attention's reference terminates, leaves its arguments and waits for nothing. -/
theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Over the extended reals the mask's constant is −∞. -/
theorem preserves_Kernel2_Kernel2Ideal : preserves_Kernel2_Kernel2Ideal :=
  IdealRules.named_const.statement _ _ _ _ _ rfl

/-- Both programs' results are the attention of the arguments. -/
theorem algebraic_Kernel2Ideal_Reference2Ideal : algebraic_Kernel2Ideal_Reference2Ideal := by
  intro m ρ m' ρ' _ hagree
  refine ⟨_, Cert.Kernel2Ideal.Attn.ran m ρ, ?_⟩
  refine (θ_run Cert.Reference2Ideal.defs _ _).mono (fun _ h c => ⟨?_, (h c).2⟩) (Cert.Reference2Ideal.Value.run (F := Ideal) m' ρ')
  rw [(h c).1]
  obtain ⟨h0, h1, h2⟩ := hagree c
  funext i
  obtain ⟨b, s, j, rfl⟩ : ∃ (b : Fin 2) (s : Fin 16384) (j : Fin 512), i = ix3 b s j :=
    ⟨i 0, i 1, i 2, by funext a; fin_cases a <;> rfl⟩
  refine (Cert.AttnSpec.reference_out m' c b s j).trans ?_
  refine Eq.trans ?_ (Cert.Kernel2Ideal.Attn.kernel_out m c b s j).symm
  rw [h0, h1, h2]

/-- The conformer's reference terminates, leaves its arguments and waits for nothing. -/
theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Both programs' results are the conformer's convolution module of the arguments. -/
theorem algebraic_Kernel3Ideal_Reference3Ideal : algebraic_Kernel3Ideal_Reference3Ideal := by
  intro m ρ m' ρ' _ hagree
  refine ⟨_, Cert.Kernel3Ideal.Value.run (F := Ideal) m ρ, ?_⟩
  refine (θ_run Cert.Reference3Ideal.defs _ _).mono (fun _ h c => ⟨?_, (h c).2⟩) (Cert.Reference3Ideal.Value.run (F := Ideal) m' ρ')
  rw [(h c).1]
  obtain ⟨h0, h1, h2, h3, h4, h5, h6, h7⟩ := hagree c
  funext i
  obtain ⟨b, s, j, rfl⟩ : ∃ (b : Fin 2) (s : Fin 16384) (j : Fin 1024), i = ix3 b s j :=
    ⟨i 0, i 1, i 2, by funext a; fin_cases a <;> rfl⟩
  refine (Cert.ConfSpec.reference_out (StableHlo.launchContents m' c) b s j).trans ?_
  refine Eq.trans ?_ (Cert.Kernel3Ideal.Conf.kernel_out m c b s j).symm
  show Cert.ConfSpec.out (m' ((c.tc : Thread _ _).loc Cert.Reference3Ideal.main_arg0)) (m' ((c.tc : Thread _ _).loc Cert.Reference3Ideal.main_arg1))
    (m' ((c.tc : Thread _ _).loc Cert.Reference3Ideal.main_arg2)) (m' ((c.tc : Thread _ _).loc Cert.Reference3Ideal.main_arg3))
    (m' ((c.tc : Thread _ _).loc Cert.Reference3Ideal.main_arg4)) (m' ((c.tc : Thread _ _).loc Cert.Reference3Ideal.main_arg5))
    (m' ((c.tc : Thread _ _).loc Cert.Reference3Ideal.main_arg6)) (m' ((c.tc : Thread _ _).loc Cert.Reference3Ideal.main_arg7)) b s j = _
  rw [h0, h1, h2, h3, h4, h5, h6, h7]

/-- The pooling's reference terminates, leaves its arguments and waits for nothing. -/
theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Both programs' results are the pooling and the output projection of the arguments. -/
theorem algebraic_Kernel4Ideal_Reference4Ideal : algebraic_Kernel4Ideal_Reference4Ideal := by
  intro m ρ m' ρ' _ hagree
  refine ⟨_, Cert.Kernel4Ideal.Value.run (F := Ideal) m ρ, ?_⟩
  refine (θ_run Cert.Reference4Ideal.defs _ _).mono (fun _ h c => ⟨?_, (h c).2⟩) (Cert.Reference4Ideal.Value.run (F := Ideal) m' ρ')
  rw [(h c).1]
  obtain ⟨h0, h1, h2, h3, h4, h5⟩ := hagree c
  funext i
  obtain ⟨b, s, j, rfl⟩ : ∃ (b : Fin 2) (s : Fin 16384) (j : Fin 1024), i = ix3 b s j :=
    ⟨i 0, i 1, i 2, by funext a; fin_cases a <;> rfl⟩
  refine (Cert.PoolSpec.reference_out (StableHlo.launchContents m' c) b s j).trans ?_
  refine Eq.trans ?_ (Cert.Kernel4Ideal.Pool.kernel_out m c b s j).symm
  show Cert.PoolSpec.out (m' ((c.tc : Thread _ _).loc Cert.Reference4Ideal.main_arg0)) (m' ((c.tc : Thread _ _).loc Cert.Reference4Ideal.main_arg1))
    (m' ((c.tc : Thread _ _).loc Cert.Reference4Ideal.main_arg2)) (m' ((c.tc : Thread _ _).loc Cert.Reference4Ideal.main_arg3))
    (m' ((c.tc : Thread _ _).loc Cert.Reference4Ideal.main_arg4)) (m' ((c.tc : Thread _ _).loc Cert.Reference4Ideal.main_arg5)) b s j = _
  rw [h0, h1, h2, h3, h4, h5]

/-- All the claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  fun m ρ _ => Cert.Kernel.Gen.frame m ρ, fun m ρ _ => Cert.KernelIdeal.Gen.frame m ρ, quiescent_ReferenceIdeal,
  Cert.Kernel2Ideal.Attn.float_frame, Cert.Kernel2Ideal.Attn.ideal_frame, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  (trivial : preserves_Kernel_KernelIdeal), algebraic_KernelIdeal_ReferenceIdeal,
  preserves_Kernel2_Kernel2Ideal, algebraic_Kernel2Ideal_Reference2Ideal,
  (trivial : preserves_Kernel3_Kernel3Ideal), algebraic_Kernel3Ideal_Reference3Ideal,
  (trivial : preserves_Kernel4_Kernel4Ideal), algebraic_Kernel4Ideal_Reference4Ideal⟩

end Cert.Proof

end
